-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_finite [hPre_attn_finite : Cert.Pre_attn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_finite [hPre_attn_finite : Cert.Pre_attn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_pool_finite [hPre_pool_finite : Cert.Pre_pool_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pool_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pool_finite [hPre_pool_finite : Cert.Pre_pool_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pool_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_attn_finite [hKernelIdeal : Cert.KernelIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_attn_finite [hReferenceIdeal : Cert.ReferenceIdeal.Facts] [hPre_attn_finite : Cert.Pre_attn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_pool_finite [hKernel2Ideal : Cert.Kernel2Ideal.Facts] [hPre_pool_finite : Cert.Pre_pool_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_pool_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_pool_finite [hReference2Ideal : Cert.Reference2Ideal.Facts] [hPre_pool_finite : Cert.Pre_pool_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pool_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_attn_finite [hKernelIdeal : Cert.KernelIdeal.Facts] [hReferenceIdeal : Cert.ReferenceIdeal.Facts] [hPre_attn_finite : Cert.Pre_attn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_pool_finite [hKernel2Ideal : Cert.Kernel2Ideal.Facts] [hReference2Ideal : Cert.Reference2Ideal.Facts] [hPre_pool_finite : Cert.Pre_pool_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_pool_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v174) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_attn_finite : Cert.Pre_attn_finite.Facts) (hPre_pool_finite : Cert.Pre_pool_finite.Facts),
    quiescent_Kernel (hKernel := hKernel)
    ∧ quiescent_KernelIdeal (hKernelIdeal := hKernelIdeal)
    ∧ quiescent_KernelIdeal_pre_attn_finite (hKernelIdeal := hKernelIdeal) (hPre_attn_finite := hPre_attn_finite)
    ∧ quiescent_ReferenceIdeal (hReferenceIdeal := hReferenceIdeal)
    ∧ quiescent_ReferenceIdeal_pre_attn_finite (hReferenceIdeal := hReferenceIdeal) (hPre_attn_finite := hPre_attn_finite)
    ∧ quiescent_Kernel2 (hKernel2 := hKernel2)
    ∧ quiescent_Kernel2Ideal (hKernel2Ideal := hKernel2Ideal)
    ∧ quiescent_Kernel2Ideal_pre_pool_finite (hKernel2Ideal := hKernel2Ideal) (hPre_pool_finite := hPre_pool_finite)
    ∧ quiescent_Reference2Ideal (hReference2Ideal := hReference2Ideal)
    ∧ quiescent_Reference2Ideal_pre_pool_finite (hReference2Ideal := hReference2Ideal) (hPre_pool_finite := hPre_pool_finite)
    ∧ preserves_Kernel_KernelIdeal
    ∧ algebraic_KernelIdeal_ReferenceIdeal_pre_attn_finite (hKernelIdeal := hKernelIdeal) (hReferenceIdeal := hReferenceIdeal) (hPre_attn_finite := hPre_attn_finite)
    ∧ preserves_Kernel2_Kernel2Ideal
    ∧ algebraic_Kernel2Ideal_Reference2Ideal_pre_pool_finite (hKernel2Ideal := hKernel2Ideal) (hReference2Ideal := hReference2Ideal) (hPre_pool_finite := hPre_pool_finite)
-- ==== Pre_attn_finite.lean ====
abbrev S8x8x4096x64 : Shape := ⟨4, ![8, 8, 4096, 64]⟩
abbrev S8x8x4096 : Shape := ⟨3, ![8, 8, 4096]⟩
abbrev S_ : Shape := ⟨0, ![]⟩

class Facts : Prop where
  bcast_S_S8x8x4096x64 : S_.BroadcastsInDim S8x8x4096x64 (![] : Fin 0 → Fin S8x8x4096x64.rank)
  reducesTo_S8x8x4096x64_S_d0_1_2_3 : S8x8x4096x64.ReducesTo [0, 1, 2, 3] S_
  h_S_ : 0 < S_.numel
  bcast_S_S8x8x4096 : S_.BroadcastsInDim S8x8x4096 (![] : Fin 0 → Fin S8x8x4096.rank)
  reducesTo_S8x8x4096_S_d0_1_2 : S8x8x4096.ReducesTo [0, 1, 2] S_

variable [Facts]

def fn {F : FTy → Type} [FloatOps F] (main_arg0 : FVec F S8x8x4096x64 .f32) (main_arg1 : FVec F S8x8x4096x64 .f32) (main_arg2 : FVec F S8x8x4096x64 .f32) (main_arg3 : FVec F S8x8x4096 .f32) : IVec S_ 1 :=
  let main_v0 : FVec F S8x8x4096x64 .f32 := Host.absf main_arg0
  let main_cst : FVec F S_ .f32 := constant S_ .f32 0x7F800000#32
  let main_v1 : FVec F S8x8x4096x64 .f32 := broadcastInDim S8x8x4096x64 ![] bcast_S_S8x8x4096x64 main_cst
  let main_v2 : IVec S8x8x4096x64 1 := cmpf .olt main_v0 main_v1
  let main_c : IVec S_ 1 := constantI S_ 1 1#1
  let main_v3 : IVec S_ 1 := (fun x v => Host.reduce IntOp.andi x v reducesTo_S8x8x4096x64_S_d0_1_2_3 h_S_) main_v2 main_c
  let main_v4 : FVec F S8x8x4096x64 .f32 := Host.absf main_arg1
  let main_cst_0 : FVec F S_ .f32 := constant S_ .f32 0x7F800000#32
  let main_v5 : FVec F S8x8x4096x64 .f32 := broadcastInDim S8x8x4096x64 ![] bcast_S_S8x8x4096x64 main_cst_0
  let main_v6 : IVec S8x8x4096x64 1 := cmpf .olt main_v4 main_v5
  let main_c_1 : IVec S_ 1 := constantI S_ 1 1#1
  let main_v7 : IVec S_ 1 := (fun x v => Host.reduce IntOp.andi x v reducesTo_S8x8x4096x64_S_d0_1_2_3 h_S_) main_v6 main_c_1
  let main_v8 : IVec S_ 1 := andi main_v3 main_v7
  let main_v9 : FVec F S8x8x4096 .f32 := Host.absf main_arg3
  let main_cst_2 : FVec F S_ .f32 := constant S_ .f32 0x7F800000#32
  let main_v10 : FVec F S8x8x4096 .f32 := broadcastInDim S8x8x4096 ![] bcast_S_S8x8x4096 main_cst_2
  let main_v11 : IVec S8x8x4096 1 := cmpf .olt main_v9 main_v10
  let main_c_3 : IVec S_ 1 := constantI S_ 1 1#1
  let main_v12 : IVec S_ 1 := (fun x v => Host.reduce IntOp.andi x v reducesTo_S8x8x4096_S_d0_1_2 h_S_) main_v11 main_c_3
  let main_v13 : IVec S_ 1 := andi main_v8 main_v12
  main_v13
-- ==== Pre_pool_finite.lean ====
abbrev S32768x1024 : Shape := ⟨2, ![32768, 1024]⟩
abbrev S32768x512 : Shape := ⟨2, ![32768, 512]⟩
abbrev S32768x768 : Shape := ⟨2, ![32768, 768]⟩
abbrev S4x1024 : Shape := ⟨2, ![4, 1024]⟩
abbrev S4x1024x5640 : Shape := ⟨3, ![4, 1024, 5640]⟩
abbrev S4x512x1024 : Shape := ⟨3, ![4, 512, 1024]⟩
abbrev S4x3x256 : Shape := ⟨3, ![4, 3, 256]⟩
abbrev S4x256x1024 : Shape := ⟨3, ![4, 256, 1024]⟩
abbrev S4x4x64x256 : Shape := ⟨4, ![4, 4, 64, 256]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S32768x256 : Shape := ⟨2, ![32768, 256]⟩
abbrev S_ : Shape := ⟨0, ![]⟩

class Facts : Prop where
  bitsLt_bf16_f32 : FTy.bits .bf16 < FTy.bits .f32
  slices_S32768x768_S32768x256_0_512 : S32768x768.Slices ![0, 512] S32768x256
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x1024 .f32) (main_arg1 : FVec F S32768x512 .bf16) (main_arg2 : FVec F S32768x768 .bf16) (main_arg3 : FVec F S4x1024 .f32) (main_arg4 : FVec F S4x1024x5640 .f32) (main_arg5 : FVec F S4x512x1024 .f32) (main_arg6 : FVec F S4x3x256 .f32) (main_arg7 : FVec F S4x256x1024 .f32) (main_arg8 : FVec F S4x4x64x256 .f32) (main_arg9 : FVec F S4x1024 .f32) (main_arg10 : FVec F S4x1024x1024 .f32) (main_arg11 : FVec F S4x1024 .f32) (main_arg12 : FVec F S4x1024x5632 .f32) (main_arg13 : FVec F S4x2816x1024 .f32) : IVec S_ 1 :=
  let main_v0 : FVec F S32768x768 .f32 := (extf .f32 · bitsLt_bf16_f32) main_arg2
  let main_v1 : FVec F S32768x256 .f32 := (extractStridedSlice S32768x256 ![0, 512] · slices_S32768x768_S32768x256_0_512) main_v0
  let main_v2 : FVec F S32768x256 .f32 := Host.absf main_v1
  let main_cst : FVec F S_ .f32 := constant S_ .f32 0x7F800000#32
  let main_v3 : FVec F S32768x256 .f32 := broadcastInDim S32768x256 ![] bcast_S_S32768x256 main_cst
  let main_v4 : IVec S32768x256 1 := cmpf .olt main_v2 main_v3
  let main_c : IVec S_ 1 := constantI S_ 1 1#1
  let main_v5 : IVec S_ 1 := (fun x v => Host.reduce IntOp.andi x v reducesTo_S32768x256_S_d0_1 h_S_) main_v4 main_c
  main_v5
-- ==== Kernel.lean ====
abbrev S8x8x4096x64 : Shape := ⟨4, ![8, 8, 4096, 64]⟩
abbrev S8x8x4096 : Shape := ⟨3, ![8, 8, 4096]⟩
abbrev S_ : Shape := ⟨0, ![]⟩
abbrev S8x4096x8 : Shape := ⟨3, ![8, 4096, 8]⟩
abbrev S8x4096x8x64 : Shape := ⟨4, ![8, 4096, 8, 64]⟩
abbrev S8x4096x8x1 : Shape := ⟨4, ![8, 4096, 8, 1]⟩
abbrev S8x4096x8x3 : Shape := ⟨4, ![8, 4096, 8, 3]⟩
abbrev S8x4096x8x21 : Shape := ⟨4, ![8, 4096, 8, 21]⟩
abbrev S8x4096x8x37 : Shape := ⟨4, ![8, 4096, 8, 37]⟩
abbrev S8x4096x8x128 : Shape := ⟨4, ![8, 4096, 8, 128]⟩
abbrev S8x8x512x1024 : Shape := ⟨4, ![8, 8, 512, 1024]⟩
abbrev S8x8x1024x512 : Shape := ⟨4, ![8, 8, 1024, 512]⟩
abbrev S8x4096x1024 : Shape := ⟨3, ![8, 4096, 1024]⟩
abbrev S8x8x4096x1 : Shape := ⟨4, ![8, 8, 4096, 1]⟩
abbrev S8x8x4096x15 : Shape := ⟨4, ![8, 8, 4096, 15]⟩
abbrev S8x8x4096x80 : Shape := ⟨4, ![8, 8, 4096, 80]⟩
abbrev S8x8x80x4096 : Shape := ⟨4, ![8, 8, 80, 4096]⟩
abbrev S8x640x8x512 : Shape := ⟨4, ![8, 640, 8, 512]⟩
abbrev S8x8x640x512 : Shape := ⟨4, ![8, 8, 640, 512]⟩
abbrev S8x4096x512 : Shape := ⟨3, ![8, 4096, 512]⟩
abbrev S1x1x1024x512 : Shape := ⟨4, ![1, 1, 1024, 512]⟩
abbrev S1x4096x1024 : Shape := ⟨3, ![1, 4096, 1024]⟩
abbrev S1x8x640x512 : Shape := ⟨4, ![1, 8, 640, 512]⟩
abbrev S1x512x512 : Shape := ⟨3, ![1, 512, 512]⟩
abbrev S8x80x512 : Shape := ⟨3, ![8, 80, 512]⟩
abbrev S2x8x512x512 : Shape := ⟨4, ![2, 8, 512, 512]⟩
abbrev S1x512x128 : Shape := ⟨3, ![1, 512, 128]⟩
abbrev S512x128 : Shape := ⟨2, ![512, 128]⟩
abbrev S1x1x128x512 : Shape := ⟨4, ![1, 1, 128, 512]⟩
abbrev S128x512 : Shape := ⟨2, ![128, 512]⟩
abbrev S512x512 : Shape := ⟨2, ![512, 512]⟩
abbrev S1x1x512x512 : Shape := ⟨4, ![1, 1, 512, 512]⟩
abbrev S1x80x512 : Shape := ⟨3, ![1, 80, 512]⟩
abbrev S80x512 : Shape := ⟨2, ![80, 512]⟩
abbrev S1x1x80x512 : Shape := ⟨4, ![1, 1, 80, 512]⟩
abbrev S1x256x128 : Shape := ⟨3, ![1, 256, 128]⟩
abbrev S256x128 : Shape := ⟨2, ![256, 128]⟩
abbrev S256x512 : Shape := ⟨2, ![256, 512]⟩
abbrev S1x1x256x512 : Shape := ⟨4, ![1, 1, 256, 512]⟩
abbrev S1x1x128x256 : Shape := ⟨4, ![1, 1, 128, 256]⟩
abbrev S128x256 : Shape := ⟨2, ![128, 256]⟩
abbrev S256x256 : Shape := ⟨2, ![256, 256]⟩
abbrev S1x1x256x256 : Shape := ⟨4, ![1, 1, 256, 256]⟩
abbrev S80x256 : Shape := ⟨2, ![80, 256]⟩
abbrev S1x80x256 : Shape := ⟨3, ![1, 80, 256]⟩
abbrev S64x512 : Shape := ⟨2, ![64, 512]⟩
abbrev S1x512 : Shape := ⟨2, ![1, 512]⟩

abbrev nBuf : Space → Nat
  | .hbm => 82
  | .vmem => 10
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S8x8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8x4096, .f32⟩
  | .hbm, ⟨9, _⟩ => ⟨S8x4096x8, .f32⟩
  | .hbm, ⟨10, _⟩ => ⟨S8x4096x8, .f32⟩
  | .hbm, ⟨11, _⟩ => ⟨S8x4096x8, .f32⟩
  | .hbm, ⟨12, _⟩ => ⟨S_, .f32⟩
  | .hbm, ⟨13, _⟩ => ⟨S8x8x4096x64, .f32⟩
  | .hbm, ⟨14, _⟩ => ⟨S8x8x4096x64, .f32⟩
  | .hbm, ⟨15, _⟩ => ⟨S8x8x4096x64, .f32⟩
  | .hbm, ⟨16, _⟩ => ⟨S8x8x4096x64, .f32⟩
  | .hbm, ⟨17, _⟩ => ⟨S8x4096x8x64, .f32⟩
  | .hbm, ⟨18, _⟩ => ⟨S8x4096x8, .bf16⟩
  | .hbm, ⟨19, _⟩ => ⟨S8x4096x8, .f32⟩
  | .hbm, ⟨20, _⟩ => ⟨S8x4096x8, .f32⟩
  | .hbm, ⟨21, _⟩ => ⟨S8x4096x8, .bf16⟩
  | .hbm, ⟨22, _⟩ => ⟨S8x4096x8, .f32⟩
  | .hbm, ⟨23, _⟩ => ⟨S8x4096x8, .f32⟩
  | .hbm, ⟨24, _⟩ => ⟨S8x4096x8, .bf16⟩
  | .hbm, ⟨25, _⟩ => ⟨S8x4096x8, .f32⟩
  | .hbm, ⟨26, _⟩ => ⟨S8x4096x8, .f32⟩
  | .hbm, ⟨27, _⟩ => ⟨S8x4096x8, .f32⟩
  | .hbm, ⟨28, _⟩ => ⟨S8x4096x8x1, .f32⟩
  | .hbm, ⟨29, _⟩ => ⟨S8x4096x8x1, .f32⟩
  | .hbm, ⟨30, _⟩ => ⟨S8x4096x8x1, .f32⟩
  | .hbm, ⟨31, _⟩ => ⟨S8x4096x8x3, .f32⟩
  | .hbm, ⟨32, _⟩ => ⟨S_, .f32⟩
  | .hbm, ⟨33, _⟩ => ⟨S8x4096x8x3, .f32⟩
  | .hbm, ⟨34, _⟩ => ⟨S8x4096x8x3, .f32⟩
  | .hbm, ⟨35, _⟩ => ⟨S_, .f32⟩
  | .hbm, ⟨36, _⟩ => ⟨S8x4096x8x3, .f32⟩
  | .hbm, ⟨37, _⟩ => ⟨S_, .f32⟩
  | .hbm, ⟨38, _⟩ => ⟨S8x4096x8x21, .f32⟩
  | .hbm, ⟨39, _⟩ => ⟨S_, .f32⟩
  | .hbm, ⟨40, _⟩ => ⟨S8x4096x8x37, .f32⟩
  | .hbm, ⟨41, _⟩ => ⟨S8x4096x8x128, .f32⟩
  | .hbm, ⟨42, _⟩ => ⟨S8x4096x8x128, .bf16⟩
  | .hbm, ⟨43, _⟩ => ⟨S8x4096x8x64, .f32⟩
  | .hbm, ⟨44, _⟩ => ⟨S8x4096x8, .bf16⟩
  | .hbm, ⟨45, _⟩ => ⟨S8x4096x8, .f32⟩
  | .hbm, ⟨46, _⟩ => ⟨S8x4096x8, .f32⟩
  | .hbm, ⟨47, _⟩ => ⟨S8x4096x8, .bf16⟩
  | .hbm, ⟨48, _⟩ => ⟨S8x4096x8, .f32⟩
  | .hbm, ⟨49, _⟩ => ⟨S8x4096x8, .f32⟩
  | .hbm, ⟨50, _⟩ => ⟨S8x4096x8, .bf16⟩
  | .hbm, ⟨51, _⟩ => ⟨S8x4096x8, .f32⟩
  | .hbm, ⟨52, _⟩ => ⟨S8x4096x8, .f32⟩
  | .hbm, ⟨53, _⟩ => ⟨S8x4096x8, .f32⟩
  | .hbm, ⟨54, _⟩ => ⟨S8x4096x8x1, .f32⟩
  | .hbm, ⟨55, _⟩ => ⟨S8x4096x8x1, .f32⟩
  | .hbm, ⟨56, _⟩ => ⟨S8x4096x8x1, .f32⟩
  | .hbm, ⟨57, _⟩ => ⟨S8x4096x8x3, .f32⟩
  | .hbm, ⟨58, _⟩ => ⟨S_, .f32⟩
  | .hbm, ⟨59, _⟩ => ⟨S8x4096x8x3, .f32⟩
  | .hbm, ⟨60, _⟩ => ⟨S8x4096x8x3, .f32⟩
  | .hbm, ⟨61, _⟩ => ⟨S_, .f32⟩
  | .hbm, ⟨62, _⟩ => ⟨S8x4096x8x3, .f32⟩
  | .hbm, ⟨63, _⟩ => ⟨S_, .f32⟩
  | .hbm, ⟨64, _⟩ => ⟨S8x4096x8x21, .f32⟩
  | .hbm, ⟨65, _⟩ => ⟨S_, .f32⟩
  | .hbm, ⟨66, _⟩ => ⟨S8x4096x8x37, .f32⟩
  | .hbm, ⟨67, _⟩ => ⟨S8x4096x8x128, .f32⟩
  | .hbm, ⟨68, _⟩ => ⟨S8x4096x8x128, .bf16⟩
  | .hbm, ⟨69, _⟩ => ⟨S8x8x512x1024, .bf16⟩
  | .hbm, ⟨70, _⟩ => ⟨S8x8x1024x512, .bf16⟩
  | .hbm, ⟨71, _⟩ => ⟨S8x4096x1024, .bf16⟩
  | .hbm, ⟨72, _⟩ => ⟨S_, .f32⟩
  | .hbm, ⟨73, _⟩ => ⟨S8x8x4096x1, .f32⟩
  | .hbm, ⟨74, _⟩ => ⟨S_, .f32⟩
  | .hbm, ⟨75, _⟩ => ⟨S8x8x4096x15, .f32⟩
  | .hbm, ⟨76, _⟩ => ⟨S8x8x4096x80, .f32⟩
  | .hbm, ⟨77, _⟩ => ⟨S8x8x4096x80, .bf16⟩
  | .hbm, ⟨78, _⟩ => ⟨S8x8x80x4096, .bf16⟩
  | .hbm, ⟨79, _⟩ => ⟨S8x640x8x512, .bf16⟩
  | .hbm, ⟨80, _⟩ => ⟨S8x8x640x512, .bf16⟩
  | .hbm, ⟨81, _⟩ => ⟨S8x4096x512, .bf16⟩
  | .local _ .vmem, ⟨0, _⟩ => ⟨S1x1x1024x512, .bf16⟩
  | .local _ .vmem, ⟨1, _⟩ => ⟨S1x1x1024x512, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x8x640x512, .bf16⟩
  | .local _ .vmem, ⟨5, _⟩ => ⟨S1x8x640x512, .bf16⟩
  | .local _ .vmem, ⟨6, _⟩ => ⟨S1x512x512, .bf16⟩
  | .local _ .vmem, ⟨7, _⟩ => ⟨S1x512x512, .bf16⟩
  | .local _ .vmem, ⟨8, _⟩ => ⟨S8x80x512, .f32⟩
  | .local _ .vmem, ⟨9, _⟩ => ⟨S2x8x512x512, .bf16⟩
  | _, _ => ⟨S8x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_2 : BitVec 32 := 0#32
  let v6 : BitVec 1 := Scalar.cmpi .ne v5 c0_i32_2
  v6

def k0_mult1 : BitVec 32 :=
  let c0_i32_246 : BitVec 32 := 0#32
  c0_i32_246
def k0_mult2 : BitVec 32 :=
  let c0_i32_266 : BitVec 32 := 0#32
  c0_i32_266
def k0_mult3 : BitVec 32 :=
  let c0_i32_287 : BitVec 32 := 0#32
  c0_i32_287
def k0_mult4 : BitVec 32 :=
  let c0_i32_308 : BitVec 32 := 0#32
  c0_i32_308
def k0_mult5 : BitVec 32 :=
  let c0_i32_329 : BitVec 32 := 0#32
  c0_i32_329
def k0_mult6 : BitVec 32 :=
  let c0_i32_349 : BitVec 32 := 0#32
  c0_i32_349
def k0_mult7 : BitVec 32 :=
  let c0_i32_369 : BitVec 32 := 0#32
  c0_i32_369
def k0_mult8 : BitVec 32 :=
  let c0_i32_389 : BitVec 32 := 0#32
  c0_i32_389
def k0_cond2 (i : grid0.Coords) : BitVec 1 :=
  let arg1 : BitVec 32 := BitVec.ofNat 32 (i 1).val
  let c0_i32_3 : BitVec 32 := 0#32
  let v7 : BitVec 1 := Scalar.cmpi .sgt arg1 c0_i32_3
  let v8 : BitVec 32 := Scalar.extui v7
  let c0_i32_4 : BitVec 32 := 0#32
  let v9 : BitVec 1 := Scalar.cmpi .ne v8 c0_i32_4
  v9

def k0_mult9 : BitVec 32 :=
  let c0_i32_246 : BitVec 32 := 0#32
  c0_i32_246
def k0_mult10 : BitVec 32 :=
  let c0_i32_262 : BitVec 32 := 0#32
  c0_i32_262
def k0_mult11 : BitVec 32 :=
  let c0_i32_278 : BitVec 32 := 0#32
  c0_i32_278
def k0_mult12 : BitVec 32 :=
  let c0_i32_294 : BitVec 32 := 0#32
  c0_i32_294
def k0_mult13 : BitVec 32 :=
  let c0_i32_310 : BitVec 32 := 0#32
  c0_i32_310
def k0_mult14 : BitVec 32 :=
  let c0_i32_325 : BitVec 32 := 0#32
  c0_i32_325
def k0_mult15 : BitVec 32 :=
  let c0_i32_340 : BitVec 32 := 0#32
  c0_i32_340
def k0_mult16 : BitVec 32 :=
  let c0_i32_355 : BitVec 32 := 0#32
  c0_i32_355
def k0_cond3 (i : grid0.Coords) : BitVec 1 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32 : BitVec 32 := 2#32
  let c0_i32_6 : BitVec 32 := 0#32
  let v12 : BitVec 1 := Scalar.cmpi .eq c2_i32 c0_i32_6
  let c1_i32_7 : BitVec 32 := 1#32
  let v13 : BitVec 32 := Scalar.select v12 c1_i32_7 c2_i32
  let v14 : BitVec 32 := Scalar.remsi v11 v13
  let c0_i32_9 : BitVec 32 := 0#32
  let v16 : BitVec 1 := Scalar.cmpi .slt v14 c0_i32_9
  let c0_i32_10 : BitVec 32 := 0#32
  let v17 : BitVec 1 := Scalar.cmpi .slt v13 c0_i32_10
  let v18 : BitVec 1 := Scalar.xori v16 v17
  let c0_i32_8 : BitVec 32 := 0#32
  let v15 : BitVec 1 := Scalar.cmpi .ne v14 c0_i32_8
  let v19 : BitVec 1 := Scalar.andi v18 v15
  let v20 : BitVec 32 := Scalar.addi v14 v13
  let v21 : BitVec 32 := Scalar.select v19 v20 v14
  let c1_i32_11 : BitVec 32 := 1#32
  let v22 : BitVec 1 := Scalar.cmpi .eq v21 c1_i32_11
  let v23 : BitVec 32 := Scalar.extui v22
  let c0_i32_12 : BitVec 32 := 0#32
  let v24 : BitVec 1 := Scalar.cmpi .ne v23 c0_i32_12
  v24

def k0_mult17 : BitVec 32 :=
  let c512_i32 : BitVec 32 := 512#32
  c512_i32
def k0_mult18 : BitVec 32 :=
  let c512_i32_272 : BitVec 32 := 512#32
  c512_i32_272
def k0_mult19 : BitVec 32 :=
  let c512_i32_299 : BitVec 32 := 512#32
  c512_i32_299
def k0_mult20 : BitVec 32 :=
  let c512_i32_326 : BitVec 32 := 512#32
  c512_i32_326
def k0_mult21 : BitVec 32 :=
  let c512_i32_353 : BitVec 32 := 512#32
  c512_i32_353
def k0_mult22 : BitVec 32 :=
  let c512_i32_379 : BitVec 32 := 512#32
  c512_i32_379
def k0_mult23 : BitVec 32 :=
  let c512_i32_405 : BitVec 32 := 512#32
  c512_i32_405
def k0_mult24 : BitVec 32 :=
  let c512_i32_431 : BitVec 32 := 512#32
  c512_i32_431
@[reducible] def k0_t1_loop (i : grid0.Coords) : Scf.Loop 32 :=
  let c0_i32_21 : BitVec 32 := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_23 : BitVec 32 := 1#32
  ⟨c0_i32_21, v46, c1_i32_23⟩
def k0_mult25 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_253 : BitVec 32 := 1#32
  let v342 : BitVec 32 := Scalar.addi v341 c1_i32_253
  let c512_i32 : BitVec 32 := 512#32
  let v343 : BitVec 32 := Scalar.muli v342 c512_i32
  let c0_i32_254 : BitVec 32 := 0#32
  let v344 : BitVec 32 := Scalar.addi v343 c0_i32_254
  v344
def k0_off1 (i : grid0.Coords) (k0_t1 : Fin (k0_t1_loop i).trips) : Fin 3 → Nat :=
  let c0_255 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_253 : BitVec 32 := 1#32
  let v342 : BitVec 32 := Scalar.addi v341 c1_i32_253
  let c512_i32 : BitVec 32 := 512#32
  let v343 : BitVec 32 := Scalar.muli v342 c512_i32
  let c0_i32_254 : BitVec 32 := 0#32
  let v344 : BitVec 32 := Scalar.addi v343 c0_i32_254
  let v345 : BitVec 32 := v344
  let v346 : Index := Scalar.indexCast v345
  let c0_256 : Index := 0#32
  ![0, v346.toNat, 0]
def k0_off2 (i : grid0.Coords) (k0_t1 : Fin (k0_t1_loop i).trips) : Fin 4 → Nat :=
  let c0_269 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v359 : Index := Scalar.indexCast v341
  let c0_270 : Index := 0#32
  let c0_271 : Index := 0#32
  ![0, v359.toNat, 0, 0]
def k0_mult26 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_280 : BitVec 32 := 1#32
  let v369 : BitVec 32 := Scalar.addi v341 c1_i32_280
  let c512_i32_281 : BitVec 32 := 512#32
  let v370 : BitVec 32 := Scalar.muli v369 c512_i32_281
  let c0_i32_282 : BitVec 32 := 0#32
  let v371 : BitVec 32 := Scalar.addi v370 c0_i32_282
  v371
def k0_off3 (i : grid0.Coords) (k0_t1 : Fin (k0_t1_loop i).trips) : Fin 3 → Nat :=
  let c0_283 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_280 : BitVec 32 := 1#32
  let v369 : BitVec 32 := Scalar.addi v341 c1_i32_280
  let c512_i32_281 : BitVec 32 := 512#32
  let v370 : BitVec 32 := Scalar.muli v369 c512_i32_281
  let c0_i32_282 : BitVec 32 := 0#32
  let v371 : BitVec 32 := Scalar.addi v370 c0_i32_282
  let v372 : BitVec 32 := v371
  let v373 : Index := Scalar.indexCast v372
  let c128_284 : Index := 128#32
  ![0, v373.toNat, 128]
def k0_off4 (i : grid0.Coords) (k0_t1 : Fin (k0_t1_loop i).trips) : Fin 4 → Nat :=
  let c0_297 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v386 : Index := Scalar.indexCast v341
  let c80_298 : Index := 80#32
  let c0_299 : Index := 0#32
  ![0, v386.toNat, 80, 0]
def k0_mult27 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_308 : BitVec 32 := 1#32
  let v396 : BitVec 32 := Scalar.addi v341 c1_i32_308
  let c512_i32_309 : BitVec 32 := 512#32
  let v397 : BitVec 32 := Scalar.muli v396 c512_i32_309
  let c0_i32_310 : BitVec 32 := 0#32
  let v398 : BitVec 32 := Scalar.addi v397 c0_i32_310
  v398
def k0_off5 (i : grid0.Coords) (k0_t1 : Fin (k0_t1_loop i).trips) : Fin 3 → Nat :=
  let c0_311 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_308 : BitVec 32 := 1#32
  let v396 : BitVec 32 := Scalar.addi v341 c1_i32_308
  let c512_i32_309 : BitVec 32 := 512#32
  let v397 : BitVec 32 := Scalar.muli v396 c512_i32_309
  let c0_i32_310 : BitVec 32 := 0#32
  let v398 : BitVec 32 := Scalar.addi v397 c0_i32_310
  let v399 : BitVec 32 := v398
  let v400 : Index := Scalar.indexCast v399
  let c256_312 : Index := 256#32
  ![0, v400.toNat, 256]
def k0_off6 (i : grid0.Coords) (k0_t1 : Fin (k0_t1_loop i).trips) : Fin 4 → Nat :=
  let c0_325 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v413 : Index := Scalar.indexCast v341
  let c160_326 : Index := 160#32
  let c0_327 : Index := 0#32
  ![0, v413.toNat, 160, 0]
def k0_mult28 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_336 : BitVec 32 := 1#32
  let v423 : BitVec 32 := Scalar.addi v341 c1_i32_336
  let c512_i32_337 : BitVec 32 := 512#32
  let v424 : BitVec 32 := Scalar.muli v423 c512_i32_337
  let c0_i32_338 : BitVec 32 := 0#32
  let v425 : BitVec 32 := Scalar.addi v424 c0_i32_338
  v425
def k0_off7 (i : grid0.Coords) (k0_t1 : Fin (k0_t1_loop i).trips) : Fin 3 → Nat :=
  let c0_339 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_336 : BitVec 32 := 1#32
  let v423 : BitVec 32 := Scalar.addi v341 c1_i32_336
  let c512_i32_337 : BitVec 32 := 512#32
  let v424 : BitVec 32 := Scalar.muli v423 c512_i32_337
  let c0_i32_338 : BitVec 32 := 0#32
  let v425 : BitVec 32 := Scalar.addi v424 c0_i32_338
  let v426 : BitVec 32 := v425
  let v427 : Index := Scalar.indexCast v426
  let c384_340 : Index := 384#32
  ![0, v427.toNat, 384]
def k0_off8 (i : grid0.Coords) (k0_t1 : Fin (k0_t1_loop i).trips) : Fin 4 → Nat :=
  let c0_353 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v440 : Index := Scalar.indexCast v341
  let c240_354 : Index := 240#32
  let c0_355 : Index := 0#32
  ![0, v440.toNat, 240, 0]
def k0_mult29 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_364 : BitVec 32 := 1#32
  let v450 : BitVec 32 := Scalar.addi v341 c1_i32_364
  let c512_i32_365 : BitVec 32 := 512#32
  let v451 : BitVec 32 := Scalar.muli v450 c512_i32_365
  let c0_i32_366 : BitVec 32 := 0#32
  let v452 : BitVec 32 := Scalar.addi v451 c0_i32_366
  v452
def k0_off9 (i : grid0.Coords) (k0_t1 : Fin (k0_t1_loop i).trips) : Fin 3 → Nat :=
  let c0_367 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_364 : BitVec 32 := 1#32
  let v450 : BitVec 32 := Scalar.addi v341 c1_i32_364
  let c512_i32_365 : BitVec 32 := 512#32
  let v451 : BitVec 32 := Scalar.muli v450 c512_i32_365
  let c0_i32_366 : BitVec 32 := 0#32
  let v452 : BitVec 32 := Scalar.addi v451 c0_i32_366
  let v453 : BitVec 32 := v452
  let v454 : Index := Scalar.indexCast v453
  let c512 : Index := 512#32
  ![0, v454.toNat, 512]
def k0_off10 (i : grid0.Coords) (k0_t1 : Fin (k0_t1_loop i).trips) : Fin 4 → Nat :=
  let c0_380 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v467 : Index := Scalar.indexCast v341
  let c320_381 : Index := 320#32
  let c0_382 : Index := 0#32
  ![0, v467.toNat, 320, 0]
def k0_mult30 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_391 : BitVec 32 := 1#32
  let v477 : BitVec 32 := Scalar.addi v341 c1_i32_391
  let c512_i32_392 : BitVec 32 := 512#32
  let v478 : BitVec 32 := Scalar.muli v477 c512_i32_392
  let c0_i32_393 : BitVec 32 := 0#32
  let v479 : BitVec 32 := Scalar.addi v478 c0_i32_393
  v479
def k0_off11 (i : grid0.Coords) (k0_t1 : Fin (k0_t1_loop i).trips) : Fin 3 → Nat :=
  let c0_394 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_391 : BitVec 32 := 1#32
  let v477 : BitVec 32 := Scalar.addi v341 c1_i32_391
  let c512_i32_392 : BitVec 32 := 512#32
  let v478 : BitVec 32 := Scalar.muli v477 c512_i32_392
  let c0_i32_393 : BitVec 32 := 0#32
  let v479 : BitVec 32 := Scalar.addi v478 c0_i32_393
  let v480 : BitVec 32 := v479
  let v481 : Index := Scalar.indexCast v480
  let c640 : Index := 640#32
  ![0, v481.toNat, 640]
def k0_off12 (i : grid0.Coords) (k0_t1 : Fin (k0_t1_loop i).trips) : Fin 4 → Nat :=
  let c0_407 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v494 : Index := Scalar.indexCast v341
  let c400_408 : Index := 400#32
  let c0_409 : Index := 0#32
  ![0, v494.toNat, 400, 0]
def k0_mult31 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_418 : BitVec 32 := 1#32
  let v504 : BitVec 32 := Scalar.addi v341 c1_i32_418
  let c512_i32_419 : BitVec 32 := 512#32
  let v505 : BitVec 32 := Scalar.muli v504 c512_i32_419
  let c0_i32_420 : BitVec 32 := 0#32
  let v506 : BitVec 32 := Scalar.addi v505 c0_i32_420
  v506
def k0_off13 (i : grid0.Coords) (k0_t1 : Fin (k0_t1_loop i).trips) : Fin 3 → Nat :=
  let c0_421 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_418 : BitVec 32 := 1#32
  let v504 : BitVec 32 := Scalar.addi v341 c1_i32_418
  let c512_i32_419 : BitVec 32 := 512#32
  let v505 : BitVec 32 := Scalar.muli v504 c512_i32_419
  let c0_i32_420 : BitVec 32 := 0#32
  let v506 : BitVec 32 := Scalar.addi v505 c0_i32_420
  let v507 : BitVec 32 := v506
  let v508 : Index := Scalar.indexCast v507
  let c768 : Index := 768#32
  ![0, v508.toNat, 768]
def k0_off14 (i : grid0.Coords) (k0_t1 : Fin (k0_t1_loop i).trips) : Fin 4 → Nat :=
  let c0_434 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v521 : Index := Scalar.indexCast v341
  let c480_435 : Index := 480#32
  let c0_436 : Index := 0#32
  ![0, v521.toNat, 480, 0]
def k0_mult32 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_445 : BitVec 32 := 1#32
  let v531 : BitVec 32 := Scalar.addi v341 c1_i32_445
  let c512_i32_446 : BitVec 32 := 512#32
  let v532 : BitVec 32 := Scalar.muli v531 c512_i32_446
  let c0_i32_447 : BitVec 32 := 0#32
  let v533 : BitVec 32 := Scalar.addi v532 c0_i32_447
  v533
def k0_off15 (i : grid0.Coords) (k0_t1 : Fin (k0_t1_loop i).trips) : Fin 3 → Nat :=
  let c0_448 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_445 : BitVec 32 := 1#32
  let v531 : BitVec 32 := Scalar.addi v341 c1_i32_445
  let c512_i32_446 : BitVec 32 := 512#32
  let v532 : BitVec 32 := Scalar.muli v531 c512_i32_446
  let c0_i32_447 : BitVec 32 := 0#32
  let v533 : BitVec 32 := Scalar.addi v532 c0_i32_447
  let v534 : BitVec 32 := v533
  let v535 : Index := Scalar.indexCast v534
  let c896 : Index := 896#32
  ![0, v535.toNat, 896]
def k0_off16 (i : grid0.Coords) (k0_t1 : Fin (k0_t1_loop i).trips) : Fin 4 → Nat :=
  let c0_461 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let v548 : Index := Scalar.indexCast v341
  let c560_462 : Index := 560#32
  let c0_463 : Index := 0#32
  ![0, v548.toNat, 560, 0]
def k0_mult33 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_473 : BitVec 32 := 1#32
  let v559 : BitVec 32 := Scalar.addi v558 c1_i32_473
  let c512_i32_474 : BitVec 32 := 512#32
  let v560 : BitVec 32 := Scalar.muli v559 c512_i32_474
  let c0_i32_475 : BitVec 32 := 0#32
  let v561 : BitVec 32 := Scalar.addi v560 c0_i32_475
  v561
def k0_off17 (i : grid0.Coords) (k0_t1 : Fin (k0_t1_loop i).trips) : Fin 3 → Nat :=
  let c0_476 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_473 : BitVec 32 := 1#32
  let v559 : BitVec 32 := Scalar.addi v558 c1_i32_473
  let c512_i32_474 : BitVec 32 := 512#32
  let v560 : BitVec 32 := Scalar.muli v559 c512_i32_474
  let c0_i32_475 : BitVec 32 := 0#32
  let v561 : BitVec 32 := Scalar.addi v560 c0_i32_475
  let v562 : BitVec 32 := v561
  let v563 : Index := Scalar.indexCast v562
  let c0_477 : Index := 0#32
  ![0, v563.toNat, 0]
def k0_off18 (i : grid0.Coords) (k0_t1 : Fin (k0_t1_loop i).trips) : Fin 4 → Nat :=
  let c0_490 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v576 : Index := Scalar.indexCast v558
  let c0_491 : Index := 0#32
  let c0_492 : Index := 0#32
  ![0, v576.toNat, 0, 0]
def k0_mult34 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_501 : BitVec 32 := 1#32
  let v586 : BitVec 32 := Scalar.addi v558 c1_i32_501
  let c512_i32_502 : BitVec 32 := 512#32
  let v587 : BitVec 32 := Scalar.muli v586 c512_i32_502
  let c0_i32_503 : BitVec 32 := 0#32
  let v588 : BitVec 32 := Scalar.addi v587 c0_i32_503
  v588
def k0_off19 (i : grid0.Coords) (k0_t1 : Fin (k0_t1_loop i).trips) : Fin 3 → Nat :=
  let c0_504 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_501 : BitVec 32 := 1#32
  let v586 : BitVec 32 := Scalar.addi v558 c1_i32_501
  let c512_i32_502 : BitVec 32 := 512#32
  let v587 : BitVec 32 := Scalar.muli v586 c512_i32_502
  let c0_i32_503 : BitVec 32 := 0#32
  let v588 : BitVec 32 := Scalar.addi v587 c0_i32_503
  let v589 : BitVec 32 := v588
  let v590 : Index := Scalar.indexCast v589
  let c128_505 : Index := 128#32
  ![0, v590.toNat, 128]
def k0_off20 (i : grid0.Coords) (k0_t1 : Fin (k0_t1_loop i).trips) : Fin 4 → Nat :=
  let c0_518 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v603 : Index := Scalar.indexCast v558
  let c80_519 : Index := 80#32
  let c0_520 : Index := 0#32
  ![0, v603.toNat, 80, 0]
def k0_mult35 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_529 : BitVec 32 := 1#32
  let v613 : BitVec 32 := Scalar.addi v558 c1_i32_529
  let c512_i32_530 : BitVec 32 := 512#32
  let v614 : BitVec 32 := Scalar.muli v613 c512_i32_530
  let c0_i32_531 : BitVec 32 := 0#32
  let v615 : BitVec 32 := Scalar.addi v614 c0_i32_531
  v615
def k0_off21 (i : grid0.Coords) (k0_t1 : Fin (k0_t1_loop i).trips) : Fin 3 → Nat :=
  let c0_532 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_529 : BitVec 32 := 1#32
  let v613 : BitVec 32 := Scalar.addi v558 c1_i32_529
  let c512_i32_530 : BitVec 32 := 512#32
  let v614 : BitVec 32 := Scalar.muli v613 c512_i32_530
  let c0_i32_531 : BitVec 32 := 0#32
  let v615 : BitVec 32 := Scalar.addi v614 c0_i32_531
  let v616 : BitVec 32 := v615
  let v617 : Index := Scalar.indexCast v616
  let c256_533 : Index := 256#32
  ![0, v617.toNat, 256]
def k0_off22 (i : grid0.Coords) (k0_t1 : Fin (k0_t1_loop i).trips) : Fin 4 → Nat :=
  let c0_546 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v630 : Index := Scalar.indexCast v558
  let c160_547 : Index := 160#32
  let c0_548 : Index := 0#32
  ![0, v630.toNat, 160, 0]
def k0_mult36 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_557 : BitVec 32 := 1#32
  let v640 : BitVec 32 := Scalar.addi v558 c1_i32_557
  let c512_i32_558 : BitVec 32 := 512#32
  let v641 : BitVec 32 := Scalar.muli v640 c512_i32_558
  let c0_i32_559 : BitVec 32 := 0#32
  let v642 : BitVec 32 := Scalar.addi v641 c0_i32_559
  v642
def k0_off23 (i : grid0.Coords) (k0_t1 : Fin (k0_t1_loop i).trips) : Fin 3 → Nat :=
  let c0_560 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_557 : BitVec 32 := 1#32
  let v640 : BitVec 32 := Scalar.addi v558 c1_i32_557
  let c512_i32_558 : BitVec 32 := 512#32
  let v641 : BitVec 32 := Scalar.muli v640 c512_i32_558
  let c0_i32_559 : BitVec 32 := 0#32
  let v642 : BitVec 32 := Scalar.addi v641 c0_i32_559
  let v643 : BitVec 32 := v642
  let v644 : Index := Scalar.indexCast v643
  let c384_561 : Index := 384#32
  ![0, v644.toNat, 384]
def k0_off24 (i : grid0.Coords) (k0_t1 : Fin (k0_t1_loop i).trips) : Fin 4 → Nat :=
  let c0_574 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v657 : Index := Scalar.indexCast v558
  let c240_575 : Index := 240#32
  let c0_576 : Index := 0#32
  ![0, v657.toNat, 240, 0]
def k0_mult37 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_585 : BitVec 32 := 1#32
  let v667 : BitVec 32 := Scalar.addi v558 c1_i32_585
  let c512_i32_586 : BitVec 32 := 512#32
  let v668 : BitVec 32 := Scalar.muli v667 c512_i32_586
  let c0_i32_587 : BitVec 32 := 0#32
  let v669 : BitVec 32 := Scalar.addi v668 c0_i32_587
  v669
def k0_off25 (i : grid0.Coords) (k0_t1 : Fin (k0_t1_loop i).trips) : Fin 3 → Nat :=
  let c0_588 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_585 : BitVec 32 := 1#32
  let v667 : BitVec 32 := Scalar.addi v558 c1_i32_585
  let c512_i32_586 : BitVec 32 := 512#32
  let v668 : BitVec 32 := Scalar.muli v667 c512_i32_586
  let c0_i32_587 : BitVec 32 := 0#32
  let v669 : BitVec 32 := Scalar.addi v668 c0_i32_587
  let v670 : BitVec 32 := v669
  let v671 : Index := Scalar.indexCast v670
  let c512_589 : Index := 512#32
  ![0, v671.toNat, 512]
def k0_off26 (i : grid0.Coords) (k0_t1 : Fin (k0_t1_loop i).trips) : Fin 4 → Nat :=
  let c0_602 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v684 : Index := Scalar.indexCast v558
  let c320_603 : Index := 320#32
  let c0_604 : Index := 0#32
  ![0, v684.toNat, 320, 0]
def k0_mult38 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_613 : BitVec 32 := 1#32
  let v694 : BitVec 32 := Scalar.addi v558 c1_i32_613
  let c512_i32_614 : BitVec 32 := 512#32
  let v695 : BitVec 32 := Scalar.muli v694 c512_i32_614
  let c0_i32_615 : BitVec 32 := 0#32
  let v696 : BitVec 32 := Scalar.addi v695 c0_i32_615
  v696
def k0_off27 (i : grid0.Coords) (k0_t1 : Fin (k0_t1_loop i).trips) : Fin 3 → Nat :=
  let c0_616 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_613 : BitVec 32 := 1#32
  let v694 : BitVec 32 := Scalar.addi v558 c1_i32_613
  let c512_i32_614 : BitVec 32 := 512#32
  let v695 : BitVec 32 := Scalar.muli v694 c512_i32_614
  let c0_i32_615 : BitVec 32 := 0#32
  let v696 : BitVec 32 := Scalar.addi v695 c0_i32_615
  let v697 : BitVec 32 := v696
  let v698 : Index := Scalar.indexCast v697
  let c640_617 : Index := 640#32
  ![0, v698.toNat, 640]
def k0_off28 (i : grid0.Coords) (k0_t1 : Fin (k0_t1_loop i).trips) : Fin 4 → Nat :=
  let c0_630 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v711 : Index := Scalar.indexCast v558
  let c400_631 : Index := 400#32
  let c0_632 : Index := 0#32
  ![0, v711.toNat, 400, 0]
def k0_mult39 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_641 : BitVec 32 := 1#32
  let v721 : BitVec 32 := Scalar.addi v558 c1_i32_641
  let c512_i32_642 : BitVec 32 := 512#32
  let v722 : BitVec 32 := Scalar.muli v721 c512_i32_642
  let c0_i32_643 : BitVec 32 := 0#32
  let v723 : BitVec 32 := Scalar.addi v722 c0_i32_643
  v723
def k0_off29 (i : grid0.Coords) (k0_t1 : Fin (k0_t1_loop i).trips) : Fin 3 → Nat :=
  let c0_644 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_641 : BitVec 32 := 1#32
  let v721 : BitVec 32 := Scalar.addi v558 c1_i32_641
  let c512_i32_642 : BitVec 32 := 512#32
  let v722 : BitVec 32 := Scalar.muli v721 c512_i32_642
  let c0_i32_643 : BitVec 32 := 0#32
  let v723 : BitVec 32 := Scalar.addi v722 c0_i32_643
  let v724 : BitVec 32 := v723
  let v725 : Index := Scalar.indexCast v724
  let c768_645 : Index := 768#32
  ![0, v725.toNat, 768]
def k0_off30 (i : grid0.Coords) (k0_t1 : Fin (k0_t1_loop i).trips) : Fin 4 → Nat :=
  let c0_658 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v738 : Index := Scalar.indexCast v558
  let c480_659 : Index := 480#32
  let c0_660 : Index := 0#32
  ![0, v738.toNat, 480, 0]
def k0_mult40 (i : grid0.Coords) (k0_t1 : Fin (k0_t1_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_669 : BitVec 32 := 1#32
  let v748 : BitVec 32 := Scalar.addi v558 c1_i32_669
  let c512_i32_670 : BitVec 32 := 512#32
  let v749 : BitVec 32 := Scalar.muli v748 c512_i32_670
  let c0_i32_671 : BitVec 32 := 0#32
  let v750 : BitVec 32 := Scalar.addi v749 c0_i32_671
  v750
def k0_off31 (i : grid0.Coords) (k0_t1 : Fin (k0_t1_loop i).trips) : Fin 3 → Nat :=
  let c0_672 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_669 : BitVec 32 := 1#32
  let v748 : BitVec 32 := Scalar.addi v558 c1_i32_669
  let c512_i32_670 : BitVec 32 := 512#32
  let v749 : BitVec 32 := Scalar.muli v748 c512_i32_670
  let c0_i32_671 : BitVec 32 := 0#32
  let v750 : BitVec 32 := Scalar.addi v749 c0_i32_671
  let v751 : BitVec 32 := v750
  let v752 : Index := Scalar.indexCast v751
  let c896_673 : Index := 896#32
  ![0, v752.toNat, 896]
def k0_off32 (i : grid0.Coords) (k0_t1 : Fin (k0_t1_loop i).trips) : Fin 4 → Nat :=
  let c0_686 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c1_i32_23 : BitVec 32 := 1#32
  let arg8 : BitVec 32 := Scf.iv c0_i32_21 c1_i32_23 k0_t1
  let v340 : BitVec 32 := Scalar.muli c2_i32_252 arg8
  let v341 : BitVec 32 := Scalar.addi v339 v340
  let c1_i32_472 : BitVec 32 := 1#32
  let v558 : BitVec 32 := Scalar.addi v341 c1_i32_472
  let v765 : Index := Scalar.indexCast v558
  let c560_687 : Index := 560#32
  let c0_688 : Index := 0#32
  ![0, v765.toNat, 560, 0]
@[reducible] def k0_t2_loop (i : grid0.Coords) : Scf.Loop 32 :=
  let c0_i32_21 : BitVec 32 := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let v43 : BitVec 32 := Scalar.addi c0_i32_21 v42
  let c1_i32_24 : BitVec 32 := 1#32
  ⟨v46, v43, c1_i32_24⟩
def k0_mult41 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_253 : BitVec 32 := 1#32
  let v342 : BitVec 32 := Scalar.addi v341 c1_i32_253
  let c512_i32 : BitVec 32 := 512#32
  let v343 : BitVec 32 := Scalar.muli v342 c512_i32
  let c0_i32_254 : BitVec 32 := 0#32
  let v344 : BitVec 32 := Scalar.addi v343 c0_i32_254
  v344
def k0_off33 (i : grid0.Coords) (k0_t2 : Fin (k0_t2_loop i).trips) : Fin 3 → Nat :=
  let c0_255 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_253 : BitVec 32 := 1#32
  let v342 : BitVec 32 := Scalar.addi v341 c1_i32_253
  let c512_i32 : BitVec 32 := 512#32
  let v343 : BitVec 32 := Scalar.muli v342 c512_i32
  let c0_i32_254 : BitVec 32 := 0#32
  let v344 : BitVec 32 := Scalar.addi v343 c0_i32_254
  let v345 : BitVec 32 := v344
  let v346 : Index := Scalar.indexCast v345
  let c0_256 : Index := 0#32
  ![0, v346.toNat, 0]
def k0_off34 (i : grid0.Coords) (k0_t2 : Fin (k0_t2_loop i).trips) : Fin 4 → Nat :=
  let c0_269 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v359 : Index := Scalar.indexCast v341
  let c0_270 : Index := 0#32
  let c0_271 : Index := 0#32
  ![0, v359.toNat, 0, 0]
def k0_mult42 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_280 : BitVec 32 := 1#32
  let v369 : BitVec 32 := Scalar.addi v341 c1_i32_280
  let c512_i32_281 : BitVec 32 := 512#32
  let v370 : BitVec 32 := Scalar.muli v369 c512_i32_281
  let c0_i32_282 : BitVec 32 := 0#32
  let v371 : BitVec 32 := Scalar.addi v370 c0_i32_282
  v371
def k0_off35 (i : grid0.Coords) (k0_t2 : Fin (k0_t2_loop i).trips) : Fin 3 → Nat :=
  let c0_283 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_280 : BitVec 32 := 1#32
  let v369 : BitVec 32 := Scalar.addi v341 c1_i32_280
  let c512_i32_281 : BitVec 32 := 512#32
  let v370 : BitVec 32 := Scalar.muli v369 c512_i32_281
  let c0_i32_282 : BitVec 32 := 0#32
  let v371 : BitVec 32 := Scalar.addi v370 c0_i32_282
  let v372 : BitVec 32 := v371
  let v373 : Index := Scalar.indexCast v372
  let c128_284 : Index := 128#32
  ![0, v373.toNat, 128]
def k0_off36 (i : grid0.Coords) (k0_t2 : Fin (k0_t2_loop i).trips) : Fin 4 → Nat :=
  let c0_297 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v386 : Index := Scalar.indexCast v341
  let c80_298 : Index := 80#32
  let c0_299 : Index := 0#32
  ![0, v386.toNat, 80, 0]
def k0_mult43 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_308 : BitVec 32 := 1#32
  let v396 : BitVec 32 := Scalar.addi v341 c1_i32_308
  let c512_i32_309 : BitVec 32 := 512#32
  let v397 : BitVec 32 := Scalar.muli v396 c512_i32_309
  let c0_i32_310 : BitVec 32 := 0#32
  let v398 : BitVec 32 := Scalar.addi v397 c0_i32_310
  v398
def k0_off37 (i : grid0.Coords) (k0_t2 : Fin (k0_t2_loop i).trips) : Fin 3 → Nat :=
  let c0_311 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_308 : BitVec 32 := 1#32
  let v396 : BitVec 32 := Scalar.addi v341 c1_i32_308
  let c512_i32_309 : BitVec 32 := 512#32
  let v397 : BitVec 32 := Scalar.muli v396 c512_i32_309
  let c0_i32_310 : BitVec 32 := 0#32
  let v398 : BitVec 32 := Scalar.addi v397 c0_i32_310
  let v399 : BitVec 32 := v398
  let v400 : Index := Scalar.indexCast v399
  let c256_312 : Index := 256#32
  ![0, v400.toNat, 256]
def k0_off38 (i : grid0.Coords) (k0_t2 : Fin (k0_t2_loop i).trips) : Fin 4 → Nat :=
  let c0_325 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v413 : Index := Scalar.indexCast v341
  let c160_326 : Index := 160#32
  let c0_327 : Index := 0#32
  ![0, v413.toNat, 160, 0]
def k0_mult44 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_336 : BitVec 32 := 1#32
  let v423 : BitVec 32 := Scalar.addi v341 c1_i32_336
  let c512_i32_337 : BitVec 32 := 512#32
  let v424 : BitVec 32 := Scalar.muli v423 c512_i32_337
  let c0_i32_338 : BitVec 32 := 0#32
  let v425 : BitVec 32 := Scalar.addi v424 c0_i32_338
  v425
def k0_off39 (i : grid0.Coords) (k0_t2 : Fin (k0_t2_loop i).trips) : Fin 3 → Nat :=
  let c0_339 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_336 : BitVec 32 := 1#32
  let v423 : BitVec 32 := Scalar.addi v341 c1_i32_336
  let c512_i32_337 : BitVec 32 := 512#32
  let v424 : BitVec 32 := Scalar.muli v423 c512_i32_337
  let c0_i32_338 : BitVec 32 := 0#32
  let v425 : BitVec 32 := Scalar.addi v424 c0_i32_338
  let v426 : BitVec 32 := v425
  let v427 : Index := Scalar.indexCast v426
  let c384_340 : Index := 384#32
  ![0, v427.toNat, 384]
def k0_off40 (i : grid0.Coords) (k0_t2 : Fin (k0_t2_loop i).trips) : Fin 4 → Nat :=
  let c0_353 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v440 : Index := Scalar.indexCast v341
  let c240_354 : Index := 240#32
  let c0_355 : Index := 0#32
  ![0, v440.toNat, 240, 0]
def k0_mult45 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_364 : BitVec 32 := 1#32
  let v450 : BitVec 32 := Scalar.addi v341 c1_i32_364
  let c512_i32_365 : BitVec 32 := 512#32
  let v451 : BitVec 32 := Scalar.muli v450 c512_i32_365
  let c0_i32_366 : BitVec 32 := 0#32
  let v452 : BitVec 32 := Scalar.addi v451 c0_i32_366
  v452
def k0_off41 (i : grid0.Coords) (k0_t2 : Fin (k0_t2_loop i).trips) : Fin 3 → Nat :=
  let c0_367 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_364 : BitVec 32 := 1#32
  let v450 : BitVec 32 := Scalar.addi v341 c1_i32_364
  let c512_i32_365 : BitVec 32 := 512#32
  let v451 : BitVec 32 := Scalar.muli v450 c512_i32_365
  let c0_i32_366 : BitVec 32 := 0#32
  let v452 : BitVec 32 := Scalar.addi v451 c0_i32_366
  let v453 : BitVec 32 := v452
  let v454 : Index := Scalar.indexCast v453
  let c512 : Index := 512#32
  ![0, v454.toNat, 512]
def k0_off42 (i : grid0.Coords) (k0_t2 : Fin (k0_t2_loop i).trips) : Fin 4 → Nat :=
  let c0_380 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v467 : Index := Scalar.indexCast v341
  let c320_381 : Index := 320#32
  let c0_382 : Index := 0#32
  ![0, v467.toNat, 320, 0]
def k0_mult46 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_391 : BitVec 32 := 1#32
  let v477 : BitVec 32 := Scalar.addi v341 c1_i32_391
  let c512_i32_392 : BitVec 32 := 512#32
  let v478 : BitVec 32 := Scalar.muli v477 c512_i32_392
  let c0_i32_393 : BitVec 32 := 0#32
  let v479 : BitVec 32 := Scalar.addi v478 c0_i32_393
  v479
def k0_off43 (i : grid0.Coords) (k0_t2 : Fin (k0_t2_loop i).trips) : Fin 3 → Nat :=
  let c0_394 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_391 : BitVec 32 := 1#32
  let v477 : BitVec 32 := Scalar.addi v341 c1_i32_391
  let c512_i32_392 : BitVec 32 := 512#32
  let v478 : BitVec 32 := Scalar.muli v477 c512_i32_392
  let c0_i32_393 : BitVec 32 := 0#32
  let v479 : BitVec 32 := Scalar.addi v478 c0_i32_393
  let v480 : BitVec 32 := v479
  let v481 : Index := Scalar.indexCast v480
  let c640 : Index := 640#32
  ![0, v481.toNat, 640]
def k0_off44 (i : grid0.Coords) (k0_t2 : Fin (k0_t2_loop i).trips) : Fin 4 → Nat :=
  let c0_407 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v494 : Index := Scalar.indexCast v341
  let c400_408 : Index := 400#32
  let c0_409 : Index := 0#32
  ![0, v494.toNat, 400, 0]
def k0_mult47 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_418 : BitVec 32 := 1#32
  let v504 : BitVec 32 := Scalar.addi v341 c1_i32_418
  let c512_i32_419 : BitVec 32 := 512#32
  let v505 : BitVec 32 := Scalar.muli v504 c512_i32_419
  let c0_i32_420 : BitVec 32 := 0#32
  let v506 : BitVec 32 := Scalar.addi v505 c0_i32_420
  v506
def k0_off45 (i : grid0.Coords) (k0_t2 : Fin (k0_t2_loop i).trips) : Fin 3 → Nat :=
  let c0_421 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_418 : BitVec 32 := 1#32
  let v504 : BitVec 32 := Scalar.addi v341 c1_i32_418
  let c512_i32_419 : BitVec 32 := 512#32
  let v505 : BitVec 32 := Scalar.muli v504 c512_i32_419
  let c0_i32_420 : BitVec 32 := 0#32
  let v506 : BitVec 32 := Scalar.addi v505 c0_i32_420
  let v507 : BitVec 32 := v506
  let v508 : Index := Scalar.indexCast v507
  let c768 : Index := 768#32
  ![0, v508.toNat, 768]
def k0_off46 (i : grid0.Coords) (k0_t2 : Fin (k0_t2_loop i).trips) : Fin 4 → Nat :=
  let c0_434 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v521 : Index := Scalar.indexCast v341
  let c480_435 : Index := 480#32
  let c0_436 : Index := 0#32
  ![0, v521.toNat, 480, 0]
def k0_mult48 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_445 : BitVec 32 := 1#32
  let v531 : BitVec 32 := Scalar.addi v341 c1_i32_445
  let c512_i32_446 : BitVec 32 := 512#32
  let v532 : BitVec 32 := Scalar.muli v531 c512_i32_446
  let c0_i32_447 : BitVec 32 := 0#32
  let v533 : BitVec 32 := Scalar.addi v532 c0_i32_447
  v533
def k0_off47 (i : grid0.Coords) (k0_t2 : Fin (k0_t2_loop i).trips) : Fin 3 → Nat :=
  let c0_448 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_445 : BitVec 32 := 1#32
  let v531 : BitVec 32 := Scalar.addi v341 c1_i32_445
  let c512_i32_446 : BitVec 32 := 512#32
  let v532 : BitVec 32 := Scalar.muli v531 c512_i32_446
  let c0_i32_447 : BitVec 32 := 0#32
  let v533 : BitVec 32 := Scalar.addi v532 c0_i32_447
  let v534 : BitVec 32 := v533
  let v535 : Index := Scalar.indexCast v534
  let c896 : Index := 896#32
  ![0, v535.toNat, 896]
def k0_off48 (i : grid0.Coords) (k0_t2 : Fin (k0_t2_loop i).trips) : Fin 4 → Nat :=
  let c0_461 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let v548 : Index := Scalar.indexCast v341
  let c560_462 : Index := 560#32
  let c0_463 : Index := 0#32
  ![0, v548.toNat, 560, 0]
def k0_mult49 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_473 : BitVec 32 := 1#32
  let v559 : BitVec 32 := Scalar.addi v558 c1_i32_473
  let c512_i32_474 : BitVec 32 := 512#32
  let v560 : BitVec 32 := Scalar.muli v559 c512_i32_474
  let c0_i32_475 : BitVec 32 := 0#32
  let v561 : BitVec 32 := Scalar.addi v560 c0_i32_475
  v561
def k0_off49 (i : grid0.Coords) (k0_t2 : Fin (k0_t2_loop i).trips) : Fin 3 → Nat :=
  let c0_476 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_473 : BitVec 32 := 1#32
  let v559 : BitVec 32 := Scalar.addi v558 c1_i32_473
  let c512_i32_474 : BitVec 32 := 512#32
  let v560 : BitVec 32 := Scalar.muli v559 c512_i32_474
  let c0_i32_475 : BitVec 32 := 0#32
  let v561 : BitVec 32 := Scalar.addi v560 c0_i32_475
  let v562 : BitVec 32 := v561
  let v563 : Index := Scalar.indexCast v562
  let c0_477 : Index := 0#32
  ![0, v563.toNat, 0]
def k0_off50 (i : grid0.Coords) (k0_t2 : Fin (k0_t2_loop i).trips) : Fin 4 → Nat :=
  let c0_490 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v576 : Index := Scalar.indexCast v558
  let c0_491 : Index := 0#32
  let c0_492 : Index := 0#32
  ![0, v576.toNat, 0, 0]
def k0_mult50 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_501 : BitVec 32 := 1#32
  let v586 : BitVec 32 := Scalar.addi v558 c1_i32_501
  let c512_i32_502 : BitVec 32 := 512#32
  let v587 : BitVec 32 := Scalar.muli v586 c512_i32_502
  let c0_i32_503 : BitVec 32 := 0#32
  let v588 : BitVec 32 := Scalar.addi v587 c0_i32_503
  v588
def k0_off51 (i : grid0.Coords) (k0_t2 : Fin (k0_t2_loop i).trips) : Fin 3 → Nat :=
  let c0_504 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_501 : BitVec 32 := 1#32
  let v586 : BitVec 32 := Scalar.addi v558 c1_i32_501
  let c512_i32_502 : BitVec 32 := 512#32
  let v587 : BitVec 32 := Scalar.muli v586 c512_i32_502
  let c0_i32_503 : BitVec 32 := 0#32
  let v588 : BitVec 32 := Scalar.addi v587 c0_i32_503
  let v589 : BitVec 32 := v588
  let v590 : Index := Scalar.indexCast v589
  let c128_505 : Index := 128#32
  ![0, v590.toNat, 128]
def k0_off52 (i : grid0.Coords) (k0_t2 : Fin (k0_t2_loop i).trips) : Fin 4 → Nat :=
  let c0_518 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v603 : Index := Scalar.indexCast v558
  let c80_519 : Index := 80#32
  let c0_520 : Index := 0#32
  ![0, v603.toNat, 80, 0]
def k0_mult51 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_529 : BitVec 32 := 1#32
  let v613 : BitVec 32 := Scalar.addi v558 c1_i32_529
  let c512_i32_530 : BitVec 32 := 512#32
  let v614 : BitVec 32 := Scalar.muli v613 c512_i32_530
  let c0_i32_531 : BitVec 32 := 0#32
  let v615 : BitVec 32 := Scalar.addi v614 c0_i32_531
  v615
def k0_off53 (i : grid0.Coords) (k0_t2 : Fin (k0_t2_loop i).trips) : Fin 3 → Nat :=
  let c0_532 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_529 : BitVec 32 := 1#32
  let v613 : BitVec 32 := Scalar.addi v558 c1_i32_529
  let c512_i32_530 : BitVec 32 := 512#32
  let v614 : BitVec 32 := Scalar.muli v613 c512_i32_530
  let c0_i32_531 : BitVec 32 := 0#32
  let v615 : BitVec 32 := Scalar.addi v614 c0_i32_531
  let v616 : BitVec 32 := v615
  let v617 : Index := Scalar.indexCast v616
  let c256_533 : Index := 256#32
  ![0, v617.toNat, 256]
def k0_off54 (i : grid0.Coords) (k0_t2 : Fin (k0_t2_loop i).trips) : Fin 4 → Nat :=
  let c0_546 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v630 : Index := Scalar.indexCast v558
  let c160_547 : Index := 160#32
  let c0_548 : Index := 0#32
  ![0, v630.toNat, 160, 0]
def k0_mult52 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_557 : BitVec 32 := 1#32
  let v640 : BitVec 32 := Scalar.addi v558 c1_i32_557
  let c512_i32_558 : BitVec 32 := 512#32
  let v641 : BitVec 32 := Scalar.muli v640 c512_i32_558
  let c0_i32_559 : BitVec 32 := 0#32
  let v642 : BitVec 32 := Scalar.addi v641 c0_i32_559
  v642
def k0_off55 (i : grid0.Coords) (k0_t2 : Fin (k0_t2_loop i).trips) : Fin 3 → Nat :=
  let c0_560 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_557 : BitVec 32 := 1#32
  let v640 : BitVec 32 := Scalar.addi v558 c1_i32_557
  let c512_i32_558 : BitVec 32 := 512#32
  let v641 : BitVec 32 := Scalar.muli v640 c512_i32_558
  let c0_i32_559 : BitVec 32 := 0#32
  let v642 : BitVec 32 := Scalar.addi v641 c0_i32_559
  let v643 : BitVec 32 := v642
  let v644 : Index := Scalar.indexCast v643
  let c384_561 : Index := 384#32
  ![0, v644.toNat, 384]
def k0_off56 (i : grid0.Coords) (k0_t2 : Fin (k0_t2_loop i).trips) : Fin 4 → Nat :=
  let c0_574 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v657 : Index := Scalar.indexCast v558
  let c240_575 : Index := 240#32
  let c0_576 : Index := 0#32
  ![0, v657.toNat, 240, 0]
def k0_mult53 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_585 : BitVec 32 := 1#32
  let v667 : BitVec 32 := Scalar.addi v558 c1_i32_585
  let c512_i32_586 : BitVec 32 := 512#32
  let v668 : BitVec 32 := Scalar.muli v667 c512_i32_586
  let c0_i32_587 : BitVec 32 := 0#32
  let v669 : BitVec 32 := Scalar.addi v668 c0_i32_587
  v669
def k0_off57 (i : grid0.Coords) (k0_t2 : Fin (k0_t2_loop i).trips) : Fin 3 → Nat :=
  let c0_588 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_585 : BitVec 32 := 1#32
  let v667 : BitVec 32 := Scalar.addi v558 c1_i32_585
  let c512_i32_586 : BitVec 32 := 512#32
  let v668 : BitVec 32 := Scalar.muli v667 c512_i32_586
  let c0_i32_587 : BitVec 32 := 0#32
  let v669 : BitVec 32 := Scalar.addi v668 c0_i32_587
  let v670 : BitVec 32 := v669
  let v671 : Index := Scalar.indexCast v670
  let c512_589 : Index := 512#32
  ![0, v671.toNat, 512]
def k0_off58 (i : grid0.Coords) (k0_t2 : Fin (k0_t2_loop i).trips) : Fin 4 → Nat :=
  let c0_602 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v684 : Index := Scalar.indexCast v558
  let c320_603 : Index := 320#32
  let c0_604 : Index := 0#32
  ![0, v684.toNat, 320, 0]
def k0_mult54 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_613 : BitVec 32 := 1#32
  let v694 : BitVec 32 := Scalar.addi v558 c1_i32_613
  let c512_i32_614 : BitVec 32 := 512#32
  let v695 : BitVec 32 := Scalar.muli v694 c512_i32_614
  let c0_i32_615 : BitVec 32 := 0#32
  let v696 : BitVec 32 := Scalar.addi v695 c0_i32_615
  v696
def k0_off59 (i : grid0.Coords) (k0_t2 : Fin (k0_t2_loop i).trips) : Fin 3 → Nat :=
  let c0_616 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_613 : BitVec 32 := 1#32
  let v694 : BitVec 32 := Scalar.addi v558 c1_i32_613
  let c512_i32_614 : BitVec 32 := 512#32
  let v695 : BitVec 32 := Scalar.muli v694 c512_i32_614
  let c0_i32_615 : BitVec 32 := 0#32
  let v696 : BitVec 32 := Scalar.addi v695 c0_i32_615
  let v697 : BitVec 32 := v696
  let v698 : Index := Scalar.indexCast v697
  let c640_617 : Index := 640#32
  ![0, v698.toNat, 640]
def k0_off60 (i : grid0.Coords) (k0_t2 : Fin (k0_t2_loop i).trips) : Fin 4 → Nat :=
  let c0_630 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v711 : Index := Scalar.indexCast v558
  let c400_631 : Index := 400#32
  let c0_632 : Index := 0#32
  ![0, v711.toNat, 400, 0]
def k0_mult55 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_641 : BitVec 32 := 1#32
  let v721 : BitVec 32 := Scalar.addi v558 c1_i32_641
  let c512_i32_642 : BitVec 32 := 512#32
  let v722 : BitVec 32 := Scalar.muli v721 c512_i32_642
  let c0_i32_643 : BitVec 32 := 0#32
  let v723 : BitVec 32 := Scalar.addi v722 c0_i32_643
  v723
def k0_off61 (i : grid0.Coords) (k0_t2 : Fin (k0_t2_loop i).trips) : Fin 3 → Nat :=
  let c0_644 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_641 : BitVec 32 := 1#32
  let v721 : BitVec 32 := Scalar.addi v558 c1_i32_641
  let c512_i32_642 : BitVec 32 := 512#32
  let v722 : BitVec 32 := Scalar.muli v721 c512_i32_642
  let c0_i32_643 : BitVec 32 := 0#32
  let v723 : BitVec 32 := Scalar.addi v722 c0_i32_643
  let v724 : BitVec 32 := v723
  let v725 : Index := Scalar.indexCast v724
  let c768_645 : Index := 768#32
  ![0, v725.toNat, 768]
def k0_off62 (i : grid0.Coords) (k0_t2 : Fin (k0_t2_loop i).trips) : Fin 4 → Nat :=
  let c0_658 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v738 : Index := Scalar.indexCast v558
  let c480_659 : Index := 480#32
  let c0_660 : Index := 0#32
  ![0, v738.toNat, 480, 0]
def k0_mult56 (i : grid0.Coords) (k0_t2 : Fin (k0_t2_loop i).trips) : BitVec 32 :=
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_669 : BitVec 32 := 1#32
  let v748 : BitVec 32 := Scalar.addi v558 c1_i32_669
  let c512_i32_670 : BitVec 32 := 512#32
  let v749 : BitVec 32 := Scalar.muli v748 c512_i32_670
  let c0_i32_671 : BitVec 32 := 0#32
  let v750 : BitVec 32 := Scalar.addi v749 c0_i32_671
  v750
def k0_off63 (i : grid0.Coords) (k0_t2 : Fin (k0_t2_loop i).trips) : Fin 3 → Nat :=
  let c0_672 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let c1_i32_669 : BitVec 32 := 1#32
  let v748 : BitVec 32 := Scalar.addi v558 c1_i32_669
  let c512_i32_670 : BitVec 32 := 512#32
  let v749 : BitVec 32 := Scalar.muli v748 c512_i32_670
  let c0_i32_671 : BitVec 32 := 0#32
  let v750 : BitVec 32 := Scalar.addi v749 c0_i32_671
  let v751 : BitVec 32 := v750
  let v752 : Index := Scalar.indexCast v751
  let c896_673 : Index := 896#32
  ![0, v752.toNat, 896]
def k0_off64 (i : grid0.Coords) (k0_t2 : Fin (k0_t2_loop i).trips) : Fin 4 → Nat :=
  let c0_686 : Index := 0#32
  let arg1 : BitVec 32 := BitVec.ofNat 32 (i 1).val
  let c1_i32 : BitVec 32 := 1#32
  let v10 : BitVec 32 := Scalar.subi arg1 c1_i32
  let c0_i32_5 : BitVec 32 := 0#32
  let v11 : BitVec 32 := Scalar.maxsi v10 c0_i32_5
  let c2_i32_246 : BitVec 32 := 2#32
  let c0_i32_247 : BitVec 32 := 0#32
  let v330 : BitVec 1 := Scalar.cmpi .eq c2_i32_246 c0_i32_247
  let c1_i32_248 : BitVec 32 := 1#32
  let v331 : BitVec 32 := Scalar.select v330 c1_i32_248 c2_i32_246
  let v332 : BitVec 32 := Scalar.remsi v11 v331
  let c0_i32_250 : BitVec 32 := 0#32
  let v334 : BitVec 1 := Scalar.cmpi .slt v332 c0_i32_250
  let c0_i32_251 : BitVec 32 := 0#32
  let v335 : BitVec 1 := Scalar.cmpi .slt v331 c0_i32_251
  let v336 : BitVec 1 := Scalar.xori v334 v335
  let c0_i32_249 : BitVec 32 := 0#32
  let v333 : BitVec 1 := Scalar.cmpi .ne v332 c0_i32_249
  let v337 : BitVec 1 := Scalar.andi v336 v333
  let v338 : BitVec 32 := Scalar.addi v332 v331
  let v339 : BitVec 32 := Scalar.select v337 v338 v332
  let c2_i32_252 : BitVec 32 := 2#32
  let c0_i32_21 : BitVec 32 := 0#32
  let c0_i32_14 : BitVec 32 := 0#32
  let v26 : BitVec 1 := Scalar.cmpi .sgt v11 c0_i32_14
  let v27 : BitVec 32 := Scalar.extui v26
  let c0_i32_15 : BitVec 32 := 0#32
  let v28 : BitVec 1 := Scalar.cmpi .slt v11 c0_i32_15
  let v29 : BitVec 32 := Scalar.extui v28
  let v30 : BitVec 32 := Scalar.subi v27 v29
  let c2_i32_13 : BitVec 32 := 2#32
  let c0_i32_16 : BitVec 32 := 0#32
  let v31 : BitVec 1 := Scalar.cmpi .sgt c2_i32_13 c0_i32_16
  let v32 : BitVec 32 := Scalar.extui v31
  let c0_i32_17 : BitVec 32 := 0#32
  let v33 : BitVec 1 := Scalar.cmpi .slt c2_i32_13 c0_i32_17
  let v34 : BitVec 32 := Scalar.extui v33
  let v35 : BitVec 32 := Scalar.subi v32 v34
  let v36 : BitVec 1 := Scalar.cmpi .ne v30 v35
  let v37 : BitVec 32 := Scalar.remsi v11 c2_i32_13
  let c0_i32_18 : BitVec 32 := 0#32
  let v38 : BitVec 1 := Scalar.cmpi .ne v37 c0_i32_18
  let v39 : BitVec 1 := Scalar.andi v36 v38
  let v25 : BitVec 32 := Scalar.divsi v11 c2_i32_13
  let c1_i32_19 : BitVec 32 := 1#32
  let v40 : BitVec 32 := Scalar.subi v25 c1_i32_19
  let v41 : BitVec 32 := Scalar.select v39 v40 v25
  let v42 : BitVec 32 := Scalar.subi v41 c0_i32_21
  let c1_i32_22 : BitVec 32 := 1#32
  let v44 : BitVec 32 := Scalar.divsi v42 c1_i32_22
  let v45 : BitVec 32 := Scalar.muli v44 c1_i32_22
  let v46 : BitVec 32 := Scalar.addi c0_i32_21 v45
  let c1_i32_24 : BitVec 32 := 1#32
  let arg8 : BitVec 32 := Scf.iv v46 c1_i32_24 k0_t2
  let v340 : BitVec 32 := Scalar.muli c2_i32_252 arg8
  let v341 : BitVec 32 := Scalar.addi v339 v340
  let c1_i32_472 : BitVec 32 := 1#32
  let v558 : BitVec 32 := Scalar.addi v341 c1_i32_472
  let v765 : Index := Scalar.indexCast v558
  let c560_687 : Index := 560#32
  let c0_688 : Index := 0#32
  ![0, v765.toNat, 560, 0]
def k0_cond4 (i : grid0.Coords) : BitVec 1 :=
  let arg1 : BitVec 32 := BitVec.ofNat 32 (i 1).val
  let c0_i32_25 : BitVec 32 := 0#32
  let v47 : BitVec 1 := Scalar.cmpi .sgt arg1 c0_i32_25
  let v48 : BitVec 32 := Scalar.extui v47
  let c0_i32_26 : BitVec 32 := 0#32
  let v49 : BitVec 1 := Scalar.cmpi .ne v48 c0_i32_26
  v49

def k0_mult57 (i : grid0.Coords) : BitVec 32 :=
  let arg1 : BitVec 32 := BitVec.ofNat 32 (i 1).val
  let c512_i32 : BitVec 32 := 512#32
  let v330 : BitVec 32 := Scalar.muli arg1 c512_i32
  let c0_i32_246 : BitVec 32 := 0#32
  let v331 : BitVec 32 := Scalar.addi v330 c0_i32_246
  v331
def k0_off65 (i : grid0.Coords) (c0_i32_246 : BitVec 32) : Fin 3 → Nat :=
  let c0_247 : Index := 0#32
  let arg1 : BitVec 32 := BitVec.ofNat 32 (i 1).val
  let c512_i32 : BitVec 32 := 512#32
  let v330 : BitVec 32 := Scalar.muli arg1 c512_i32
  let v331 : BitVec 32 := Scalar.addi v330 c0_i32_246
  let v332 : BitVec 32 := v331
  let v333 : Index := Scalar.indexCast v332
  let c0_248 : Index := 0#32
  ![0, v333.toNat, 0]
def k0_mult58 (i : grid0.Coords) : BitVec 32 :=
  let arg1 : BitVec 32 := BitVec.ofNat 32 (i 1).val
  let c512_i32_262 : BitVec 32 := 512#32
  let v357 : BitVec 32 := Scalar.muli arg1 c512_i32_262
  let c256_i32 : BitVec 32 := 256#32
  let v358 : BitVec 32 := Scalar.addi v357 c256_i32
  v358
def k0_off66 (i : grid0.Coords) : Fin 4 → Nat :=
  let c0_282 : Index := 0#32
  let arg1 : BitVec 32 := BitVec.ofNat 32 (i 1).val
  let c1_i32_281 : BitVec 32 := 1#32
  let v386 : BitVec 32 := Scalar.subi arg1 c1_i32_281
  let v387 : Index := Scalar.indexCast v386
  let c0_283 : Index := 0#32
  let c0_284 : Index := 0#32
  ![0, v387.toNat, 0, 0]
def k0_mult59 (i : grid0.Coords) : BitVec 32 :=
  let arg1 : BitVec 32 := BitVec.ofNat 32 (i 1).val
  let c512_i32_293 : BitVec 32 := 512#32
  let v397 : BitVec 32 := Scalar.muli arg1 c512_i32_293
  let c0_i32_294 : BitVec 32 := 0#32
  let v398 : BitVec 32 := Scalar.addi v397 c0_i32_294
  v398
def k0_off67 (i : grid0.Coords) (c0_i32_294 : BitVec 32) : Fin 3 → Nat :=
  let c0_295 : Index := 0#32
  let arg1 : BitVec 32 := BitVec.ofNat 32 (i 1).val
  let c512_i32_293 : BitVec 32 := 512#32
  let v397 : BitVec 32 := Scalar.muli arg1 c512_i32_293
  let v398 : BitVec 32 := Scalar.addi v397 c0_i32_294
  let v399 : BitVec 32 := v398
  let v400 : Index := Scalar.indexCast v399
  let c128_296 : Index := 128#32
  ![0, v400.toNat, 128]
def k0_mult60 (i : grid0.Coords) : BitVec 32 :=
  let arg1 : BitVec 32 := BitVec.ofNat 32 (i 1).val
  let c512_i32_310 : BitVec 32 := 512#32
  let v424 : BitVec 32 := Scalar.muli arg1 c512_i32_310
  let c256_i32_311 : BitVec 32 := 256#32
  let v425 : BitVec 32 := Scalar.addi v424 c256_i32_311
  v425
def k0_off68 (i : grid0.Coords) : Fin 4 → Nat :=
  let c0_331 : Index := 0#32
  let arg1 : BitVec 32 := BitVec.ofNat 32 (i 1).val
  let c1_i32_330 : BitVec 32 := 1#32
  let v453 : BitVec 32 := Scalar.subi arg1 c1_i32_330
  let v454 : Index := Scalar.indexCast v453
  let c80_332 : Index := 80#32
  let c0_333 : Index := 0#32
  ![0, v454.toNat, 80, 0]
def k0_mult61 (i : grid0.Coords) : BitVec 32 :=
  let arg1 : BitVec 32 := BitVec.ofNat 32 (i 1).val
  let c512_i32_342 : BitVec 32 := 512#32
  let v464 : BitVec 32 := Scalar.muli arg1 c512_i32_342
  let c0_i32_343 : BitVec 32 := 0#32
  let v465 : BitVec 32 := Scalar.addi v464 c0_i32_343
  v465
def k0_off69 (i : grid0.Coords) (c0_i32_343 : BitVec 32) : Fin 3 → Nat :=
  let c0_344 : Index := 0#32
  let arg1 : BitVec 32 := BitVec.ofNat 32 (i 1).val
  let c512_i32_342 : BitVec 32 := 512#32
  let v464 : BitVec 32 := Scalar.muli arg1 c512_i32_342
  let v465 : BitVec 32 := Scalar.addi v464 c0_i32_343
  let v466 : BitVec 32 := v465
  let v467 : Index := Scalar.indexCast v466
  let c256_345 : Index := 256#32
  ![0, v467.toNat, 256]
def k0_mult62 (i : grid0.Coords) : BitVec 32 :=
  let arg1 : BitVec 32 := BitVec.ofNat 32 (i 1).val
  let c512_i32_359 : BitVec 32 := 512#32
  let v491 : BitVec 32 := Scalar.muli arg1 c512_i32_359
  let c256_i32_360 : BitVec 32 := 256#32
  let v492 : BitVec 32 := Scalar.addi v491 c256_i32_360
  v492
def k0_off70 (i : grid0.Coords) : Fin 4 → Nat :=
  let c0_380 : Index := 0#32
  let arg1 : BitVec 32 := BitVec.ofNat 32 (i 1).val
  let c1_i32_379 : BitVec 32 := 1#32
  let v520 : BitVec 32 := Scalar.subi arg1 c1_i32_379
  let v521 : Index := Scalar.indexCast v520
  let c160_381 : Index := 160#32
  let c0_382 : Index := 0#32
  ![0, v521.toNat, 160, 0]
def k0_mult63 (i : grid0.Coords) : BitVec 32 :=
  let arg1 : BitVec 32 := BitVec.ofNat 32 (i 1).val
  let c512_i32_391 : BitVec 32 := 512#32
  let v531 : BitVec 32 := Scalar.muli arg1 c512_i32_391
  let c0_i32_392 : BitVec 32 := 0#32
  let v532 : BitVec 32 := Scalar.addi v531 c0_i32_392
  v532
def k0_off71 (i : grid0.Coords) (c0_i32_392 : BitVec 32) : Fin 3 → Nat :=
  let c0_393 : Index := 0#32
  let arg1 : BitVec 32 := BitVec.ofNat 32 (i 1).val
  let c512_i32_391 : BitVec 32 := 512#32
  let v531 : BitVec 32 := Scalar.muli arg1 c512_i32_391
  let v532 : BitVec 32 := Scalar.addi v531 c0_i32_392
  let v533 : BitVec 32 := v532
  let v534 : Index := Scalar.indexCast v533
  let c384_394 : Index := 384#32
  ![0, v534.toNat, 384]
def k0_mult64 (i : grid0.Coords) : BitVec 32 :=
  let arg1 : BitVec 32 := BitVec.ofNat 32 (i 1).val
  let c512_i32_408 : BitVec 32 := 512#32
  let v558 : BitVec 32 := Scalar.muli arg1 c512_i32_408
  let c256_i32_409 : BitVec 32 := 256#32
  let v559 : BitVec 32 := Scalar.addi v558 c256_i32_409
  v559
def k0_off72 (i : grid0.Coords) : Fin 4 → Nat :=
  let c0_429 : Index := 0#32
  let arg1 : BitVec 32 := BitVec.ofNat 32 (i 1).val
  let c1_i32_428 : BitVec 32 := 1#32
  let v587 : BitVec 32 := Scalar.subi arg1 c1_i32_428
  let v588 : Index := Scalar.indexCast v587
  let c240_430 : Index := 240#32
  let c0_431 : Index := 0#32
  ![0, v588.toNat, 240, 0]
def k0_mult65 (i : grid0.Coords) : BitVec 32 :=
  let arg1 : BitVec 32 := BitVec.ofNat 32 (i 1).val
  let c512_i32_440 : BitVec 32 := 512#32
  let v598 : BitVec 32 := Scalar.muli arg1 c512_i32_440
  let c0_i32_441 : BitVec 32 := 0#32
  let v599 : BitVec 32 := Scalar.addi v598 c0_i32_441
  v599
def k0_off73 (i : grid0.Coords) (c0_i32_441 : BitVec 32) : Fin 3 → Nat :=
  let c0_442 : Index := 0#32
  let arg1 : BitVec 32 := BitVec.ofNat 32 (i 1).val
  let c512_i32_440 : BitVec 32 := 512#32
  let v598 : BitVec 32 := Scalar.muli arg1 c512_i32_440
  let v599 : BitVec 32 := Scalar.addi v598 c0_i32_441
  let v600 : BitVec 32 := v599
  let v601 : Index := Scalar.indexCast v600
  let c512 : Index := 512#32
  ![0, v601.toNat, 512]
def k0_mult66 (i : grid0.Coords) : BitVec 32 :=
  let arg1 : BitVec 32 := BitVec.ofNat 32 (i 1).val
  let c512_i32_456 : BitVec 32 := 512#32
  let v625 : BitVec 32 := Scalar.muli arg1 c512_i32_456
  let c256_i32_457 : BitVec 32 := 256#32
  let v626 : BitVec 32 := Scalar.addi v625 c256_i32_457
  v626
def k0_off74 (i : grid0.Coords) : Fin 4 → Nat :=
  let c0_477 : Index := 0#32
  let arg1 : BitVec 32 := BitVec.ofNat 32 (i 1).val
  let c1_i32_476 : BitVec 32 := 1#32
  let v654 : BitVec 32 := Scalar.subi arg1 c1_i32_476
  let v655 : Index := Scalar.indexCast v654
  let c320_478 : Index := 320#32
  let c0_479 : Index := 0#32
  ![0, v655.toNat, 320, 0]
def k0_mult67 (i : grid0.Coords) : BitVec 32 :=
  let arg1 : BitVec 32 := BitVec.ofNat 32 (i 1).val
  let c512_i32_488 : BitVec 32 := 512#32
  let v665 : BitVec 32 := Scalar.muli arg1 c512_i32_488
  let c0_i32_489 : BitVec 32 := 0#32
  let v666 : BitVec 32 := Scalar.addi v665 c0_i32_489
  v666
def k0_off75 (i : grid0.Coords) (c0_i32_489 : BitVec 32) : Fin 3 → Nat :=
  let c0_490 : Index := 0#32
  let arg1 : BitVec 32 := BitVec.ofNat 32 (i 1).val
  let c512_i32_488 : BitVec 32 := 512#32
  let v665 : BitVec 32 := Scalar.muli arg1 c512_i32_488
  let v666 : BitVec 32 := Scalar.addi v665 c0_i32_489
  let v667 : BitVec 32 := v666
  let v668 : Index := Scalar.indexCast v667
  let c640 : Index := 640#32
  ![0, v668.toNat, 640]
def k0_mult68 (i : grid0.Coords) : BitVec 32 :=
  let arg1 : BitVec 32 := BitVec.ofNat 32 (i 1).val
  let c512_i32_504 : BitVec 32 := 512#32
  let v692 : BitVec 32 := Scalar.muli arg1 c512_i32_504
  let c256_i32_505 : BitVec 32 := 256#32
  let v693 : BitVec 32 := Scalar.addi v692 c256_i32_505
  v693
def k0_off76 (i : grid0.Coords) : Fin 4 → Nat :=
  let c0_525 : Index := 0#32
  let arg1 : BitVec 32 := BitVec.ofNat 32 (i 1).val
  let c1_i32_524 : BitVec 32 := 1#32
  let v721 : BitVec 32 := Scalar.subi arg1 c1_i32_524
  let v722 : Index := Scalar.indexCast v721
  let c400_526 : Index := 400#32
  let c0_527 : Index := 0#32
  ![0, v722.toNat, 400, 0]
def k0_mult69 (i : grid0.Coords) : BitVec 32 :=
  let arg1 : BitVec 32 := BitVec.ofNat 32 (i 1).val
  let c512_i32_536 : BitVec 32 := 512#32
  let v732 : BitVec 32 := Scalar.muli arg1 c512_i32_536
  let c0_i32_537 : BitVec 32 := 0#32
  let v733 : BitVec 32 := Scalar.addi v732 c0_i32_537
  v733
def k0_off77 (i : grid0.Coords) (c0_i32_537 : BitVec 32) : Fin 3 → Nat :=
  let c0_538 : Index := 0#32
  let arg1 : BitVec 32 := BitVec.ofNat 32 (i 1).val
  let c512_i32_536 : BitVec 32 := 512#32
  let v732 : BitVec 32 := Scalar.muli arg1 c512_i32_536
  let v733 : BitVec 32 := Scalar.addi v732 c0_i32_537
  let v734 : BitVec 32 := v733
  let v735 : Index := Scalar.indexCast v734
  let c768 : Index := 768#32
  ![0, v735.toNat, 768]
def k0_mult70 (i : grid0.Coords) : BitVec 32 :=
  let arg1 : BitVec 32 := BitVec.ofNat 32 (i 1).val
  let c512_i32_552 : BitVec 32 := 512#32
  let v759 : BitVec 32 := Scalar.muli arg1 c512_i32_552
  let c256_i32_553 : BitVec 32 := 256#32
  let v760 : BitVec 32 := Scalar.addi v759 c256_i32_553
  v760
def k0_off78 (i : grid0.Coords) : Fin 4 → Nat :=
  let c0_573 : Index := 0#32
  let arg1 : BitVec 32 := BitVec.ofNat 32 (i 1).val
  let c1_i32_572 : BitVec 32 := 1#32
  let v788 : BitVec 32 := Scalar.subi arg1 c1_i32_572
  let v789 : Index := Scalar.indexCast v788
  let c480_574 : Index := 480#32
  let c0_575 : Index := 0#32
  ![0, v789.toNat, 480, 0]
def k0_mult71 (i : grid0.Coords) : BitVec 32 :=
  let arg1 : BitVec 32 := BitVec.ofNat 32 (i 1).val
  let c512_i32_584 : BitVec 32 := 512#32
  let v799 : BitVec 32 := Scalar.muli arg1 c512_i32_584
  let c0_i32_585 : BitVec 32 := 0#32
  let v800 : BitVec 32 := Scalar.addi v799 c0_i32_585
  v800
def k0_off79 (i : grid0.Coords) (c0_i32_585 : BitVec 32) : Fin 3 → Nat :=
  let c0_586 : Index := 0#32
  let arg1 : BitVec 32 := BitVec.ofNat 32 (i 1).val
  let c512_i32_584 : BitVec 32 := 512#32
  let v799 : BitVec 32 := Scalar.muli arg1 c512_i32_584
  let v800 : BitVec 32 := Scalar.addi v799 c0_i32_585
  let v801 : BitVec 32 := v800
  let v802 : Index := Scalar.indexCast v801
  let c896 : Index := 896#32
  ![0, v802.toNat, 896]
def k0_mult72 (i : grid0.Coords) : BitVec 32 :=
  let arg1 : BitVec 32 := BitVec.ofNat 32 (i 1).val
  let c512_i32_600 : BitVec 32 := 512#32
  let v826 : BitVec 32 := Scalar.muli arg1 c512_i32_600
  let c256_i32_601 : BitVec 32 := 256#32
  let v827 : BitVec 32 := Scalar.addi v826 c256_i32_601
  v827
def k0_off80 (i : grid0.Coords) : Fin 4 → Nat :=
  let c0_621 : Index := 0#32
  let arg1 : BitVec 32 := BitVec.ofNat 32 (i 1).val
  let c1_i32_620 : BitVec 32 := 1#32
  let v855 : BitVec 32 := Scalar.subi arg1 c1_i32_620
  let v856 : Index := Scalar.indexCast v855
  let c560_622 : Index := 560#32
  let c0_623 : Index := 0#32
  ![0, v856.toNat, 560, 0]
def k0_off81 (i : grid0.Coords) : Fin 4 → Nat :=
  let c0_27 : Index := 0#32
  let arg1 : BitVec 32 := BitVec.ofNat 32 (i 1).val
  let v50 : Index := Scalar.indexCast arg1
  let c0_28 : Index := 0#32
  let c0_29 : Index := 0#32
  ![0, v50.toNat, 0, 0]
def k0_off82 (i : grid0.Coords) : Fin 4 → Nat :=
  let c0_51 : Index := 0#32
  let arg1 : BitVec 32 := BitVec.ofNat 32 (i 1).val
  let v76 : Index := Scalar.indexCast arg1
  let c80 : Index := 80#32
  let c0_52 : Index := 0#32
  ![0, v76.toNat, 80, 0]
def k0_off83 (i : grid0.Coords) : Fin 4 → Nat :=
  let c0_74 : Index := 0#32
  let arg1 : BitVec 32 := BitVec.ofNat 32 (i 1).val
  let v102 : Index := Scalar.indexCast arg1
  let c160 : Index := 160#32
  let c0_75 : Index := 0#32
  ![0, v102.toNat, 160, 0]
def k0_off84 (i : grid0.Coords) : Fin 4 → Nat :=
  let c0_97 : Index := 0#32
  let arg1 : BitVec 32 := BitVec.ofNat 32 (i 1).val
  let v128 : Index := Scalar.indexCast arg1
  let c240 : Index := 240#32
  let c0_98 : Index := 0#32
  ![0, v128.toNat, 240, 0]
def k0_off85 (i : grid0.Coords) : Fin 4 → Nat :=
  let c0_120 : Index := 0#32
  let arg1 : BitVec 32 := BitVec.ofNat 32 (i 1).val
  let v154 : Index := Scalar.indexCast arg1
  let c320 : Index := 320#32
  let c0_121 : Index := 0#32
  ![0, v154.toNat, 320, 0]
def k0_off86 (i : grid0.Coords) : Fin 4 → Nat :=
  let c0_143 : Index := 0#32
  let arg1 : BitVec 32 := BitVec.ofNat 32 (i 1).val
  let v180 : Index := Scalar.indexCast arg1
  let c400 : Index := 400#32
  let c0_144 : Index := 0#32
  ![0, v180.toNat, 400, 0]
def k0_off87 (i : grid0.Coords) : Fin 4 → Nat :=
  let c0_166 : Index := 0#32
  let arg1 : BitVec 32 := BitVec.ofNat 32 (i 1).val
  let v206 : Index := Scalar.indexCast arg1
  let c480 : Index := 480#32
  let c0_167 : Index := 0#32
  ![0, v206.toNat, 480, 0]
def k0_off88 (i : grid0.Coords) : Fin 4 → Nat :=
  let c0_189 : Index := 0#32
  let arg1 : BitVec 32 := BitVec.ofNat 32 (i 1).val
  let v232 : Index := Scalar.indexCast arg1
  let c560 : Index := 560#32
  let c0_190 : Index := 0#32
  ![0, v232.toNat, 560, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8x4096x64 : Shape := ⟨4, ![8, 8, 4096, 64]⟩
abbrev S8x8x4096 : Shape := ⟨3, ![8, 8, 4096]⟩
abbrev S_ : Shape := ⟨0, ![]⟩
abbrev S8x8x4096x4096 : Shape := ⟨4, ![8, 8, 4096, 4096]⟩
abbrev S8x8x4096x1 : Shape := ⟨4, ![8, 8, 4096, 1]⟩
abbrev S8x8x1x4096 : Shape := ⟨4, ![8, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096x8x64 : Shape := ⟨4, ![8, 4096, 8, 64]⟩
abbrev S8x4096x512 : Shape := ⟨3, ![8, 4096, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x8x4096x64, .f32⟩
  | .hbm, ⟨1, _⟩ => ⟨S8x8x4096x64, .f32⟩
  | .hbm, ⟨2, _⟩ => ⟨S8x8x4096x64, .f32⟩
  | .hbm, ⟨3, _⟩ => ⟨S8x8x4096, .f32⟩
  | .hbm, ⟨4, _⟩ => ⟨S_, .f32⟩
  | .hbm, ⟨5, _⟩ => ⟨S_, .f32⟩
  | .hbm, ⟨6, _⟩ => ⟨S8x8x4096, .f32⟩
  | .hbm, ⟨7, _⟩ => ⟨S8x8x4096x4096, .f32⟩
  | .hbm, ⟨8, _⟩ => ⟨S_, .f32⟩
  | .hbm, ⟨9, _⟩ => ⟨S8x8x4096x4096, .f32⟩
  | .hbm, ⟨10, _⟩ => ⟨S8x8x4096x4096, .f32⟩
  | .hbm, ⟨11, _⟩ => ⟨S8x8x4096x1, .f32⟩
  | .hbm, ⟨12, _⟩ => ⟨S8x8x1x4096, .f32⟩
  | .hbm, ⟨13, _⟩ => ⟨S8x8x4096x4096, .f32⟩
  | .hbm, ⟨14, _⟩ => ⟨S8x8x4096x4096, .f32⟩
  | .hbm, ⟨15, _⟩ => ⟨S8x8x4096x4096, .f32⟩
  | .hbm, ⟨16, _⟩ => ⟨S8x8x4096x4096, .f32⟩
  | .hbm, ⟨17, _⟩ => ⟨S4096, .i32⟩
  | .hbm, ⟨18, _⟩ => ⟨S4096x1, .i32⟩
  | .hbm, ⟨19, _⟩ => ⟨S4096, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x8x4096x4096, .i1⟩
  | .hbm, ⟨27, _⟩ => ⟨S8x8x4096x4096, .f32⟩
  | .hbm, ⟨28, _⟩ => ⟨S8x8x4096x4096, .f32⟩
  | .hbm, ⟨29, _⟩ => ⟨S_, .f32⟩
  | .hbm, ⟨30, _⟩ => ⟨S8x8x4096, .f32⟩
  | .hbm, ⟨31, _⟩ => ⟨S_, .f32⟩
  | .hbm, ⟨32, _⟩ => ⟨S8x8x4096, .f32⟩
  | .hbm, ⟨33, _⟩ => ⟨S8x8x4096, .f32⟩
  | .hbm, ⟨34, _⟩ => ⟨S8x8x4096x1, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S8x8x4096, .f32⟩
  | .hbm, ⟨40, _⟩ => ⟨S8x8x4096x1, .f32⟩
  | .hbm, ⟨41, _⟩ => ⟨S8x8x4096x4096, .f32⟩
  | .hbm, ⟨42, _⟩ => ⟨S8x8x4096x4096, .f32⟩
  | .hbm, ⟨43, _⟩ => ⟨S8x8x4096x64, .f32⟩
  | .hbm, ⟨44, _⟩ => ⟨S8x4096x8x64, .f32⟩
  | .hbm, ⟨45, _⟩ => ⟨S8x4096x512, .f32⟩
  | .hbm, ⟨46, _⟩ => ⟨S8x4096x512, .bf16⟩
  | _, _ => ⟨S8x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S32768x768 : Shape := ⟨2, ![32768, 768]⟩
abbrev S4x1024 : Shape := ⟨2, ![4, 1024]⟩
abbrev S4x1024x5640 : Shape := ⟨3, ![4, 1024, 5640]⟩
abbrev S4x512x1024 : Shape := ⟨3, ![4, 512, 1024]⟩
abbrev S4x3x256 : Shape := ⟨3, ![4, 3, 256]⟩
abbrev S4x256x1024 : Shape := ⟨3, ![4, 256, 1024]⟩
abbrev S4x4x64x256 : Shape := ⟨4, ![4, 4, 64, 256]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1024x3072 : Shape := ⟨3, ![4, 1024, 3072]⟩
abbrev S4x1x1024 : Shape := ⟨3, ![4, 1, 1024]⟩
abbrev S_ : Shape := ⟨0, ![]⟩
abbrev S4x8x256 : Shape := ⟨3, ![4, 8, 256]⟩
abbrev S4x4 : Shape := ⟨2, ![4, 4]⟩
abbrev S64x256 : Shape := ⟨2, ![64, 256]⟩
abbrev S4x1x4x1 : Shape := ⟨4, ![4, 1, 4, 1]⟩
abbrev S1x64x1x256 : Shape := ⟨4, ![1, 64, 1, 256]⟩
abbrev S4x64x4x256 : Shape := ⟨4, ![4, 64, 4, 256]⟩
abbrev S256x1024 : Shape := ⟨2, ![256, 1024]⟩
abbrev S4x256x256 : Shape := ⟨3, ![4, 256, 256]⟩
abbrev S1x4x1x256x1x256 : Shape := ⟨6, ![1, 4, 1, 256, 1, 256]⟩
abbrev S1x4x1x256x4x256 : Shape := ⟨6, ![1, 4, 1, 256, 4, 256]⟩
abbrev S1x256x1024 : Shape := ⟨3, ![1, 256, 1024]⟩
abbrev S512x1024 : Shape := ⟨2, ![512, 1024]⟩
abbrev S512x512 : Shape := ⟨2, ![512, 512]⟩
abbrev S512x768 : Shape := ⟨2, ![512, 768]⟩
abbrev S16x768 : Shape := ⟨2, ![16, 768]⟩
abbrev S1x1x1024 : Shape := ⟨3, ![1, 1, 1024]⟩
abbrev S1x1024x3072 : Shape := ⟨3, ![1, 1024, 3072]⟩
abbrev S1x512x1024 : Shape := ⟨3, ![1, 512, 1024]⟩
abbrev S1x8x256 : Shape := ⟨3, ![1, 8, 256]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S16x256 : Shape := ⟨2, ![16, 256]⟩
abbrev S512x256 : Shape := ⟨2, ![512, 256]⟩
abbrev S528x256 : Shape := ⟨2, ![528, 256]⟩
abbrev S8x256 : Shape := ⟨2, ![8, 256]⟩
abbrev S1x256 : Shape := ⟨2, ![1, 256]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x1024 : Shape := ⟨2, ![1, 1024]⟩
abbrev S1024x1024 : Shape := ⟨2, ![1024, 1024]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 51
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x768, .bf16⟩
  | .hbm, ⟨3, _⟩ => ⟨S4x1024, .f32⟩
  | .hbm, ⟨4, _⟩ => ⟨S4x1024x5640, .f32⟩
  | .hbm, ⟨5, _⟩ => ⟨S4x512x1024, .f32⟩
  | .hbm, ⟨6, _⟩ => ⟨S4x3x256, .f32⟩
  | .hbm, ⟨7, _⟩ => ⟨S4x256x1024, .f32⟩
  | .hbm, ⟨8, _⟩ => ⟨S4x4x64x256, .f32⟩
  | .hbm, ⟨9, _⟩ => ⟨S4x1024, .f32⟩
  | .hbm, ⟨10, _⟩ => ⟨S4x1024x1024, .f32⟩
  | .hbm, ⟨11, _⟩ => ⟨S4x1024, .f32⟩
  | .hbm, ⟨12, _⟩ => ⟨S4x1024x5632, .f32⟩
  | .hbm, ⟨13, _⟩ => ⟨S4x2816x1024, .f32⟩
  | .hbm, ⟨14, _⟩ => ⟨S4x1024x3072, .f32⟩
  | .hbm, ⟨15, _⟩ => ⟨S4x1024x3072, .bf16⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x512x1024, .bf16⟩
  | .hbm, ⟨20, _⟩ => ⟨S_, .i32⟩
  | .hbm, ⟨21, _⟩ => ⟨S_, .f32⟩
  | .hbm, ⟨22, _⟩ => ⟨S4x8x256, .f32⟩
  | .hbm, ⟨23, _⟩ => ⟨S4x256x1024, .bf16⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S_, .f32⟩
  | .hbm, ⟨32, _⟩ => ⟨S64x256, .f32⟩
  | .hbm, ⟨33, _⟩ => ⟨S4x1x4x1, .f32⟩
  | .hbm, ⟨34, _⟩ => ⟨S1x64x1x256, .f32⟩
  | .hbm, ⟨35, _⟩ => ⟨S4x64x4x256, .f32⟩
  | .hbm, ⟨36, _⟩ => ⟨S4x64x4x256, .f32⟩
  | .hbm, ⟨37, _⟩ => ⟨S4x64x4x256, .f32⟩
  | .hbm, ⟨38, _⟩ => ⟨S256x1024, .f32⟩
  | .hbm, ⟨39, _⟩ => ⟨S4x256x256, .f32⟩
  | .hbm, ⟨40, _⟩ => ⟨S1x4x1x256x1x256, .f32⟩
  | .hbm, ⟨41, _⟩ => ⟨S1x4x1x256x4x256, .f32⟩
  | .hbm, ⟨42, _⟩ => ⟨S4x256x1024, .f32⟩
  | .hbm, ⟨43, _⟩ => ⟨S1x256x1024, .f32⟩
  | .hbm, ⟨44, _⟩ => ⟨S4x256x1024, .f32⟩
  | .hbm, ⟨45, _⟩ => ⟨S4x256x1024, .f32⟩
  | .hbm, ⟨46, _⟩ => ⟨S4x256x1024, .bf16⟩
  | .hbm, ⟨47, _⟩ => ⟨S4x1024x1024, .bf16⟩
  | .hbm, ⟨48, _⟩ => ⟨S4x1024x5632, .bf16⟩
  | .hbm, ⟨49, _⟩ => ⟨S4x2816x1024, .bf16⟩
  | .hbm, ⟨50, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S16x768, .bf16⟩
  | .local _ .vmem, ⟨7, _⟩ => ⟨S16x768, .bf16⟩
  | .local _ .vmem, ⟨8, _⟩ => ⟨S1x1x1024, .f32⟩
  | .local _ .vmem, ⟨9, _⟩ => ⟨S1x1024x3072, .bf16⟩
  | .local _ .vmem, ⟨10, _⟩ => ⟨S1x512x1024, .bf16⟩
  | .local _ .vmem, ⟨11, _⟩ => ⟨S1x8x256, .f32⟩
  | .local _ .vmem, ⟨12, _⟩ => ⟨S1x256x1024, .bf16⟩
  | .local _ .vmem, ⟨13, _⟩ => ⟨S1x256x1024, .bf16⟩
  | .local _ .vmem, ⟨14, _⟩ => ⟨S1x1x1024, .f32⟩
  | .local _ .vmem, ⟨15, _⟩ => ⟨S1x1024x1024, .bf16⟩
  | .local _ .vmem, ⟨16, _⟩ => ⟨S1x1x1024, .f32⟩
  | .local _ .vmem, ⟨17, _⟩ => ⟨S1x1024x5632, .bf16⟩
  | .local _ .vmem, ⟨18, _⟩ => ⟨S1x2816x1024, .bf16⟩
  | .local _ .vmem, ⟨19, _⟩ => ⟨S512x1024, .f32⟩
  | .local _ .vmem, ⟨20, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32768x1024 : Shape := ⟨2, ![32768, 1024]⟩
abbrev S32768x512 : Shape := ⟨2, ![32768, 512]⟩
abbrev S32768x768 : Shape := ⟨2, ![32768, 768]⟩
abbrev S4x1024 : Shape := ⟨2, ![4, 1024]⟩
abbrev S4x1024x5640 : Shape := ⟨3, ![4, 1024, 5640]⟩
abbrev S4x512x1024 : Shape := ⟨3, ![4, 512, 1024]⟩
abbrev S4x3x256 : Shape := ⟨3, ![4, 3, 256]⟩
abbrev S4x256x1024 : Shape := ⟨3, ![4, 256, 1024]⟩
abbrev S4x4x64x256 : Shape := ⟨4, ![4, 4, 64, 256]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S8x4096x1024 : Shape := ⟨3, ![8, 4096, 1024]⟩
abbrev S8x4096x512 : Shape := ⟨3, ![8, 4096, 512]⟩
abbrev S8x4096x768 : Shape := ⟨3, ![8, 4096, 768]⟩
abbrev S8x4096x256 : Shape := ⟨3, ![8, 4096, 256]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5640 : Shape := ⟨3, ![1, 1024, 5640]⟩
abbrev S1024x5640 : Shape := ⟨2, ![1024, 5640]⟩
abbrev S1024x3072 : Shape := ⟨2, ![1024, 3072]⟩
abbrev S8x4096x3072 : Shape := ⟨3, ![8, 4096, 3072]⟩
abbrev S1x512x1024 : Shape := ⟨3, ![1, 512, 1024]⟩
abbrev S512x1024 : Shape := ⟨2, ![512, 1024]⟩
abbrev S1x3x256 : Shape := ⟨3, ![1, 3, 256]⟩
abbrev S3x256 : Shape := ⟨2, ![3, 256]⟩
abbrev S8x4098x256 : Shape := ⟨3, ![8, 4098, 256]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S1x4x64x256 : Shape := ⟨4, ![1, 4, 64, 256]⟩
abbrev S4x64x256 : Shape := ⟨3, ![4, 64, 256]⟩
abbrev S4096 : Shape := ⟨1, ![4096]⟩
abbrev S8x4096x64 : Shape := ⟨3, ![8, 4096, 64]⟩
abbrev S8x4094x64 : Shape := ⟨3, ![8, 4094, 64]⟩
abbrev S1x4096x1 : Shape := ⟨3, ![1, 4096, 1]⟩
abbrev S8x4092x64 : Shape := ⟨3, ![8, 4092, 64]⟩
abbrev S8x4088x64 : Shape := ⟨3, ![8, 4088, 64]⟩
abbrev S8x4080x64 : Shape := ⟨3, ![8, 4080, 64]⟩
abbrev S8x4096x1x64 : Shape := ⟨4, ![8, 4096, 1, 64]⟩
abbrev S8x4096x4x64 : Shape := ⟨4, ![8, 4096, 4, 64]⟩
abbrev S4x256x8x4096 : Shape := ⟨4, ![4, 256, 8, 4096]⟩
abbrev S8x4096x4x256 : Shape := ⟨4, ![8, 4096, 4, 256]⟩
abbrev S8x4096x3x1024 : Shape := ⟨4, ![8, 4096, 3, 1024]⟩
abbrev S8x4096x1x1024 : Shape := ⟨4, ![8, 4096, 1, 1024]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x2816x1024 : Shape := ⟨3, ![1, 2816, 1024]⟩
abbrev S2816x1024 : Shape := ⟨2, ![2816, 1024]⟩

abbrev nBuf : Space → Nat
  | .hbm => 225
  | .vmem => 0
  | .smem => 0
  | _ => 0

abbrev hbmTy0_0 (i : Nat) : BufTy := match i % 128 with
  | 0 => ⟨S32768x1024, .f32⟩
  | 1 => ⟨S32768x512, .bf16⟩
  | 2 => ⟨S32768x768, .bf16⟩
  | 3 => ⟨S4x1024, .f32⟩
  | 4 => ⟨S4x1024x5640, .f32⟩
  | 5 => ⟨S4x512x1024, .f32⟩
  | 6 => ⟨S4x3x256, .f32⟩
  | 7 => ⟨S4x256x1024, .f32⟩
  | 8 => ⟨S4x4x64x256, .f32⟩
  | 9 => ⟨S4x1024, .f32⟩
  | 10 => ⟨S4x1024x1024, .f32⟩
  | 11 => ⟨S4x1024, .f32⟩
  | 12 => ⟨S4x1024x5632, .f32⟩
  | 13 => ⟨S4x2816x1024, .f32⟩
  | 14 => ⟨S8x4096x1024, .f32⟩
  | 15 => ⟨S32768x512, .f32⟩
  | 16 => ⟨S8x4096x512, .f32⟩
  | 17 => ⟨S32768x768, .f32⟩
  | 18 => ⟨S8x4096x768, .f32⟩
  | 19 => ⟨S8x4096x256, .f32⟩
  | 20 => ⟨S8x4096x256, .f32⟩
  | 21 => ⟨S8x4096x256, .f32⟩
  | 22 => ⟨S1x1024, .f32⟩
  | 23 => ⟨S1024, .f32⟩
  | 24 => ⟨S8x4096x1024, .f32⟩
  | 25 => ⟨S_, .f32⟩
  | 26 => ⟨S8x4096, .f32⟩
  | 27 => ⟨S8x4096x1, .f32⟩
  | 28 => ⟨S_, .f32⟩
  | 29 => ⟨S8x4096x1, .f32⟩
  | 30 => ⟨S8x4096x1, .f32⟩
  | 31 => ⟨S_, .f32⟩
  | 32 => ⟨S8x4096x1, .f32⟩
  | 33 => ⟨S8x4096x1, .f32⟩
  | 34 => ⟨S8x4096x1, .f32⟩
  | 35 => ⟨S8x4096x1024, .f32⟩
  | 36 => ⟨S8x4096x1024, .f32⟩
  | 37 => ⟨S1x1x1024, .f32⟩
  | 38 => ⟨S8x4096x1024, .f32⟩
  | 39 => ⟨S8x4096x1024, .f32⟩
  | 40 => ⟨S1x1024x5640, .f32⟩
  | 41 => ⟨S1024x5640, .f32⟩
  | 42 => ⟨S1024x3072, .f32⟩
  | 43 => ⟨S8x4096x3072, .f32⟩
  | 44 => ⟨S1x512x1024, .f32⟩
  | 45 => ⟨S512x1024, .f32⟩
  | 46 => ⟨S8x4096x1024, .f32⟩
  | 47 => ⟨S1x3x256, .f32⟩
  | 48 => ⟨S3x256, .f32⟩
  | 49 => ⟨S_, .i32⟩
  | 50 => ⟨S_, .f32⟩
  | 51 => ⟨S8x4098x256, .f32⟩
  | 52 => ⟨S1x256, .f32⟩
  | 53 => ⟨S256, .f32⟩
  | 54 => ⟨S8x4096x256, .f32⟩
  | 55 => ⟨S1x1x256, .f32⟩
  | 56 => ⟨S8x4096x256, .f32⟩
  | 57 => ⟨S8x4096x256, .f32⟩
  | 58 => ⟨S1x256, .f32⟩
  | 59 => ⟨S256, .f32⟩
  | 60 => ⟨S8x4096x256, .f32⟩
  | 61 => ⟨S1x1x256, .f32⟩
  | 62 => ⟨S8x4096x256, .f32⟩
  | 63 => ⟨S8x4096x256, .f32⟩
  | 64 => ⟨S8x4096x256, .f32⟩
  | 65 => ⟨S1x256, .f32⟩
  | 66 => ⟨S256, .f32⟩
  | 67 => ⟨S8x4096x256, .f32⟩
  | 68 => ⟨S1x1x256, .f32⟩
  | 69 => ⟨S8x4096x256, .f32⟩
  | 70 => ⟨S8x4096x256, .f32⟩
  | 71 => ⟨S8x4096x256, .f32⟩
  | 72 => ⟨S8x4096x256, .f32⟩
  | 73 => ⟨S1x256x1024, .f32⟩
  | 74 => ⟨S256x1024, .f32⟩
  | 75 => ⟨S8x4096x1024, .f32⟩
  | 76 => ⟨S1x4x64x256, .f32⟩
  | 77 => ⟨S4x64x256, .f32⟩
  | 78 => ⟨S1x1024, .f32⟩
  | 79 => ⟨S1024, .f32⟩
  | 80 => ⟨S_, .f32⟩
  | 81 => ⟨S_, .f32⟩
  | 82 => ⟨S8x4096x256, .f32⟩
  | 83 => ⟨S4096, .f32⟩
  | 84 => ⟨S8x4096x64, .f32⟩
  | 85 => ⟨S8x4094x64, .f32⟩
  | 86 => ⟨S_, .i32⟩
  | 87 => ⟨S_, .f32⟩
  | 88 => ⟨S8x4096x64, .f32⟩
  | 89 => ⟨S_, .f32⟩
  | 90 => ⟨S4096, .f32⟩
  | 91 => ⟨S4096, .f32⟩
  | 92 => ⟨S_, .f32⟩
  | 93 => ⟨S4096, .f32⟩
  | 94 => ⟨S4096, .f32⟩
  | 95 => ⟨S1x4096x1, .f32⟩
  | 96 => ⟨S8x4096x64, .f32⟩
  | 97 => ⟨S8x4096x64, .f32⟩
  | 98 => ⟨S8x4096x64, .f32⟩
  | 99 => ⟨S8x4096x64, .f32⟩
  | 100 => ⟨S8x4096x64, .f32⟩
  | 101 => ⟨S8x4096x64, .f32⟩
  | 102 => ⟨S8x4092x64, .f32⟩
  | 103 => ⟨S_, .i32⟩
  | 104 => ⟨S_, .f32⟩
  | 105 => ⟨S8x4096x64, .f32⟩
  | 106 => ⟨S_, .f32⟩
  | 107 => ⟨S4096, .f32⟩
  | 108 => ⟨S4096, .f32⟩
  | 109 => ⟨S_, .f32⟩
  | 110 => ⟨S4096, .f32⟩
  | 111 => ⟨S4096, .f32⟩
  | 112 => ⟨S1x4096x1, .f32⟩
  | 113 => ⟨S8x4096x64, .f32⟩
  | 114 => ⟨S8x4096x64, .f32⟩
  | 115 => ⟨S8x4096x64, .f32⟩
  | 116 => ⟨S8x4096x64, .f32⟩
  | 117 => ⟨S8x4096x64, .f32⟩
  | 118 => ⟨S8x4096x64, .f32⟩
  | 119 => ⟨S8x4088x64, .f32⟩
  | 120 => ⟨S_, .i32⟩
  | 121 => ⟨S_, .f32⟩
  | 122 => ⟨S8x4096x64, .f32⟩
  | 123 => ⟨S_, .f32⟩
  | 124 => ⟨S4096, .f32⟩
  | 125 => ⟨S4096, .f32⟩
  | 126 => ⟨S_, .f32⟩
  | 127 => ⟨S4096, .f32⟩
  | _ => ⟨S32768x1024, .f32⟩

abbrev hbmTy0_1 (i : Nat) : BufTy := match i % 128 with
  | 0 => ⟨S4096, .f32⟩
  | 1 => ⟨S1x4096x1, .f32⟩
  | 2 => ⟨S8x4096x64, .f32⟩
  | 3 => ⟨S8x4096x64, .f32⟩
  | 4 => ⟨S8x4096x64, .f32⟩
  | 5 => ⟨S8x4096x64, .f32⟩
  | 6 => ⟨S8x4096x64, .f32⟩
  | 7 => ⟨S8x4096x64, .f32⟩
  | 8 => ⟨S8x4080x64, .f32⟩
  | 9 => ⟨S_, .i32⟩
  | 10 => ⟨S_, .f32⟩
  | 11 => ⟨S8x4096x64, .f32⟩
  | 12 => ⟨S_, .f32⟩
  | 13 => ⟨S4096, .f32⟩
  | 14 => ⟨S4096, .f32⟩
  | 15 => ⟨S_, .f32⟩
  | 16 => ⟨S4096, .f32⟩
  | 17 => ⟨S4096, .f32⟩
  | 18 => ⟨S1x4096x1, .f32⟩
  | 19 => ⟨S8x4096x64, .f32⟩
  | 20 => ⟨S8x4096x64, .f32⟩
  | 21 => ⟨S8x4096x64, .f32⟩
  | 22 => ⟨S8x4096x64, .f32⟩
  | 23 => ⟨S8x4096x64, .f32⟩
  | 24 => ⟨S8x4096x1x64, .f32⟩
  | 25 => ⟨S8x4096x1x64, .f32⟩
  | 26 => ⟨S8x4096x1x64, .f32⟩
  | 27 => ⟨S8x4096x1x64, .f32⟩
  | 28 => ⟨S8x4096x4x64, .f32⟩
  | 29 => ⟨S4x256x8x4096, .f32⟩
  | 30 => ⟨S8x4096x4x256, .f32⟩
  | 31 => ⟨S8x4096x1024, .f32⟩
  | 32 => ⟨S1x1x1024, .f32⟩
  | 33 => ⟨S8x4096x1024, .f32⟩
  | 34 => ⟨S8x4096x1024, .f32⟩
  | 35 => ⟨S8x4096x3072, .f32⟩
  | 36 => ⟨S8x4096x3072, .f32⟩
  | 37 => ⟨S_, .f32⟩
  | 38 => ⟨S8x4096x3072, .f32⟩
  | 39 => ⟨S8x4096x3072, .f32⟩
  | 40 => ⟨S_, .f32⟩
  | 41 => ⟨S8x4096x3072, .f32⟩
  | 42 => ⟨S8x4096x3072, .f32⟩
  | 43 => ⟨S8x4096x3x1024, .f32⟩
  | 44 => ⟨S8x4096x1x1024, .f32⟩
  | 45 => ⟨S8x4096x1024, .f32⟩
  | 46 => ⟨S8x4096x1024, .f32⟩
  | 47 => ⟨S8x4096x1x1024, .f32⟩
  | 48 => ⟨S8x4096x1024, .f32⟩
  | 49 => ⟨S8x4096x1024, .f32⟩
  | 50 => ⟨S8x4096x1024, .f32⟩
  | 51 => ⟨S8x4096x1x1024, .f32⟩
  | 52 => ⟨S8x4096x1024, .f32⟩
  | 53 => ⟨S8x4096x1024, .f32⟩
  | 54 => ⟨S8x4096x1024, .f32⟩
  | 55 => ⟨S1x1024x1024, .f32⟩
  | 56 => ⟨S1024x1024, .f32⟩
  | 57 => ⟨S8x4096x1024, .f32⟩
  | 58 => ⟨S8x4096x1024, .f32⟩
  | 59 => ⟨S1x1024, .f32⟩
  | 60 => ⟨S1024, .f32⟩
  | 61 => ⟨S8x4096x1024, .f32⟩
  | 62 => ⟨S_, .f32⟩
  | 63 => ⟨S8x4096, .f32⟩
  | 64 => ⟨S8x4096x1, .f32⟩
  | 65 => ⟨S_, .f32⟩
  | 66 => ⟨S8x4096x1, .f32⟩
  | 67 => ⟨S8x4096x1, .f32⟩
  | 68 => ⟨S_, .f32⟩
  | 69 => ⟨S8x4096x1, .f32⟩
  | 70 => ⟨S8x4096x1, .f32⟩
  | 71 => ⟨S8x4096x1, .f32⟩
  | 72 => ⟨S8x4096x1024, .f32⟩
  | 73 => ⟨S8x4096x1024, .f32⟩
  | 74 => ⟨S1x1x1024, .f32⟩
  | 75 => ⟨S8x4096x1024, .f32⟩
  | 76 => ⟨S8x4096x1024, .f32⟩
  | 77 => ⟨S1x1024x5632, .f32⟩
  | 78 => ⟨S1024x5632, .f32⟩
  | 79 => ⟨S8x4096x5632, .f32⟩
  | 80 => ⟨S8x4096x2816, .f32⟩
  | 81 => ⟨S8x4096x2816, .f32⟩
  | 82 => ⟨S8x4096x2816, .f32⟩
  | 83 => ⟨S8x4096x2816, .f32⟩
  | 84 => ⟨S_, .f32⟩
  | 85 => ⟨S8x4096x2816, .f32⟩
  | 86 => ⟨S8x4096x2816, .f32⟩
  | 87 => ⟨S_, .f32⟩
  | 88 => ⟨S8x4096x2816, .f32⟩
  | 89 => ⟨S8x4096x2816, .f32⟩
  | 90 => ⟨S8x4096x2816, .f32⟩
  | 91 => ⟨S8x4096x2816, .f32⟩
  | 92 => ⟨S1x2816x1024, .f32⟩
  | 93 => ⟨S2816x1024, .f32⟩
  | 94 => ⟨S8x4096x1024, .f32⟩
  | 95 => ⟨S8x4096x1024, .f32⟩
  | 96 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call1_call0_cst : Ref sig .tc := ⟨.hbm, 80, rfl⟩
abbrev main_call1_call0_v0 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_2 : Ref sig .tc := ⟨.hbm, 86, rfl⟩
abbrev main_call2_v0 : Ref sig .tc := ⟨.hbm, 87, rfl⟩
abbrev main_v65 : Ref sig .tc := ⟨.hbm, 88, rfl⟩
abbrev main_cst_3 : Ref sig .tc := ⟨.hbm, 89, rfl⟩
abbrev main_v66 : Ref sig .tc := ⟨.hbm, 90, rfl⟩
abbrev main_v67 : Ref sig .tc := ⟨.hbm, 91, rfl⟩
abbrev main_cst_4 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_5 : Ref sig .tc := ⟨.hbm, 103, rfl⟩
abbrev main_call3_v0 : Ref sig .tc := ⟨.hbm, 104, rfl⟩
abbrev main_v78 : Ref sig .tc := ⟨.hbm, 105, rfl⟩
abbrev main_cst_6 : Ref sig .tc := ⟨.hbm, 106, rfl⟩
abbrev main_v79 : Ref sig .tc := ⟨.hbm, 107, rfl⟩
abbrev main_v80 : Ref sig .tc := ⟨.hbm, 108, rfl⟩
abbrev main_cst_7 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_8 : Ref sig .tc := ⟨.hbm, 120, rfl⟩
abbrev main_call4_v0 : Ref sig .tc := ⟨.hbm, 121, rfl⟩
abbrev main_v91 : Ref sig .tc := ⟨.hbm, 122, rfl⟩
abbrev main_cst_9 : Ref sig .tc := ⟨.hbm, 123, rfl⟩
abbrev main_v92 : Ref sig .tc := ⟨.hbm, 124, rfl⟩
abbrev main_v93 : Ref sig .tc := ⟨.hbm, 125, rfl⟩
abbrev main_cst_10 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_11 : Ref sig .tc := ⟨.hbm, 137, rfl⟩
abbrev main_call5_v0 : Ref sig .tc := ⟨.hbm, 138, rfl⟩
abbrev main_v104 : Ref sig .tc := ⟨.hbm, 139, rfl⟩
abbrev main_cst_12 : Ref sig .tc := ⟨.hbm, 140, rfl⟩
abbrev main_v105 : Ref sig .tc := ⟨.hbm, 141, rfl⟩
abbrev main_v106 : Ref sig .tc := ⟨.hbm, 142, rfl⟩
abbrev main_cst_13 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_14 : Ref sig .tc := ⟨.hbm, 165, rfl⟩
abbrev main_v128 : Ref sig .tc := ⟨.hbm, 166, rfl⟩
abbrev main_v129 : Ref sig .tc := ⟨.hbm, 167, rfl⟩
abbrev main_cst_15 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_16 : Ref sig .tc := ⟨.hbm, 190, rfl⟩
abbrev main_v151 : Ref sig .tc := ⟨.hbm, 191, rfl⟩
abbrev main_v152 : Ref sig .tc := ⟨.hbm, 192, rfl⟩
abbrev main_cst_17 : Ref sig .tc := ⟨.hbm, 193, rfl⟩
abbrev main_v153 : Ref sig .tc := ⟨.hbm, 194, rfl⟩
abbrev main_v154 : Ref sig .tc := ⟨.hbm, 195, rfl⟩
abbrev main_cst_18 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_call6_v0 : Ref sig .tc := ⟨.hbm, 210, rfl⟩
abbrev main_call6_v1 : Ref sig .tc := ⟨.hbm, 211, rfl⟩
abbrev main_call6_cst : Ref sig .tc := ⟨.hbm, 212, rfl⟩
abbrev main_call6_v2 : Ref sig .tc := ⟨.hbm, 213, rfl⟩
abbrev main_call6_v3 : Ref sig .tc := ⟨.hbm, 214, rfl⟩
abbrev main_call6_cst_0 : Ref sig .tc := ⟨.hbm, 215, rfl⟩
abbrev main_call6_v4 : Ref sig .tc := ⟨.hbm, 216, rfl⟩
abbrev main_call6_v5 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩

abbrev nD : Nat := 1
abbrev τ : Topo := Topo.v7x

variable {F : FTy → Type} [FloatOps F]
-- ==== Proof.AttnMem.lean ====
/- Reading a buffer that a list of rectangular stores has been made to, at one index given by its coordinates: the last store
   whose rectangle holds the index decides. Stated for buffers of three and of four axes of any size. -/
module

public import Idealize.ShloMosaic.Lib.Pipeline.FrameBody
public import Idealize.ShloMosaic.Lib.WritesUnit
public import Idealize.ShloMosaic.Lib.Pointwise

@[expose] public section

set_option backward.proofsInPublic true
set_option maxRecDepth 16384

noncomputable section

namespace Cert.AttnMem

open Idealize.ShloMosaic Idealize.ShloMosaic.TcCoe Idealize.SL.Sem

variable {sig : RefSig} {κ : Kind} {sp : Space} {e : EltTy} {Val : EltTy → Type}

section Three

variable {N0 N1 N2 : ℕ} (v : View sig κ sp (⟨3, ![N0, N1, N2]⟩ : Shape) e)

/-- The last store holds the index. -/
theorem hit3 (f : v.ty.Contents Val) (o0 o1 o2 n0 n1 n2 : ℕ)
    (inb : ∀ a, (![o0, o1, o2] : Fin 3 → ℕ) a + (![n0, n1, n2] : Fin 3 → ℕ) a ≤ (⟨3, ![N0, N1, N2]⟩ : Shape).size a)
    (w : (Rect.unit (s := (⟨3, ![N0, N1, N2]⟩ : Shape)) ![o0, o1, o2] ![n0, n1, n2] inb).shape.Idx → Val e)
    (L : List (View.Piece Val (⟨3, ![N0, N1, N2]⟩ : Shape) e)) (a : Fin N0) (b : Fin N1) (c : Fin N2)
    (h : (o0 ≤ a.val ∧ a.val - o0 < n0) ∧ (o1 ≤ b.val ∧ b.val - o1 < n1) ∧ (o2 ≤ c.val ∧ c.val - o2 < n2)) :
    v.read Val (v.writes Val f ((⟨Rect.unit ![o0, o1, o2] ![n0, n1, n2] inb, w⟩ : View.Piece Val _ e) :: L)) (ix3 a b c)
      = w (ix3 ⟨a.val - o0, h.1.2⟩ ⟨b.val - o1, h.2.1.2⟩ ⟨c.val - o2, h.2.2.2⟩) := by
  refine View.read_writes_cons_unit_of_mem v f inb w L _ _ rfl ?_
  intro x
  obtain ⟨h0, h1, h2⟩ := h
  fin_cases x
  · show a.val = o0 + (a.val - o0); omega
  · show b.val = o1 + (b.val - o1); omega
  · show c.val = o2 + (c.val - o2); omega

/-- The last store does not hold the index. -/
theorem miss3 (f : v.ty.Contents Val) (o0 o1 o2 n0 n1 n2 : ℕ)
    (inb : ∀ a, (![o0, o1, o2] : Fin 3 → ℕ) a + (![n0, n1, n2] : Fin 3 → ℕ) a ≤ (⟨3, ![N0, N1, N2]⟩ : Shape).size a)
    (w : (Rect.unit (s := (⟨3, ![N0, N1, N2]⟩ : Shape)) ![o0, o1, o2] ![n0, n1, n2] inb).shape.Idx → Val e)
    (L : List (View.Piece Val (⟨3, ![N0, N1, N2]⟩ : Shape) e)) (a : Fin N0) (b : Fin N1) (c : Fin N2)
    (h : (a.val < o0 ∨ o0 + n0 ≤ a.val) ∨ (b.val < o1 ∨ o1 + n1 ≤ b.val) ∨ (c.val < o2 ∨ o2 + n2 ≤ c.val)) :
    v.read Val (v.writes Val f ((⟨Rect.unit ![o0, o1, o2] ![n0, n1, n2] inb, w⟩ : View.Piece Val _ e) :: L)) (ix3 a b c)
      = v.read Val (v.writes Val f L) (ix3 a b c) := by
  rcases h with h | h | h
  · exact View.read_writes_cons_unit_of_not_mem v f inb w L _ rfl 0 h
  · exact View.read_writes_cons_unit_of_not_mem v f inb w L _ rfl 1 h
  · exact View.read_writes_cons_unit_of_not_mem v f inb w L _ rfl 2 h

/-- A load reads the contents at the shifted index. -/
theorem load3 (f : v.ty.Contents Val) (off : Fin 3 → ℕ) (n0 n1 n2 : ℕ)
    (inb : ∀ a, off a + (![n0, n1, n2] : Fin 3 → ℕ) a ≤ (⟨3, ![N0, N1, N2]⟩ : Shape).size a) (a : Fin n0) (b : Fin n1) (c : Fin n2) :
    v.readAt Val (Rect.unit (s := (⟨3, ![N0, N1, N2]⟩ : Shape)) off ![n0, n1, n2] inb).toLoadRect f
        (ix3 a b c : (⟨3, ![n0, n1, n2]⟩ : Shape).Idx)
      = v.read Val f (ix3 ⟨off 0 + a.val, (Nat.add_lt_add_left a.isLt _).trans_le (inb 0)⟩ ⟨off 1 + b.val, (Nat.add_lt_add_left b.isLt _).trans_le (inb 1)⟩ ⟨off 2 + c.val, (Nat.add_lt_add_left c.isLt _).trans_le (inb 2)⟩) := by
  refine congrArg (v.read Val f) (funext fun x => Fin.ext ?_)
  fin_cases x
  · show off 0 + 1 * a.val = off 0 + a.val; omega
  · show off 1 + 1 * b.val = off 1 + b.val; omega
  · show off 2 + 1 * c.val = off 2 + c.val; omega

end Three

section Four

variable {N0 N1 N2 N3 : ℕ} (v : View sig κ sp (⟨4, ![N0, N1, N2, N3]⟩ : Shape) e)

/-- The last store holds the index. -/
theorem hit4 (f : v.ty.Contents Val) (o0 o1 o2 o3 n0 n1 n2 n3 : ℕ)
    (inb : ∀ a, (![o0, o1, o2, o3] : Fin 4 → ℕ) a + (![n0, n1, n2, n3] : Fin 4 → ℕ) a ≤ (⟨4, ![N0, N1, N2, N3]⟩ : Shape).size a)
    (w : (Rect.unit (s := (⟨4, ![N0, N1, N2, N3]⟩ : Shape)) ![o0, o1, o2, o3] ![n0, n1, n2, n3] inb).shape.Idx → Val e)
    (L : List (View.Piece Val (⟨4, ![N0, N1, N2, N3]⟩ : Shape) e)) (a : Fin N0) (b : Fin N1) (c : Fin N2) (d : Fin N3)
    (h : (o0 ≤ a.val ∧ a.val - o0 < n0) ∧ (o1 ≤ b.val ∧ b.val - o1 < n1) ∧ (o2 ≤ c.val ∧ c.val - o2 < n2) ∧ (o3 ≤ d.val ∧ d.val - o3 < n3)) :
    v.read Val (v.writes Val f ((⟨Rect.unit ![o0, o1, o2, o3] ![n0, n1, n2, n3] inb, w⟩ : View.Piece Val _ e) :: L)) (ix4 a b c d)
      = w (ix4 ⟨a.val - o0, h.1.2⟩ ⟨b.val - o1, h.2.1.2⟩ ⟨c.val - o2, h.2.2.1.2⟩ ⟨d.val - o3, h.2.2.2.2⟩) := by
  refine View.read_writes_cons_unit_of_mem v f inb w L _ _ rfl ?_
  intro x
  obtain ⟨h0, h1, h2, h3⟩ := h
  fin_cases x
  · show a.val = o0 + (a.val - o0); omega
  · show b.val = o1 + (b.val - o1); omega
  · show c.val = o2 + (c.val - o2); omega
  · show d.val = o3 + (d.val - o3); omega

/-- The last store does not hold the index. -/
theorem miss4 (f : v.ty.Contents Val) (o0 o1 o2 o3 n0 n1 n2 n3 : ℕ)
    (inb : ∀ a, (![o0, o1, o2, o3] : Fin 4 → ℕ) a + (![n0, n1, n2, n3] : Fin 4 → ℕ) a ≤ (⟨4, ![N0, N1, N2, N3]⟩ : Shape).size a)
    (w : (Rect.unit (s := (⟨4, ![N0, N1, N2, N3]⟩ : Shape)) ![o0, o1, o2, o3] ![n0, n1, n2, n3] inb).shape.Idx → Val e)
    (L : List (View.Piece Val (⟨4, ![N0, N1, N2, N3]⟩ : Shape) e)) (a : Fin N0) (b : Fin N1) (c : Fin N2) (d : Fin N3)
    (h : (a.val < o0 ∨ o0 + n0 ≤ a.val) ∨ (b.val < o1 ∨ o1 + n1 ≤ b.val) ∨ (c.val < o2 ∨ o2 + n2 ≤ c.val) ∨ (d.val < o3 ∨ o3 + n3 ≤ d.val)) :
    v.read Val (v.writes Val f ((⟨Rect.unit ![o0, o1, o2, o3] ![n0, n1, n2, n3] inb, w⟩ : View.Piece Val _ e) :: L)) (ix4 a b c d)
      = v.read Val (v.writes Val f L) (ix4 a b c d) := by
  rcases h with h | h | h | h
  · exact View.read_writes_cons_unit_of_not_mem v f inb w L _ rfl 0 h
  · exact View.read_writes_cons_unit_of_not_mem v f inb w L _ rfl 1 h
  · exact View.read_writes_cons_unit_of_not_mem v f inb w L _ rfl 2 h
  · exact View.read_writes_cons_unit_of_not_mem v f inb w L _ rfl 3 h

/-- A load reads the contents at the shifted index. -/
theorem load4 (f : v.ty.Contents Val) (off : Fin 4 → ℕ) (n0 n1 n2 n3 : ℕ)
    (inb : ∀ a, off a + (![n0, n1, n2, n3] : Fin 4 → ℕ) a ≤ (⟨4, ![N0, N1, N2, N3]⟩ : Shape).size a) (a : Fin n0) (b : Fin n1) (c : Fin n2) (d : Fin n3) :
    v.readAt Val (Rect.unit (s := (⟨4, ![N0, N1, N2, N3]⟩ : Shape)) off ![n0, n1, n2, n3] inb).toLoadRect f
        (ix4 a b c d : (⟨4, ![n0, n1, n2, n3]⟩ : Shape).Idx)
      = v.read Val f (ix4 ⟨off 0 + a.val, (Nat.add_lt_add_left a.isLt _).trans_le (inb 0)⟩ ⟨off 1 + b.val, (Nat.add_lt_add_left b.isLt _).trans_le (inb 1)⟩ ⟨off 2 + c.val, (Nat.add_lt_add_left c.isLt _).trans_le (inb 2)⟩ ⟨off 3 + d.val, (Nat.add_lt_add_left d.isLt _).trans_le (inb 3)⟩) := by
  refine congrArg (v.read Val f) (funext fun x => Fin.ext ?_)
  fin_cases x
  · show off 0 + 1 * a.val = off 0 + a.val; omega
  · show off 1 + 1 * b.val = off 1 + b.val; omega
  · show off 2 + 1 * c.val = off 2 + c.val; omega
  · show off 3 + 1 * d.val = off 3 + d.val; omega

end Four

end Cert.AttnMem
end
end
-- ==== Proof.AttnMath.lean ====
/- The mathematics of the attention call over the extended reals: what a block of queries accumulates over the tiles of
   keys before it, and that dividing the two accumulated sums is the softmax average. It names no program. -/
module

public import Idealize.ShloMosaic.Lib.Pipeline.ValueKit
public import Idealize.ShloMosaic.Lib.Pointwise

@[expose] public section

set_option backward.proofsInPublic true
set_option maxRecDepth 16384

noncomputable section

namespace Cert.Attn

open Idealize.ShloMosaic

/-- The product of key `s` and query `q` of head `h` over the head's 128 features: `K` is key by feature, `Q` feature by query. -/
def lg (Q K : ℕ → ℕ → EReal) (h s q : ℕ) : EReal := ∑ f : Fin 128, K s (h * 128 + f.val) * Q (h * 128 + f.val) q

/-- The weight of key `s` for query `q`: two to that product. -/
def wt (Q K : ℕ → ℕ → EReal) (h s q : ℕ) : EReal := Ideal.exp2 (lg Q K h s q)

/-- What tile `kt` of 512 keys adds to row `r` of head `h` at query `q`, its weights given by `P`. -/
def tile (V : ℕ → ℕ → ℕ → EReal) (P : ℕ → EReal) (h r kt : ℕ) : EReal := ∑ kk : Fin 512, V kt (h * 80 + r) kk.val * P kk.val

/-- The sum over the first `n` tiles of keys. -/
def part (Q K : ℕ → ℕ → EReal) (V : ℕ → ℕ → ℕ → EReal) (h r q n : ℕ) : EReal :=
  ∑ kt ∈ Finset.range n, tile V (fun kk => wt Q K h (kt * 512 + kk) q) h r kt

/-- The weights of the last tile `i`: a key after the query counts nothing. -/
def dwt (Q K : ℕ → ℕ → EReal) (i h q kk : ℕ) : EReal := if kk ≤ q then wt Q K h (i * 512 + kk) q else 0

/-- The whole sum of query `q` of block `i`: the tiles before the block, and the block's own tile below the diagonal. -/
def acc (Q K : ℕ → ℕ → EReal) (V : ℕ → ℕ → ℕ → EReal) (i h r q : ℕ) : EReal :=
  part Q K V h r q i + tile V (dwt Q K i h q) h r i

theorem part_zero (Q K : ℕ → ℕ → EReal) (V : ℕ → ℕ → ℕ → EReal) (h r q : ℕ) : part Q K V h r q 0 = 0 := rfl

theorem part_succ (Q K : ℕ → ℕ → EReal) (V : ℕ → ℕ → ℕ → EReal) (h r q n : ℕ) :
    part Q K V h r q (n + 1) = part Q K V h r q n + tile V (fun kk => wt Q K h (n * 512 + kk) q) h r n :=
  Finset.sum_range_succ _ _

/-- A sum over `n` tiles of 512 is the sum over all of them. -/
theorem sum_tiles (g : ℕ → EReal) (n : ℕ) :
    ∑ s ∈ Finset.range (n * 512), g s = ∑ kt ∈ Finset.range n, ∑ kk ∈ Finset.range 512, g (kt * 512 + kk) := by
  induction n with
  | zero => simp
  | succ n ih => rw [Nat.succ_mul, Finset.sum_range_add, ih, Finset.sum_range_succ (fun kt => ∑ kk ∈ Finset.range 512, g (kt * 512 + kk))]

/-- The whole sum of a query as one sum over the 4096 keys, those after the query counting nothing. -/
theorem acc_eq (Q K : ℕ → ℕ → EReal) (V : ℕ → ℕ → ℕ → EReal) (i h r q : ℕ) (hi : i < 8) (hq : q < 512) (W : ℕ → EReal)
    (hV : ∀ kt kk, kt < 8 → kk < 512 → V kt (h * 80 + r) kk = W (kt * 512 + kk)) :
    acc Q K V i h r q = ∑ s : Fin 4096, W s.val * (if s.val ≤ i * 512 + q then wt Q K h s.val q else 0) := by
  have e := sum_tiles (fun s => W s * (if s ≤ i * 512 + q then wt Q K h s q else 0)) 8
  rw [Finset.sum_range] at e
  refine Eq.trans ?_ e.symm
  obtain ⟨d, hd⟩ : ∃ d, 8 = (i + 1) + d := ⟨7 - i, by omega⟩
  rw [hd, Finset.sum_range_add, Finset.sum_range_succ]
  have tail : ∑ x ∈ Finset.range d, ∑ kk ∈ Finset.range 512, W ((i + 1 + x) * 512 + kk) *
      (if (i + 1 + x) * 512 + kk ≤ i * 512 + q then wt Q K h ((i + 1 + x) * 512 + kk) q else 0) = 0 := by
    refine Finset.sum_eq_zero fun x _ => Finset.sum_eq_zero fun kk _ => ?_
    rw [if_neg (by omega), mul_zero]
  rw [tail, add_zero]
  unfold acc part tile dwt
  refine congrArg₂ (· + ·) (Finset.sum_congr rfl fun kt hkt => ?_) ?_
  · have := Finset.mem_range.mp hkt
    rw [Finset.sum_range]
    refine Finset.sum_congr rfl fun kk _ => ?_
    rw [hV kt kk.val (by omega) kk.isLt, if_pos (by have := kk.isLt; omega)]
  · rw [Finset.sum_range]
    refine Finset.sum_congr rfl fun kk _ => ?_
    rw [hV i kk.val hi kk.isLt]
    by_cases hk : kk.val ≤ q
    · rw [if_pos hk, if_pos (by omega)]
    · rw [if_neg hk, if_neg (by omega)]

/-- A sum of extended reals times a nonnegative real. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Two sums over the keys up to `t`, weighted by `exp l` and divided, are the softmax average: each weight divided by the
    weights' total, a shift `M` of the exponents making no difference. -/
theorem softmax_row (l : Fin 4096 → ℝ) (W : Fin 4096 → EReal) (t : Fin 4096) (M : ℝ) :
    Ideal.div (∑ s, W s * (if s.val ≤ t.val then ((Real.exp (l s) : ℝ) : EReal) else 0))
        (∑ s : Fin 4096, 1 * (if s.val ≤ t.val then ((Real.exp (l s) : ℝ) : EReal) else 0))
      = ∑ s, Ideal.div (Ideal.exp ((if s.val ≤ t.val then ((l s : ℝ) : EReal) else ⊥) - (M : EReal)))
          (∑ s' : Fin 4096, Ideal.exp ((if s'.val ≤ t.val then ((l s' : ℝ) : EReal) else ⊥) - (M : EReal))) * W s := by
  let e : Fin 4096 → ℝ := fun s => if s.val ≤ t.val then Real.exp (l s) else 0
  have he : ∀ s, (if s.val ≤ t.val then ((Real.exp (l s) : ℝ) : EReal) else 0) = ((e s : ℝ) : EReal) := fun s => by
    by_cases h : s.val ≤ t.val
    · simp only [e, if_pos h]
    · simp only [e, if_neg h, EReal.coe_zero]
  have hx : ∀ s, Ideal.exp ((if s.val ≤ t.val then ((l s : ℝ) : EReal) else ⊥) - (M : EReal)) = ((e s * Real.exp (-M) : ℝ) : EReal) := fun s => by
    by_cases h : s.val ≤ t.val
    · simp only [e, if_pos h]
      rw [← EReal.coe_sub, Ideal.exp_coe, ← Real.exp_add, sub_eq_add_neg]
    · simp only [e, if_neg h]
      rw [sub_eq_add_neg, EReal.bot_add, Ideal.exp_bot, zero_mul, EReal.coe_zero]
  have h0 : ∀ s, 0 ≤ e s := fun s => by
    by_cases h : s.val ≤ t.val
    · simp only [e, if_pos h]; exact (Real.exp_pos _).le
    · simp only [e, if_neg h]; exact le_refl _
  have ht : 0 < e t := by simp only [e, if_pos (le_refl t.val)]; exact Real.exp_pos _
  have hZ : 0 < ∑ s, e s := lt_of_lt_of_le ht (Finset.single_le_sum (fun s _ => h0 s) (Finset.mem_univ t))
  have hM : 0 < Real.exp (-M) := Real.exp_pos _
  simp only [he, hx, one_mul]
  rw [← coe_sum, ← coe_sum, Ideal.div_coe hZ.ne', sum_mul_real _ _ _ (by positivity)]
  refine Finset.sum_congr rfl fun s _ => ?_
  rw [← Finset.sum_mul, Ideal.div_coe (by positivity), ← EReal.coe_mul, mul_assoc, ← EReal.coe_mul, mul_comm]
  congr 2
  field_simp

/-- Two to `x / log 2` is `exp x`. -/
theorem exp2_div_log (x : ℝ) : Ideal.exp2 ((x * (1 / Real.log 2) : ℝ) : EReal) = ((Real.exp x : ℝ) : EReal) := by
  have h2 : Real.log 2 ≠ 0 := (Real.log_pos (by norm_num)).ne'
  rw [Ideal.exp2_coe]
  show ((Real.rpow 2 _ : ℝ) : EReal) = _
  congr 1
  refine (Real.rpow_def_of_pos (by norm_num) _).trans ?_
  congr 1
  field_simp

/-- The 128 features of a head: 64 of one, three of another, a gap, three of a third, and zeros. -/
def feat (x : ℕ → EReal) (a b : ℕ → EReal) (f : ℕ) : EReal :=
  if f < 64 then x f else if f < 67 then a (f - 64) else if f < 88 then 0 else if f < 91 then b (f - 88) else 0

/-- The product of two such feature rows. -/
theorem sum_feat (x y a b a' b' : ℕ → EReal) :
    ∑ f : Fin 128, feat x a b f.val * feat y a' b' f.val
      = ∑ d : Fin 64, x d.val * y d.val + (∑ j : Fin 3, a j.val * a' j.val + ∑ j : Fin 3, b j.val * b' j.val) := by
  rw [← Finset.sum_range (fun f => feat x a b f * feat y a' b' f), ← Finset.sum_range (fun d => x d * y d),
    ← Finset.sum_range (fun j => a j * a' j), ← Finset.sum_range (fun j => b j * b' j),
    show 128 = 64 + (3 + (21 + (3 + 37))) from rfl, Finset.sum_range_add, Finset.sum_range_add, Finset.sum_range_add, Finset.sum_range_add]
  have z1 : ∑ k ∈ Finset.range 21, feat x a b (64 + (3 + k)) * feat y a' b' (64 + (3 + k)) = 0 :=
    Finset.sum_eq_zero fun k hk => by
      have := Finset.mem_range.mp hk
      unfold feat
      rw [if_neg (by omega), if_neg (by omega), if_pos (by omega), zero_mul]
  have z2 : ∑ k ∈ Finset.range 37, feat x a b (64 + (3 + (21 + (3 + k)))) * feat y a' b' (64 + (3 + (21 + (3 + k)))) = 0 :=
    Finset.sum_eq_zero fun k hk => by
      unfold feat
      rw [if_neg (by omega), if_neg (by omega), if_neg (by omega), if_neg (by omega), zero_mul]
  rw [z1, z2, zero_add, add_zero]
  refine congrArg₂ (· + ·) (Finset.sum_congr rfl fun k hk => ?_) (congrArg₂ (· + ·) (Finset.sum_congr rfl fun k hk => ?_) (Finset.sum_congr rfl fun k hk => ?_))
  · have := Finset.mem_range.mp hk
    unfold feat
    rw [if_pos (by omega), if_pos (by omega)]
  · have := Finset.mem_range.mp hk
    unfold feat
    rw [if_neg (by omega), if_pos (by omega), if_neg (by omega), if_pos (by omega), show 64 + k - 64 = k by omega]
  · have := Finset.mem_range.mp hk
    unfold feat
    rw [if_neg (by omega), if_neg (by omega), if_neg (by omega), if_pos (by omega), if_neg (by omega), if_neg (by omega), if_neg (by omega), if_pos (by omega),
      show 64 + (3 + (21 + k)) - 88 = k by omega]

end Cert.Attn

end
-- ==== Proof.AttnTrip.lean ====
/- One trip of the attention kernel's sweep over key tiles: what the accumulator and the second half of the scratch of
   exponentials hold after it, given what they held before. A trip takes two key tiles: it adds the tile whose exponentials
   the scratch holds, and the next one, whose exponentials it has just written. -/
module

public import proofs.«01_k».proof.Proof.AttnMem
public import proofs.«01_k».proof.Proof.AttnMath
public import proofs.«01_k».proof.Proof.Gen.KernelIdeal.Frame

@[expose] public section

set_option backward.proofsInPublic true
set_option maxRecDepth 16384

noncomputable section

namespace Cert.KernelIdeal.AttnTrip

open Idealize.ShloMosaic Idealize.ShloMosaic.TcCoe Idealize.SL.Sem
open Cert.KernelIdeal Cert.KernelIdeal.Gen
open Cert.Attn

/-- Whether the number of whole key tiles before the last two is odd. -/
def par (i : grid0.Coords) : ℕ := ((i 1).val - 1) % 2

/-- Where a trip's loads start: the keys of the tile to come, -/
theorem offsA : ∀ (i : grid0.Coords) (k : Fin (k0_t1_loop i).trips),
    k0_off1 i k = ![0, (par i + 2 * k.val + 1) * 512, 0] ∧
    k0_off3 i k = ![0, (par i + 2 * k.val + 1) * 512, 128] ∧
    k0_off5 i k = ![0, (par i + 2 * k.val + 1) * 512, 256] ∧
    k0_off7 i k = ![0, (par i + 2 * k.val + 1) * 512, 384] ∧
    k0_off9 i k = ![0, (par i + 2 * k.val + 1) * 512, 512] ∧
    k0_off11 i k = ![0, (par i + 2 * k.val + 1) * 512, 640] ∧
    k0_off13 i k = ![0, (par i + 2 * k.val + 1) * 512, 768] ∧
    k0_off15 i k = ![0, (par i + 2 * k.val + 1) * 512, 896] := by decide +kernel

/-- the values of the tile at hand, -/
theorem offsB : ∀ (i : grid0.Coords) (k : Fin (k0_t1_loop i).trips),
    k0_off2 i k = ![0, par i + 2 * k.val, 0, 0] ∧
    k0_off4 i k = ![0, par i + 2 * k.val, 80, 0] ∧
    k0_off6 i k = ![0, par i + 2 * k.val, 160, 0] ∧
    k0_off8 i k = ![0, par i + 2 * k.val, 240, 0] ∧
    k0_off10 i k = ![0, par i + 2 * k.val, 320, 0] ∧
    k0_off12 i k = ![0, par i + 2 * k.val, 400, 0] ∧
    k0_off14 i k = ![0, par i + 2 * k.val, 480, 0] ∧
    k0_off16 i k = ![0, par i + 2 * k.val, 560, 0] := by decide +kernel

/-- and the same of the tile after. -/
theorem offsC : ∀ (i : grid0.Coords) (k : Fin (k0_t1_loop i).trips),
    k0_off17 i k = ![0, (par i + 2 * k.val + 2) * 512, 0] ∧
    k0_off19 i k = ![0, (par i + 2 * k.val + 2) * 512, 128] ∧
    k0_off21 i k = ![0, (par i + 2 * k.val + 2) * 512, 256] ∧
    k0_off23 i k = ![0, (par i + 2 * k.val + 2) * 512, 384] ∧
    k0_off25 i k = ![0, (par i + 2 * k.val + 2) * 512, 512] ∧
    k0_off27 i k = ![0, (par i + 2 * k.val + 2) * 512, 640] ∧
    k0_off29 i k = ![0, (par i + 2 * k.val + 2) * 512, 768] ∧
    k0_off31 i k = ![0, (par i + 2 * k.val + 2) * 512, 896] := by decide +kernel

theorem offsD : ∀ (i : grid0.Coords) (k : Fin (k0_t1_loop i).trips),
    k0_off18 i k = ![0, par i + 2 * k.val + 1, 0, 0] ∧
    k0_off20 i k = ![0, par i + 2 * k.val + 1, 80, 0] ∧
    k0_off22 i k = ![0, par i + 2 * k.val + 1, 160, 0] ∧
    k0_off24 i k = ![0, par i + 2 * k.val + 1, 240, 0] ∧
    k0_off26 i k = ![0, par i + 2 * k.val + 1, 320, 0] ∧
    k0_off28 i k = ![0, par i + 2 * k.val + 1, 400, 0] ∧
    k0_off30 i k = ![0, par i + 2 * k.val + 1, 480, 0] ∧
    k0_off32 i k = ![0, par i + 2 * k.val + 1, 560, 0] := by decide +kernel

variable (𝒱 : Variants) (c : Dev nD) (bd : Option 𝒱.V) (i : grid0.Coords)
  (arg2 : Memref sig .tc .vmem S1x1x1024x512 .bf16) (harg2 : arg2.IsWhole) (arg3 : Memref sig .tc .vmem S1x4096x1024 .bf16) (harg3 : arg3.IsWhole)
  (arg4 : Memref sig .tc .vmem S1x8x640x512 .bf16) (harg4 : arg4.IsWhole) (arg5 : Memref sig .tc .vmem S1x512x512 .bf16) (harg5 : arg5.IsWhole)
  (arg6 : Memref sig .tc .vmem S8x80x512 .f32) (harg6 : arg6.IsWhole) (arg7 : Memref sig .tc .vmem S2x8x512x512 .bf16) (harg7 : arg7.IsWhole)
  (arg1 v11 c2 v25 v30 : BitVec 32) (v31 : BitVec 1)
  (x0 : Vec Ideal S1x1x1024x512 .bf16) (x1 : Vec Ideal S1x4096x1024 .bf16) (x2 : Vec Ideal S1x8x640x512 .bf16) (k : Fin (k0_t1_loop i).trips)
  (f6 : BufTy.Contents (Elt Ideal) arg6.view.ty) (f7 : BufTy.Contents (Elt Ideal) arg7.view.ty)
  (Q K : ℕ → ℕ → EReal) (V : ℕ → ℕ → ℕ → EReal) (A : ℕ → ℕ → ℕ → EReal) (P : ℕ → ℕ → ℕ → EReal)
  (hQ : ∀ (a b : Fin 1) (f : Fin 1024) (q : Fin 512), x0 (ix4 a b f q) = Q f.val q.val)
  (hK : ∀ (a : Fin 1) (s : Fin 4096) (j : Fin 1024), x1 (ix3 a s j) = K s.val j.val)
  (hV : ∀ (a : Fin 1) (t : Fin 8) (r : Fin 640) (q : Fin 512), x2 (ix4 a t r q) = V t.val r.val q.val)

set_option maxHeartbeats 4000000 in
include hQ hK in
/-- The exponentials the trip leaves in the second half of the scratch: those of the key tile two on. -/
theorem trip_p (h : Fin 8) (kk q : Fin 512) :
    arg7.view.read (Elt Ideal) (arg7.view.writes (Elt Ideal) f7 ((trip_k0_t1 (F := Ideal) 𝒱 c bd i arg2 harg2 arg3 harg3 arg4 harg4 arg5 harg5 arg6 harg6 arg7 harg7 arg1 v11 c2 v25 v30 v31 (harg2.unread x0) (harg3.unread x1) (harg4.unread x2) k).2.1 f6 f7)) (ix4 1 h kk q)
      = wt Q K h.val ((par i + 2 * k.val + 2) * 512 + kk.val) q.val := by
  unfold trip_k0_t1
  dsimp only
  have hh : h.val = 0 ∨ h.val = 1 ∨ h.val = 2 ∨ h.val = 3 ∨ h.val = 4 ∨ h.val = 5 ∨ h.val = 6 ∨ h.val = 7 := by omega
  simp only [trip_k0_t1.sl.HW_arg6_8, trip_k0_t1.sl.HW_arg6_9, trip_k0_t1.sl.HW_arg6_10, trip_k0_t1.sl.HW_arg6_11, trip_k0_t1.sl.HW_arg6_12,
    trip_k0_t1.sl.HW_arg6_13, trip_k0_t1.sl.HW_arg6_14, trip_k0_t1.sl.HW_arg6_15, trip_k0_t1.sl.HW_arg7_9, trip_k0_t1.sl.HW_arg7_10,
    trip_k0_t1.sl.HW_arg7_11, trip_k0_t1.sl.HW_arg7_12, trip_k0_t1.sl.HW_arg7_13, trip_k0_t1.sl.HW_arg7_14, trip_k0_t1.sl.HW_arg7_15,
    trip_k0_t1.sl.HW_arg7_16]
  rcases hh with hh | hh | hh | hh | hh | hh | hh | hh <;>
  · simp (disch := ((try dsimp only); omega)) only [AttnMem.hit4, AttnMem.miss4]
    pointwise [trip_k0_t1.sl.arg8, trip_k0_t1.sl.cst_261, trip_k0_t1.sl.cst_276, trip_k0_t1.sl.r, trip_k0_t1.sl.r_1, trip_k0_t1.sl.r_2, trip_k0_t1.sl.v332,
    trip_k0_t1.sl.v333, trip_k0_t1.sl.v334, trip_k0_t1.sl.v336, trip_k0_t1.sl.v337, trip_k0_t1.sl.v338, trip_k0_t1.sl.v339, trip_k0_t1.sl.v340,
    trip_k0_t1.sl.v341, trip_k0_t1.sl.v342, trip_k0_t1.sl.v343, trip_k0_t1.sl.v344, trip_k0_t1.sl.v346, trip_k0_t1.sl.v348, trip_k0_t1.sl.v350,
    trip_k0_t1.sl.v351, trip_k0_t1.sl.v352, trip_k0_t1.sl.v353, trip_k0_t1.sl.v355, trip_k0_t1.sl.v356, trip_k0_t1.sl.v358, trip_k0_t1.sl.v359,
    trip_k0_t1.sl.v361, trip_k0_t1.sl.v362, trip_k0_t1.sl.v363, trip_k0_t1.sl.v364, trip_k0_t1.sl.v365, trip_k0_t1.sl.v368, trip_k0_t1.sl.v375,
    trip_k0_t1.sl.v377, trip_k0_t1.sl.v378, trip_k0_t1.sl.v379, trip_k0_t1.sl.v380, trip_k0_t1.sl.v381, trip_k0_t1.sl.v382, trip_k0_t1.sl.v383,
    trip_k0_t1.sl.v384, trip_k0_t1.sl.v385, trip_k0_t1.sl.v388, trip_k0_t1.sl.v389, trip_k0_t1.sl.v390, trip_k0_t1.sl.v391, trip_k0_t1.sl.v392,
    trip_k0_t1.sl.v395, trip_k0_t1.sl.v402, trip_k0_t1.sl.v404, trip_k0_t1.sl.v405, trip_k0_t1.sl.v406, trip_k0_t1.sl.v407, trip_k0_t1.sl.v408,
    trip_k0_t1.sl.v409, trip_k0_t1.sl.v410, trip_k0_t1.sl.v411, trip_k0_t1.sl.v412, trip_k0_t1.sl.v415, trip_k0_t1.sl.v416, trip_k0_t1.sl.v417,
    trip_k0_t1.sl.v418, trip_k0_t1.sl.v419, trip_k0_t1.sl.v422, trip_k0_t1.sl.v429, trip_k0_t1.sl.v431, trip_k0_t1.sl.v432, trip_k0_t1.sl.v433,
    trip_k0_t1.sl.v434, trip_k0_t1.sl.v435, trip_k0_t1.sl.v436, trip_k0_t1.sl.v437, trip_k0_t1.sl.v438, trip_k0_t1.sl.v439, trip_k0_t1.sl.v442,
    trip_k0_t1.sl.v443, trip_k0_t1.sl.v444, trip_k0_t1.sl.v445, trip_k0_t1.sl.v446, trip_k0_t1.sl.v449, trip_k0_t1.sl.v456, trip_k0_t1.sl.v458,
    trip_k0_t1.sl.v459, trip_k0_t1.sl.v460, trip_k0_t1.sl.v461, trip_k0_t1.sl.v462, trip_k0_t1.sl.v463, trip_k0_t1.sl.v464, trip_k0_t1.sl.v465,
    trip_k0_t1.sl.v466, trip_k0_t1.sl.v469, trip_k0_t1.sl.v470, trip_k0_t1.sl.v471, trip_k0_t1.sl.v472, trip_k0_t1.sl.v473, trip_k0_t1.sl.v476,
    trip_k0_t1.sl.v483, trip_k0_t1.sl.v485, trip_k0_t1.sl.v486, trip_k0_t1.sl.v487, trip_k0_t1.sl.v488, trip_k0_t1.sl.v489, trip_k0_t1.sl.v490,
    trip_k0_t1.sl.v491, trip_k0_t1.sl.v492, trip_k0_t1.sl.v493, trip_k0_t1.sl.v496, trip_k0_t1.sl.v497, trip_k0_t1.sl.v498, trip_k0_t1.sl.v499,
    trip_k0_t1.sl.v500, trip_k0_t1.sl.v503, trip_k0_t1.sl.v510, trip_k0_t1.sl.v512, trip_k0_t1.sl.v513, trip_k0_t1.sl.v514, trip_k0_t1.sl.v515,
    trip_k0_t1.sl.v516, trip_k0_t1.sl.v517, trip_k0_t1.sl.v518, trip_k0_t1.sl.v519, trip_k0_t1.sl.v520, trip_k0_t1.sl.v523, trip_k0_t1.sl.v524,
    trip_k0_t1.sl.v525, trip_k0_t1.sl.v526, trip_k0_t1.sl.v527, trip_k0_t1.sl.v530, trip_k0_t1.sl.v537, trip_k0_t1.sl.v539, trip_k0_t1.sl.v540,
    trip_k0_t1.sl.v541, trip_k0_t1.sl.v542, trip_k0_t1.sl.v543, trip_k0_t1.sl.v544, trip_k0_t1.sl.v545, trip_k0_t1.sl.v546, trip_k0_t1.sl.v547,
    trip_k0_t1.sl.v550, trip_k0_t1.sl.v551, trip_k0_t1.sl.v552, trip_k0_t1.sl.v553, trip_k0_t1.sl.v554, trip_k0_t1.sl.v557, trip_k0_t1.sl.v559,
    trip_k0_t1.sl.v560, trip_k0_t1.sl.v561, trip_k0_t1.sl.v563, trip_k0_t1.sl.v565, trip_k0_t1.sl.v568, trip_k0_t1.sl.v569, trip_k0_t1.sl.v570,
    trip_k0_t1.sl.v573, trip_k0_t1.sl.v574, trip_k0_t1.sl.v575, trip_k0_t1.sl.v576, trip_k0_t1.sl.v578, trip_k0_t1.sl.v579, trip_k0_t1.sl.v580,
    trip_k0_t1.sl.v581, trip_k0_t1.sl.v582, trip_k0_t1.sl.v585, trip_k0_t1.sl.v592, trip_k0_t1.sl.v595, trip_k0_t1.sl.v596, trip_k0_t1.sl.v597,
    trip_k0_t1.sl.v600, trip_k0_t1.sl.v601, trip_k0_t1.sl.v602, trip_k0_t1.sl.v605, trip_k0_t1.sl.v606, trip_k0_t1.sl.v607, trip_k0_t1.sl.v608,
    trip_k0_t1.sl.v609, trip_k0_t1.sl.v612, trip_k0_t1.sl.v619, trip_k0_t1.sl.v622, trip_k0_t1.sl.v623, trip_k0_t1.sl.v624, trip_k0_t1.sl.v627,
    trip_k0_t1.sl.v628, trip_k0_t1.sl.v629, trip_k0_t1.sl.v632, trip_k0_t1.sl.v633, trip_k0_t1.sl.v634, trip_k0_t1.sl.v635, trip_k0_t1.sl.v636,
    trip_k0_t1.sl.v639, trip_k0_t1.sl.v646, trip_k0_t1.sl.v649, trip_k0_t1.sl.v650, trip_k0_t1.sl.v651, trip_k0_t1.sl.v654, trip_k0_t1.sl.v655,
    trip_k0_t1.sl.v656, trip_k0_t1.sl.v659, trip_k0_t1.sl.v660, trip_k0_t1.sl.v661, trip_k0_t1.sl.v662, trip_k0_t1.sl.v663, trip_k0_t1.sl.v666,
    trip_k0_t1.sl.v673, trip_k0_t1.sl.v676, trip_k0_t1.sl.v677, trip_k0_t1.sl.v678, trip_k0_t1.sl.v681, trip_k0_t1.sl.v682, trip_k0_t1.sl.v683,
    trip_k0_t1.sl.v686, trip_k0_t1.sl.v687, trip_k0_t1.sl.v688, trip_k0_t1.sl.v689, trip_k0_t1.sl.v690, trip_k0_t1.sl.v693, trip_k0_t1.sl.v700,
    trip_k0_t1.sl.v702, trip_k0_t1.sl.v703, trip_k0_t1.sl.v704, trip_k0_t1.sl.v705, trip_k0_t1.sl.v708, trip_k0_t1.sl.v709, trip_k0_t1.sl.v710,
    trip_k0_t1.sl.v713, trip_k0_t1.sl.v714, trip_k0_t1.sl.v715, trip_k0_t1.sl.v716, trip_k0_t1.sl.v717, trip_k0_t1.sl.v720, trip_k0_t1.sl.v727,
    trip_k0_t1.sl.v730, trip_k0_t1.sl.v731, trip_k0_t1.sl.v732, trip_k0_t1.sl.v735, trip_k0_t1.sl.v736, trip_k0_t1.sl.v737, trip_k0_t1.sl.v740,
    trip_k0_t1.sl.v741, trip_k0_t1.sl.v742, trip_k0_t1.sl.v743, trip_k0_t1.sl.v744, trip_k0_t1.sl.v747, trip_k0_t1.sl.v754, trip_k0_t1.sl.v757,
    trip_k0_t1.sl.v758, trip_k0_t1.sl.v759, trip_k0_t1.sl.v763, trip_k0_t1.sl.v768, k0_pay200]
    simp only [AttnMem.load3, AttnMem.load4, Matrix.cons_val, Fin.val_zero, Nat.add_zero, Nat.zero_add, Fin.eta,
      Memref.IsWhole.read_unread, hQ, hK, offsA i k, offsB i k, offsC i k, offsD i k, wt, lg, hh, Nat.reduceMul]
    rfl

set_option maxHeartbeats 4000000 in
include hQ hK hV in
/-- The accumulator after the trip. -/
theorem trip_acc (hA : ∀ (h : Fin 8) (r : Fin 80) (q : Fin 512), arg6.view.read (Elt Ideal) f6 (ix3 h r q) = A h.val r.val q.val)
    (hP : ∀ (a : Fin 2) (h : Fin 8) (kk : Fin 512) (q : Fin 512), a.val = 1 → arg7.view.read (Elt Ideal) f7 (ix4 a h kk q) = P h.val kk.val q.val)
    (h : Fin 8) (r : Fin 80) (q : Fin 512) :
    arg6.view.read (Elt Ideal) (arg6.view.writes (Elt Ideal) f6 ((trip_k0_t1 (F := Ideal) 𝒱 c bd i arg2 harg2 arg3 harg3 arg4 harg4 arg5 harg5 arg6 harg6 arg7 harg7 arg1 v11 c2 v25 v30 v31 (harg2.unread x0) (harg3.unread x1) (harg4.unread x2) k).1 f6 f7)) (ix3 h r q)
      = A h.val r.val q.val + tile V (fun kk => P h.val kk q.val) h.val r.val (par i + 2 * k.val)
        + tile V (fun kk => wt Q K h.val ((par i + 2 * k.val + 1) * 512 + kk) q.val) h.val r.val (par i + 2 * k.val + 1) := by
  unfold trip_k0_t1
  dsimp only
  have hh : h.val = 0 ∨ h.val = 1 ∨ h.val = 2 ∨ h.val = 3 ∨ h.val = 4 ∨ h.val = 5 ∨ h.val = 6 ∨ h.val = 7 := by omega
  simp only [trip_k0_t1.sl.HW_arg6_8, trip_k0_t1.sl.HW_arg6_9, trip_k0_t1.sl.HW_arg6_10, trip_k0_t1.sl.HW_arg6_11, trip_k0_t1.sl.HW_arg6_12,
    trip_k0_t1.sl.HW_arg6_13, trip_k0_t1.sl.HW_arg6_14, trip_k0_t1.sl.HW_arg6_15, trip_k0_t1.sl.HW_arg7_9, trip_k0_t1.sl.HW_arg7_10,
    trip_k0_t1.sl.HW_arg7_11, trip_k0_t1.sl.HW_arg7_12, trip_k0_t1.sl.HW_arg7_13, trip_k0_t1.sl.HW_arg7_14, trip_k0_t1.sl.HW_arg7_15,
    trip_k0_t1.sl.HW_arg7_16]
  rcases hh with hh | hh | hh | hh | hh | hh | hh | hh <;>
  · simp (disch := ((try dsimp only); omega)) only [AttnMem.hit3, AttnMem.miss3]
    pointwise [trip_k0_t1.sl.arg8, trip_k0_t1.sl.cst_261, trip_k0_t1.sl.cst_276, trip_k0_t1.sl.r, trip_k0_t1.sl.r_1, trip_k0_t1.sl.r_2, trip_k0_t1.sl.v332,
    trip_k0_t1.sl.v333, trip_k0_t1.sl.v334, trip_k0_t1.sl.v336, trip_k0_t1.sl.v337, trip_k0_t1.sl.v338, trip_k0_t1.sl.v339, trip_k0_t1.sl.v340,
    trip_k0_t1.sl.v341, trip_k0_t1.sl.v342, trip_k0_t1.sl.v343, trip_k0_t1.sl.v344, trip_k0_t1.sl.v346, trip_k0_t1.sl.v348, trip_k0_t1.sl.v350,
    trip_k0_t1.sl.v351, trip_k0_t1.sl.v352, trip_k0_t1.sl.v353, trip_k0_t1.sl.v355, trip_k0_t1.sl.v356, trip_k0_t1.sl.v358, trip_k0_t1.sl.v359,
    trip_k0_t1.sl.v361, trip_k0_t1.sl.v362, trip_k0_t1.sl.v363, trip_k0_t1.sl.v364, trip_k0_t1.sl.v365, trip_k0_t1.sl.v368, trip_k0_t1.sl.v375,
    trip_k0_t1.sl.v377, trip_k0_t1.sl.v378, trip_k0_t1.sl.v379, trip_k0_t1.sl.v380, trip_k0_t1.sl.v381, trip_k0_t1.sl.v382, trip_k0_t1.sl.v383,
    trip_k0_t1.sl.v384, trip_k0_t1.sl.v385, trip_k0_t1.sl.v388, trip_k0_t1.sl.v389, trip_k0_t1.sl.v390, trip_k0_t1.sl.v391, trip_k0_t1.sl.v392,
    trip_k0_t1.sl.v395, trip_k0_t1.sl.v402, trip_k0_t1.sl.v404, trip_k0_t1.sl.v405, trip_k0_t1.sl.v406, trip_k0_t1.sl.v407, trip_k0_t1.sl.v408,
    trip_k0_t1.sl.v409, trip_k0_t1.sl.v410, trip_k0_t1.sl.v411, trip_k0_t1.sl.v412, trip_k0_t1.sl.v415, trip_k0_t1.sl.v416, trip_k0_t1.sl.v417,
    trip_k0_t1.sl.v418, trip_k0_t1.sl.v419, trip_k0_t1.sl.v422, trip_k0_t1.sl.v429, trip_k0_t1.sl.v431, trip_k0_t1.sl.v432, trip_k0_t1.sl.v433,
    trip_k0_t1.sl.v434, trip_k0_t1.sl.v435, trip_k0_t1.sl.v436, trip_k0_t1.sl.v437, trip_k0_t1.sl.v438, trip_k0_t1.sl.v439, trip_k0_t1.sl.v442,
    trip_k0_t1.sl.v443, trip_k0_t1.sl.v444, trip_k0_t1.sl.v445, trip_k0_t1.sl.v446, trip_k0_t1.sl.v449, trip_k0_t1.sl.v456, trip_k0_t1.sl.v458,
    trip_k0_t1.sl.v459, trip_k0_t1.sl.v460, trip_k0_t1.sl.v461, trip_k0_t1.sl.v462, trip_k0_t1.sl.v463, trip_k0_t1.sl.v464, trip_k0_t1.sl.v465,
    trip_k0_t1.sl.v466, trip_k0_t1.sl.v469, trip_k0_t1.sl.v470, trip_k0_t1.sl.v471, trip_k0_t1.sl.v472, trip_k0_t1.sl.v473, trip_k0_t1.sl.v476,
    trip_k0_t1.sl.v483, trip_k0_t1.sl.v485, trip_k0_t1.sl.v486, trip_k0_t1.sl.v487, trip_k0_t1.sl.v488, trip_k0_t1.sl.v489, trip_k0_t1.sl.v490,
    trip_k0_t1.sl.v491, trip_k0_t1.sl.v492, trip_k0_t1.sl.v493, trip_k0_t1.sl.v496, trip_k0_t1.sl.v497, trip_k0_t1.sl.v498, trip_k0_t1.sl.v499,
    trip_k0_t1.sl.v500, trip_k0_t1.sl.v503, trip_k0_t1.sl.v510, trip_k0_t1.sl.v512, trip_k0_t1.sl.v513, trip_k0_t1.sl.v514, trip_k0_t1.sl.v515,
    trip_k0_t1.sl.v516, trip_k0_t1.sl.v517, trip_k0_t1.sl.v518, trip_k0_t1.sl.v519, trip_k0_t1.sl.v520, trip_k0_t1.sl.v523, trip_k0_t1.sl.v524,
    trip_k0_t1.sl.v525, trip_k0_t1.sl.v526, trip_k0_t1.sl.v527, trip_k0_t1.sl.v530, trip_k0_t1.sl.v537, trip_k0_t1.sl.v539, trip_k0_t1.sl.v540,
    trip_k0_t1.sl.v541, trip_k0_t1.sl.v542, trip_k0_t1.sl.v543, trip_k0_t1.sl.v544, trip_k0_t1.sl.v545, trip_k0_t1.sl.v546, trip_k0_t1.sl.v547,
    trip_k0_t1.sl.v550, trip_k0_t1.sl.v551, trip_k0_t1.sl.v552, trip_k0_t1.sl.v553, trip_k0_t1.sl.v554, trip_k0_t1.sl.v557, trip_k0_t1.sl.v559,
    trip_k0_t1.sl.v560, trip_k0_t1.sl.v561, trip_k0_t1.sl.v563, trip_k0_t1.sl.v565, trip_k0_t1.sl.v568, trip_k0_t1.sl.v569, trip_k0_t1.sl.v570,
    trip_k0_t1.sl.v573, trip_k0_t1.sl.v574, trip_k0_t1.sl.v575, trip_k0_t1.sl.v576, trip_k0_t1.sl.v578, trip_k0_t1.sl.v579, trip_k0_t1.sl.v580,
    trip_k0_t1.sl.v581, trip_k0_t1.sl.v582, trip_k0_t1.sl.v585, trip_k0_t1.sl.v592, trip_k0_t1.sl.v595, trip_k0_t1.sl.v596, trip_k0_t1.sl.v597,
    trip_k0_t1.sl.v600, trip_k0_t1.sl.v601, trip_k0_t1.sl.v602, trip_k0_t1.sl.v605, trip_k0_t1.sl.v606, trip_k0_t1.sl.v607, trip_k0_t1.sl.v608,
    trip_k0_t1.sl.v609, trip_k0_t1.sl.v612, trip_k0_t1.sl.v619, trip_k0_t1.sl.v622, trip_k0_t1.sl.v623, trip_k0_t1.sl.v624, trip_k0_t1.sl.v627,
    trip_k0_t1.sl.v628, trip_k0_t1.sl.v629, trip_k0_t1.sl.v632, trip_k0_t1.sl.v633, trip_k0_t1.sl.v634, trip_k0_t1.sl.v635, trip_k0_t1.sl.v636,
    trip_k0_t1.sl.v639, trip_k0_t1.sl.v646, trip_k0_t1.sl.v649, trip_k0_t1.sl.v650, trip_k0_t1.sl.v651, trip_k0_t1.sl.v654, trip_k0_t1.sl.v655,
    trip_k0_t1.sl.v656, trip_k0_t1.sl.v659, trip_k0_t1.sl.v660, trip_k0_t1.sl.v661, trip_k0_t1.sl.v662, trip_k0_t1.sl.v663, trip_k0_t1.sl.v666,
    trip_k0_t1.sl.v673, trip_k0_t1.sl.v676, trip_k0_t1.sl.v677, trip_k0_t1.sl.v678, trip_k0_t1.sl.v681, trip_k0_t1.sl.v682, trip_k0_t1.sl.v683,
    trip_k0_t1.sl.v686, trip_k0_t1.sl.v687, trip_k0_t1.sl.v688, trip_k0_t1.sl.v689, trip_k0_t1.sl.v690, trip_k0_t1.sl.v693, trip_k0_t1.sl.v700,
    trip_k0_t1.sl.v702, trip_k0_t1.sl.v703, trip_k0_t1.sl.v704, trip_k0_t1.sl.v705, trip_k0_t1.sl.v708, trip_k0_t1.sl.v709, trip_k0_t1.sl.v710,
    trip_k0_t1.sl.v713, trip_k0_t1.sl.v714, trip_k0_t1.sl.v715, trip_k0_t1.sl.v716, trip_k0_t1.sl.v717, trip_k0_t1.sl.v720, trip_k0_t1.sl.v727,
    trip_k0_t1.sl.v730, trip_k0_t1.sl.v731, trip_k0_t1.sl.v732, trip_k0_t1.sl.v735, trip_k0_t1.sl.v736, trip_k0_t1.sl.v737, trip_k0_t1.sl.v740,
    trip_k0_t1.sl.v741, trip_k0_t1.sl.v742, trip_k0_t1.sl.v743, trip_k0_t1.sl.v744, trip_k0_t1.sl.v747, trip_k0_t1.sl.v754, trip_k0_t1.sl.v757,
    trip_k0_t1.sl.v758, trip_k0_t1.sl.v759, trip_k0_t1.sl.v763, trip_k0_t1.sl.v768, k0_pay201]
    simp only [View.readCov]
    simp only [AttnMem.load3, AttnMem.load4, Matrix.cons_val, Fin.val_zero, Nat.add_zero, Nat.zero_add, Fin.eta]
    simp only [trip_k0_t1.sl.HW_arg6_8, trip_k0_t1.sl.HW_arg6_9, trip_k0_t1.sl.HW_arg6_10, trip_k0_t1.sl.HW_arg6_11, trip_k0_t1.sl.HW_arg6_12,
    trip_k0_t1.sl.HW_arg6_13, trip_k0_t1.sl.HW_arg6_14, trip_k0_t1.sl.HW_arg6_15, trip_k0_t1.sl.HW_arg7_9, trip_k0_t1.sl.HW_arg7_10,
    trip_k0_t1.sl.HW_arg7_11, trip_k0_t1.sl.HW_arg7_12, trip_k0_t1.sl.HW_arg7_13, trip_k0_t1.sl.HW_arg7_14, trip_k0_t1.sl.HW_arg7_15,
    trip_k0_t1.sl.HW_arg7_16]
    simp (disch := ((try dsimp only); omega)) only [AttnMem.hit3, AttnMem.miss3, AttnMem.hit4, AttnMem.miss4]
    pointwise [trip_k0_t1.sl.arg8, trip_k0_t1.sl.cst_261, trip_k0_t1.sl.cst_276, trip_k0_t1.sl.r, trip_k0_t1.sl.r_1, trip_k0_t1.sl.r_2, trip_k0_t1.sl.v332,
    trip_k0_t1.sl.v333, trip_k0_t1.sl.v334, trip_k0_t1.sl.v336, trip_k0_t1.sl.v337, trip_k0_t1.sl.v338, trip_k0_t1.sl.v339, trip_k0_t1.sl.v340,
    trip_k0_t1.sl.v341, trip_k0_t1.sl.v342, trip_k0_t1.sl.v343, trip_k0_t1.sl.v344, trip_k0_t1.sl.v346, trip_k0_t1.sl.v348, trip_k0_t1.sl.v350,
    trip_k0_t1.sl.v351, trip_k0_t1.sl.v352, trip_k0_t1.sl.v353, trip_k0_t1.sl.v355, trip_k0_t1.sl.v356, trip_k0_t1.sl.v358, trip_k0_t1.sl.v359,
    trip_k0_t1.sl.v361, trip_k0_t1.sl.v362, trip_k0_t1.sl.v363, trip_k0_t1.sl.v364, trip_k0_t1.sl.v365, trip_k0_t1.sl.v368, trip_k0_t1.sl.v375,
    trip_k0_t1.sl.v377, trip_k0_t1.sl.v378, trip_k0_t1.sl.v379, trip_k0_t1.sl.v380, trip_k0_t1.sl.v381, trip_k0_t1.sl.v382, trip_k0_t1.sl.v383,
    trip_k0_t1.sl.v384, trip_k0_t1.sl.v385, trip_k0_t1.sl.v388, trip_k0_t1.sl.v389, trip_k0_t1.sl.v390, trip_k0_t1.sl.v391, trip_k0_t1.sl.v392,
    trip_k0_t1.sl.v395, trip_k0_t1.sl.v402, trip_k0_t1.sl.v404, trip_k0_t1.sl.v405, trip_k0_t1.sl.v406, trip_k0_t1.sl.v407, trip_k0_t1.sl.v408,
    trip_k0_t1.sl.v409, trip_k0_t1.sl.v410, trip_k0_t1.sl.v411, trip_k0_t1.sl.v412, trip_k0_t1.sl.v415, trip_k0_t1.sl.v416, trip_k0_t1.sl.v417,
    trip_k0_t1.sl.v418, trip_k0_t1.sl.v419, trip_k0_t1.sl.v422, trip_k0_t1.sl.v429, trip_k0_t1.sl.v431, trip_k0_t1.sl.v432, trip_k0_t1.sl.v433,
    trip_k0_t1.sl.v434, trip_k0_t1.sl.v435, trip_k0_t1.sl.v436, trip_k0_t1.sl.v437, trip_k0_t1.sl.v438, trip_k0_t1.sl.v439, trip_k0_t1.sl.v442,
    trip_k0_t1.sl.v443, trip_k0_t1.sl.v444, trip_k0_t1.sl.v445, trip_k0_t1.sl.v446, trip_k0_t1.sl.v449, trip_k0_t1.sl.v456, trip_k0_t1.sl.v458,
    trip_k0_t1.sl.v459, trip_k0_t1.sl.v460, trip_k0_t1.sl.v461, trip_k0_t1.sl.v462, trip_k0_t1.sl.v463, trip_k0_t1.sl.v464, trip_k0_t1.sl.v465,
    trip_k0_t1.sl.v466, trip_k0_t1.sl.v469, trip_k0_t1.sl.v470, trip_k0_t1.sl.v471, trip_k0_t1.sl.v472, trip_k0_t1.sl.v473, trip_k0_t1.sl.v476,
    trip_k0_t1.sl.v483, trip_k0_t1.sl.v485, trip_k0_t1.sl.v486, trip_k0_t1.sl.v487, trip_k0_t1.sl.v488, trip_k0_t1.sl.v489, trip_k0_t1.sl.v490,
    trip_k0_t1.sl.v491, trip_k0_t1.sl.v492, trip_k0_t1.sl.v493, trip_k0_t1.sl.v496, trip_k0_t1.sl.v497, trip_k0_t1.sl.v498, trip_k0_t1.sl.v499,
    trip_k0_t1.sl.v500, trip_k0_t1.sl.v503, trip_k0_t1.sl.v510, trip_k0_t1.sl.v512, trip_k0_t1.sl.v513, trip_k0_t1.sl.v514, trip_k0_t1.sl.v515,
    trip_k0_t1.sl.v516, trip_k0_t1.sl.v517, trip_k0_t1.sl.v518, trip_k0_t1.sl.v519, trip_k0_t1.sl.v520, trip_k0_t1.sl.v523, trip_k0_t1.sl.v524,
    trip_k0_t1.sl.v525, trip_k0_t1.sl.v526, trip_k0_t1.sl.v527, trip_k0_t1.sl.v530, trip_k0_t1.sl.v537, trip_k0_t1.sl.v539, trip_k0_t1.sl.v540,
    trip_k0_t1.sl.v541, trip_k0_t1.sl.v542, trip_k0_t1.sl.v543, trip_k0_t1.sl.v544, trip_k0_t1.sl.v545, trip_k0_t1.sl.v546, trip_k0_t1.sl.v547,
    trip_k0_t1.sl.v550, trip_k0_t1.sl.v551, trip_k0_t1.sl.v552, trip_k0_t1.sl.v553, trip_k0_t1.sl.v554, trip_k0_t1.sl.v557, trip_k0_t1.sl.v559,
    trip_k0_t1.sl.v560, trip_k0_t1.sl.v561, trip_k0_t1.sl.v563, trip_k0_t1.sl.v565, trip_k0_t1.sl.v568, trip_k0_t1.sl.v569, trip_k0_t1.sl.v570,
    trip_k0_t1.sl.v573, trip_k0_t1.sl.v574, trip_k0_t1.sl.v575, trip_k0_t1.sl.v576, trip_k0_t1.sl.v578, trip_k0_t1.sl.v579, trip_k0_t1.sl.v580,
    trip_k0_t1.sl.v581, trip_k0_t1.sl.v582, trip_k0_t1.sl.v585, trip_k0_t1.sl.v592, trip_k0_t1.sl.v595, trip_k0_t1.sl.v596, trip_k0_t1.sl.v597,
    trip_k0_t1.sl.v600, trip_k0_t1.sl.v601, trip_k0_t1.sl.v602, trip_k0_t1.sl.v605, trip_k0_t1.sl.v606, trip_k0_t1.sl.v607, trip_k0_t1.sl.v608,
    trip_k0_t1.sl.v609, trip_k0_t1.sl.v612, trip_k0_t1.sl.v619, trip_k0_t1.sl.v622, trip_k0_t1.sl.v623, trip_k0_t1.sl.v624, trip_k0_t1.sl.v627,
    trip_k0_t1.sl.v628, trip_k0_t1.sl.v629, trip_k0_t1.sl.v632, trip_k0_t1.sl.v633, trip_k0_t1.sl.v634, trip_k0_t1.sl.v635, trip_k0_t1.sl.v636,
    trip_k0_t1.sl.v639, trip_k0_t1.sl.v646, trip_k0_t1.sl.v649, trip_k0_t1.sl.v650, trip_k0_t1.sl.v651, trip_k0_t1.sl.v654, trip_k0_t1.sl.v655,
    trip_k0_t1.sl.v656, trip_k0_t1.sl.v659, trip_k0_t1.sl.v660, trip_k0_t1.sl.v661, trip_k0_t1.sl.v662, trip_k0_t1.sl.v663, trip_k0_t1.sl.v666,
    trip_k0_t1.sl.v673, trip_k0_t1.sl.v676, trip_k0_t1.sl.v677, trip_k0_t1.sl.v678, trip_k0_t1.sl.v681, trip_k0_t1.sl.v682, trip_k0_t1.sl.v683,
    trip_k0_t1.sl.v686, trip_k0_t1.sl.v687, trip_k0_t1.sl.v688, trip_k0_t1.sl.v689, trip_k0_t1.sl.v690, trip_k0_t1.sl.v693, trip_k0_t1.sl.v700,
    trip_k0_t1.sl.v702, trip_k0_t1.sl.v703, trip_k0_t1.sl.v704, trip_k0_t1.sl.v705, trip_k0_t1.sl.v708, trip_k0_t1.sl.v709, trip_k0_t1.sl.v710,
    trip_k0_t1.sl.v713, trip_k0_t1.sl.v714, trip_k0_t1.sl.v715, trip_k0_t1.sl.v716, trip_k0_t1.sl.v717, trip_k0_t1.sl.v720, trip_k0_t1.sl.v727,
    trip_k0_t1.sl.v730, trip_k0_t1.sl.v731, trip_k0_t1.sl.v732, trip_k0_t1.sl.v735, trip_k0_t1.sl.v736, trip_k0_t1.sl.v737, trip_k0_t1.sl.v740,
    trip_k0_t1.sl.v741, trip_k0_t1.sl.v742, trip_k0_t1.sl.v743, trip_k0_t1.sl.v744, trip_k0_t1.sl.v747, trip_k0_t1.sl.v754, trip_k0_t1.sl.v757,
    trip_k0_t1.sl.v758, trip_k0_t1.sl.v759, trip_k0_t1.sl.v763, trip_k0_t1.sl.v768]
    simp only [AttnMem.load3, AttnMem.load4, Matrix.cons_val, Fin.val_zero, Nat.add_zero, Nat.zero_add, Fin.eta]
    simp (disch := rfl) only [Memref.IsWhole.read_unread, hQ, hK, hV, hA, hP, offsA i k, offsB i k, offsC i k, offsD i k, Matrix.cons_val, tile, wt, lg, hh, Nat.zero_add, Nat.reduceMul]
    rfl

end Cert.KernelIdeal.AttnTrip
end
end
-- ==== Proof.AttnLoop.lean ====
/- The attention kernel's sweep over the whole key tiles before a block of queries: what the accumulator and the scratch of
   exponentials hold after the loop that takes the tiles two at a time. -/
module

public import proofs.«01_k».proof.Proof.AttnTrip

@[expose] public section

set_option backward.proofsInPublic true
set_option maxRecDepth 16384

noncomputable section

namespace Cert.KernelIdeal.AttnLoop

open Idealize.ShloMosaic Idealize.ShloMosaic.TcCoe Idealize.SL.Sem
open Cert.KernelIdeal Cert.KernelIdeal.Gen
open Cert.Attn Cert.KernelIdeal.AttnTrip

/-- How often the loop runs: half the whole tiles before the block's predecessor, rounded down. -/
theorem trips1 : ∀ i : grid0.Coords, Scf.trips (k0_t1_loop i).lb (k0_t1_loop i).ub (k0_t1_loop i).st = ((i 1).val - 1) / 2 := by decide +kernel

/-- The loop over what is left of the trips never runs. -/
theorem trips2 : ∀ i : grid0.Coords, Scf.trips (k0_t2_loop i).lb (k0_t2_loop i).ub (k0_t2_loop i).st = 0 := by decide +kernel

variable (𝒱 : Variants) (c : Dev nD) (bd : Option 𝒱.V) (i : grid0.Coords)
  (arg2 : Memref sig .tc .vmem S1x1x1024x512 .bf16) (harg2 : arg2.IsWhole) (arg3 : Memref sig .tc .vmem S1x4096x1024 .bf16) (harg3 : arg3.IsWhole)
  (arg4 : Memref sig .tc .vmem S1x8x640x512 .bf16) (harg4 : arg4.IsWhole) (arg5 : Memref sig .tc .vmem S1x512x512 .bf16) (harg5 : arg5.IsWhole)
  (arg6 : Memref sig .tc .vmem S8x80x512 .f32) (harg6 : arg6.IsWhole) (arg7 : Memref sig .tc .vmem S2x8x512x512 .bf16) (harg7 : arg7.IsWhole)
  (arg1 v11 c2 v25 v30 : BitVec 32) (v31 : BitVec 1)
  (x0 : Vec Ideal S1x1x1024x512 .bf16) (x1 : Vec Ideal S1x4096x1024 .bf16) (x2 : Vec Ideal S1x8x640x512 .bf16)
  (G6 : BufTy.Contents (Elt Ideal) arg6.view.ty) (G7 : BufTy.Contents (Elt Ideal) arg7.view.ty)
  (Q K : ℕ → ℕ → EReal) (V : ℕ → ℕ → ℕ → EReal)
  (hQ : ∀ (a b : Fin 1) (f : Fin 1024) (q : Fin 512), x0 (ix4 a b f q) = Q f.val q.val)
  (hK : ∀ (a : Fin 1) (s : Fin 4096) (j : Fin 1024), x1 (ix3 a s j) = K s.val j.val)
  (hV : ∀ (a : Fin 1) (t : Fin 8) (r : Fin 640) (q : Fin 512), x2 (ix4 a t r q) = V t.val r.val q.val)
  (h6 : ∀ (h : Fin 8) (r : Fin 80) (q : Fin 512), arg6.view.read (Elt Ideal) G6 (ix3 h r q) = part Q K V h.val r.val q.val (par i))
  (h7 : ∀ (a : Fin 2) (h : Fin 8) (kk q : Fin 512), a.val = 1 →
    arg7.view.read (Elt Ideal) G7 (ix4 a h kk q) = wt Q K h.val (par i * 512 + kk.val) q.val)

include hQ hK hV h6 h7

/-- Before trip `n` the accumulator holds the first `par + 2n` tiles and the scratch the next tile's exponentials. -/
theorem loop : ∀ n, n ≤ (k0_t1_loop i).trips →
    (∀ (h : Fin 8) (r : Fin 80) (q : Fin 512),
      arg6.view.read (Elt Ideal) (arg6.view.writes (Elt Ideal) G6 (pb_k0_t1 (F := Ideal) 𝒱 c bd i arg2 harg2 arg3 harg3 arg4 harg4 arg5 harg5 arg6 harg6 arg7 harg7 arg1 v11 c2 v25 v30 v31 (harg2.unread x0) (harg3.unread x1) (harg4.unread x2) G6 G7 n).1) (ix3 h r q)
        = part Q K V h.val r.val q.val (par i + 2 * n)) ∧
    (∀ (a : Fin 2) (h : Fin 8) (kk q : Fin 512), a.val = 1 →
      arg7.view.read (Elt Ideal) (arg7.view.writes (Elt Ideal) G7 (pb_k0_t1 (F := Ideal) 𝒱 c bd i arg2 harg2 arg3 harg3 arg4 harg4 arg5 harg5 arg6 harg6 arg7 harg7 arg1 v11 c2 v25 v30 v31 (harg2.unread x0) (harg3.unread x1) (harg4.unread x2) G6 G7 n).2) (ix4 a h kk q)
        = wt Q K h.val ((par i + 2 * n) * 512 + kk.val) q.val) := by
  intro n
  induction n with
  | zero => exact fun _ => ⟨h6, h7⟩
  | succ n ih =>
    intro hn
    obtain ⟨i6, i7⟩ := ih (by omega)
    have e := pb_k0_t1_succ (F := Ideal) 𝒱 c bd i arg2 harg2 arg3 harg3 arg4 harg4 arg5 harg5 arg6 harg6 arg7 harg7 arg1 v11 c2 v25 v30 v31 (harg2.unread x0) (harg3.unread x1) (harg4.unread x2) G6 G7 ⟨n, hn⟩
    rw [show n + 1 = (⟨n, hn⟩ : Fin (k0_t1_loop i).trips).val + 1 from rfl, e]
    constructor
    · intro h r q
      rw [View.writes_append]
      refine (trip_acc 𝒱 c bd i arg2 harg2 arg3 harg3 arg4 harg4 arg5 harg5 arg6 harg6 arg7 harg7 arg1 v11 c2 v25 v30 v31 x0 x1 x2 ⟨n, hn⟩ _ _ Q K V
        (fun h r q => part Q K V h r q (par i + 2 * n)) (fun h kk q => wt Q K h ((par i + 2 * n) * 512 + kk) q) hQ hK hV i6 i7 h r q).trans ?_
      show _ = part Q K V h.val r.val q.val (par i + 2 * n + 1 + 1)
      rw [part_succ, part_succ]
    · intro a h kk q ha
      obtain rfl : a = 1 := Fin.ext ha
      rw [View.writes_append]
      exact trip_p 𝒱 c bd i arg2 harg2 arg3 harg3 arg4 harg4 arg5 harg5 arg6 harg6 arg7 harg7 arg1 v11 c2 v25 v30 v31 x0 x1 x2 ⟨n, hn⟩ _ _ Q K hQ hK h kk q

/-- After the loop the accumulator holds the tiles before the block's predecessor, -/
theorem loop6 (h : Fin 8) (r : Fin 80) (q : Fin 512) :
    arg6.view.read (Elt Ideal) (arg6.view.writes (Elt Ideal) G6 (pb_k0_t1 (F := Ideal) 𝒱 c bd i arg2 harg2 arg3 harg3 arg4 harg4 arg5 harg5 arg6 harg6 arg7 harg7 arg1 v11 c2 v25 v30 v31 (harg2.unread x0) (harg3.unread x1) (harg4.unread x2) G6 G7 (((i 1).val - 1) / 2)).1) (ix3 h r q)
      = part Q K V h.val r.val q.val ((i 1).val - 1) := by
  have e := (loop 𝒱 c bd i arg2 harg2 arg3 harg3 arg4 harg4 arg5 harg5 arg6 harg6 arg7 harg7 arg1 v11 c2 v25 v30 v31 x0 x1 x2 G6 G7 Q K V hQ hK hV h6 h7 (((i 1).val - 1) / 2) (trips1 i).ge).1 h r q
  rwa [show par i + 2 * (((i 1).val - 1) / 2) = (i 1).val - 1 by unfold par; omega] at e

/-- and the scratch the predecessor's exponentials. -/
theorem loop7 (a : Fin 2) (h : Fin 8) (kk q : Fin 512) (ha : a.val = 1) :
    arg7.view.read (Elt Ideal) (arg7.view.writes (Elt Ideal) G7 (pb_k0_t1 (F := Ideal) 𝒱 c bd i arg2 harg2 arg3 harg3 arg4 harg4 arg5 harg5 arg6 harg6 arg7 harg7 arg1 v11 c2 v25 v30 v31 (harg2.unread x0) (harg3.unread x1) (harg4.unread x2) G6 G7 (((i 1).val - 1) / 2)).2) (ix4 a h kk q)
      = wt Q K h.val (((i 1).val - 1) * 512 + kk.val) q.val := by
  have e := (loop 𝒱 c bd i arg2 harg2 arg3 harg3 arg4 harg4 arg5 harg5 arg6 harg6 arg7 harg7 arg1 v11 c2 v25 v30 v31 x0 x1 x2 G6 G7 Q K V hQ hK hV h6 h7 (((i 1).val - 1) / 2) (trips1 i).ge).2 a h kk q ha
  rwa [show par i + 2 * (((i 1).val - 1) / 2) = (i 1).val - 1 by unfold par; omega] at e

end Cert.KernelIdeal.AttnLoop
end
end
-- ==== Proof.AttnDiag.lean ====
/- The last key tile of a block of queries: the weights below the diagonal, the tile summed in halves of 256 keys, and where the
   kernel's loads of it start. -/
module

public import proofs.«01_k».proof.Proof.AttnLoop
public import Idealize.ShloMosaic.Lib.WordCmp

@[expose] public section

set_option backward.proofsInPublic true
set_option maxRecDepth 16384

noncomputable section

namespace Cert.KernelIdeal.AttnDiag

open Idealize.ShloMosaic Idealize.ShloMosaic.TcCoe Idealize.SL.Sem
open Cert.KernelIdeal Cert.KernelIdeal.Gen
open Cert.Attn

/-- The named mask is minus infinity. -/
theorem mask_bot : (Named.named κ "mask" 0xF149F2CA#32 : Ideal .f32) = (⊥ : EReal) := rfl

/-- A choice between a product and the mask, exponentiated, is the weight or nothing. -/
theorem exp_choice (c : BitVec 1) (p : Prop) [Decidable p] (hc : c = if p then 1#1 else 0#1) (L : EReal) :
    FloatOps.exp2 (F := Ideal) (φ := .f32) (Scalar.select c L (Named.named κ "mask" 0xF149F2CA#32 : Ideal .f32)) = if p then Ideal.exp2 L else 0 := by
  subst hc
  rw [mask_bot]
  by_cases h : p
  · rw [if_pos h, if_pos h]; rfl
  · rw [if_neg h, if_neg h]; exact Ideal.exp2_bot

/-- The weight at a key `x` of the first 256 of the tile, -/
theorem weight_early (n : BitVec 32) (x q : ℕ) (hx : x < 512) (hq : q < 512) (L : EReal) :
    FloatOps.exp2 (F := Ideal) (φ := .f32) (Scalar.select
        (IntOp.cmpi .sle (IntOp.addi (IntOp.addi (BitVec.ofNat 32 x) (Scalar.muli (Scalar.subi n n) 512#32)) 0#32)
          (IntOp.addi (BitVec.ofNat 32 q) 0#32)) L (Named.named κ "mask" 0xF149F2CA#32 : Ideal .f32))
      = if x ≤ q then Ideal.exp2 L else 0 := by
  refine exp_choice _ _ ?_ L
  have e : IntOp.addi (IntOp.addi (BitVec.ofNat 32 x) (Scalar.muli (Scalar.subi n n) 512#32)) 0#32 = BitVec.ofNat 32 x := by
    show BitVec.ofNat 32 x + (n - n) * 512#32 + 0#32 = _
    simp
  have e' : IntOp.addi (BitVec.ofNat 32 q) 0#32 = BitVec.ofNat 32 q := by
    show BitVec.ofNat 32 q + 0#32 = _
    simp
  rw [e, e']
  word_cmp
  by_cases h : x ≤ q
  · rw [if_pos h, decide_eq_true h]; rfl
  · rw [if_neg h, decide_eq_false h]; rfl

/-- and at one of the last 256, for a query of the last 256. -/
theorem weight_late (n : BitVec 32) (x q : ℕ) (hx : x < 256) (hq : q < 256) (L : EReal) :
    FloatOps.exp2 (F := Ideal) (φ := .f32) (Scalar.select
        (IntOp.cmpi .sle (IntOp.addi (IntOp.addi (BitVec.ofNat 32 x) (Scalar.muli (Scalar.subi n n) 512#32)) 256#32)
          (IntOp.addi (BitVec.ofNat 32 q) 256#32)) L (Named.named κ "mask" 0xF149F2CA#32 : Ideal .f32))
      = if x ≤ q then Ideal.exp2 L else 0 := by
  refine exp_choice _ _ ?_ L
  have e : IntOp.addi (IntOp.addi (BitVec.ofNat 32 x) (Scalar.muli (Scalar.subi n n) 512#32)) 256#32 = BitVec.ofNat 32 (x + 256) := by
    show BitVec.ofNat 32 x + (n - n) * 512#32 + 256#32 = _
    simp [BitVec.ofNat_add]
  have e' : IntOp.addi (BitVec.ofNat 32 q) 256#32 = BitVec.ofNat 32 (q + 256) := by
    show BitVec.ofNat 32 q + 256#32 = _
    simp [BitVec.ofNat_add]
  rw [e, e']
  word_cmp
  by_cases h : x ≤ q
  · rw [if_pos h, decide_eq_true (by omega)]; rfl
  · rw [if_neg h, decide_eq_false (by omega)]; rfl

variable (Q K : ℕ → ℕ → EReal) (V : ℕ → ℕ → ℕ → EReal)

/-- For a query of the first half only the first 256 keys count, -/
theorem diag_left (i h r q : ℕ) (hq : q < 256) :
    (∑ x : Fin 256, V i (h * 80 + r) x.val * (if x.val ≤ q then wt Q K h (i * 512 + x.val) q else 0)) = tile V (dwt Q K i h q) h r i := by
  unfold tile
  rw [Fin.sum_univ_two_halves 256 256 rfl (fun kk : Fin 512 => V i (h * 80 + r) kk.val * dwt Q K i h q kk.val)]
  refine (add_zero _).symm.trans (congrArg₂ (· + ·) rfl ?_)
  refine (Finset.sum_eq_zero fun x _ => ?_).symm
  show V i (h * 80 + r) (256 + x.val) * dwt Q K i h q (256 + x.val) = 0
  unfold dwt
  rw [if_neg (by omega), mul_zero]

/-- and for one of the second half both halves. -/
theorem diag_right (i h r q : ℕ) :
    (∑ x : Fin 256, V i (h * 80 + r) x.val * (if x.val ≤ 256 + q then wt Q K h (i * 512 + x.val) (256 + q) else 0))
      + (∑ x : Fin 256, V i (h * 80 + r) (256 + x.val) * (if x.val ≤ q then wt Q K h (i * 512 + 256 + x.val) (256 + q) else 0))
    = tile V (dwt Q K i h (256 + q)) h r i := by
  unfold tile
  rw [Fin.sum_univ_two_halves 256 256 rfl (fun kk : Fin 512 => V i (h * 80 + r) kk.val * dwt Q K i h (256 + q) kk.val)]
  refine congrArg₂ (· + ·) rfl (Finset.sum_congr rfl fun x _ => ?_)
  show _ = V i (h * 80 + r) (256 + x.val) * dwt Q K i h (256 + q) (256 + x.val)
  unfold dwt
  rw [Nat.add_assoc]
  by_cases hx : x.val ≤ q
  · rw [if_pos hx, if_pos (by omega)]
  · rw [if_neg hx, if_neg (by omega)]

/-- The block's sum with the tile before the block's own shown apart. -/
theorem acc_pred (i h r q : ℕ) (hi : 1 ≤ i) :
    part Q K V h r q (i - 1) + tile V (fun kk => wt Q K h ((i - 1) * 512 + kk) q) h r (i - 1) + tile V (dwt Q K i h q) h r i = acc Q K V i h r q := by
  unfold acc
  rw [← part_succ, Nat.sub_add_cancel hi]

/-- Where the loads of the block's own keys start: the first half, -/
theorem offsE : ∀ i : grid0.Coords,
    k0_off65 i 0#32 = ![0, (i 1).val * 512, 0] ∧
    k0_off67 i 0#32 = ![0, (i 1).val * 512, 128] ∧
    k0_off69 i 0#32 = ![0, (i 1).val * 512, 256] ∧
    k0_off71 i 0#32 = ![0, (i 1).val * 512, 384] ∧
    k0_off73 i 0#32 = ![0, (i 1).val * 512, 512] ∧
    k0_off75 i 0#32 = ![0, (i 1).val * 512, 640] ∧
    k0_off77 i 0#32 = ![0, (i 1).val * 512, 768] ∧
    k0_off79 i 0#32 = ![0, (i 1).val * 512, 896] := by decide +kernel

/-- the second half, -/
theorem offsF : ∀ i : grid0.Coords,
    k0_off65 i 256#32 = ![0, (i 1).val * 512 + 256, 0] ∧
    k0_off67 i 256#32 = ![0, (i 1).val * 512 + 256, 128] ∧
    k0_off69 i 256#32 = ![0, (i 1).val * 512 + 256, 256] ∧
    k0_off71 i 256#32 = ![0, (i 1).val * 512 + 256, 384] ∧
    k0_off73 i 256#32 = ![0, (i 1).val * 512 + 256, 512] ∧
    k0_off75 i 256#32 = ![0, (i 1).val * 512 + 256, 640] ∧
    k0_off77 i 256#32 = ![0, (i 1).val * 512 + 256, 768] ∧
    k0_off79 i 256#32 = ![0, (i 1).val * 512 + 256, 896] := by decide +kernel

/-- the values of the tile before, -/
theorem offsG : ∀ i : grid0.Coords, 1 ≤ (i 1).val →
    k0_off66 i = ![0, (i 1).val - 1, 0, 0] ∧
    k0_off68 i = ![0, (i 1).val - 1, 80, 0] ∧
    k0_off70 i = ![0, (i 1).val - 1, 160, 0] ∧
    k0_off72 i = ![0, (i 1).val - 1, 240, 0] ∧
    k0_off74 i = ![0, (i 1).val - 1, 320, 0] ∧
    k0_off76 i = ![0, (i 1).val - 1, 400, 0] ∧
    k0_off78 i = ![0, (i 1).val - 1, 480, 0] ∧
    k0_off80 i = ![0, (i 1).val - 1, 560, 0] := by decide +kernel

/-- and the values of the block's own. -/
theorem offsH : ∀ i : grid0.Coords,
    k0_off81 i = ![0, (i 1).val, 0, 0] ∧
    k0_off82 i = ![0, (i 1).val, 80, 0] ∧
    k0_off83 i = ![0, (i 1).val, 160, 0] ∧
    k0_off84 i = ![0, (i 1).val, 240, 0] ∧
    k0_off85 i = ![0, (i 1).val, 320, 0] ∧
    k0_off86 i = ![0, (i 1).val, 400, 0] ∧
    k0_off87 i = ![0, (i 1).val, 480, 0] ∧
    k0_off88 i = ![0, (i 1).val, 560, 0] := by decide +kernel

end Cert.KernelIdeal.AttnDiag
end
end
-- ==== Proof.AttnRunA.lean ====
/- What the attention kernel leaves for the first block of queries: its own tile alone. -/
module

public import proofs.«01_k».proof.Proof.AttnDiag

@[expose] public section

set_option backward.proofsInPublic true
set_option maxRecDepth 16384

noncomputable section

namespace Cert.KernelIdeal.AttnRunA

open Idealize.ShloMosaic Idealize.ShloMosaic.TcCoe Idealize.SL.Sem
open Cert.KernelIdeal Cert.KernelIdeal.Gen
open Cert.Attn Cert.KernelIdeal.AttnTrip Cert.KernelIdeal.AttnDiag

variable (c : Dev nD) (i : grid0.Coords)
  (arg2 : Memref sig .tc .vmem S1x1x1024x512 .bf16) (harg2 : arg2.IsWhole) (arg3 : Memref sig .tc .vmem S1x4096x1024 .bf16) (harg3 : arg3.IsWhole)
  (arg4 : Memref sig .tc .vmem S1x8x640x512 .bf16) (harg4 : arg4.IsWhole) (arg5 : Memref sig .tc .vmem S1x512x512 .bf16) (harg5 : arg5.IsWhole)
  (arg6 : Memref sig .tc .vmem S8x80x512 .f32) (harg6 : arg6.IsWhole) (arg7 : Memref sig .tc .vmem S2x8x512x512 .bf16) (harg7 : arg7.IsWhole)

  (x0 : Vec Ideal S1x1x1024x512 .bf16) (x1 : Vec Ideal S1x4096x1024 .bf16) (x2 : Vec Ideal S1x8x640x512 .bf16)
  (Q K : ℕ → ℕ → EReal) (V : ℕ → ℕ → ℕ → EReal)
  (hQ : ∀ (a b : Fin 1) (f : Fin 1024) (q : Fin 512), x0 (ix4 a b f q) = Q f.val q.val)
  (hK : ∀ (a : Fin 1) (s : Fin 4096) (j : Fin 1024), x1 (ix3 a s j) = K s.val j.val)
  (hV : ∀ (a : Fin 1) (t : Fin 8) (r : Fin 640) (q : Fin 512), x2 (ix4 a t r q) = V t.val r.val q.val)
  (hz : (i 1).val = 0)

set_option maxHeartbeats 8000000 in
include hQ hK hV hz in
/-- What the accumulator holds at the end, at a query of the first 256. -/
theorem acc_left (h : Fin 8) (r : Fin 80) (q : Fin 256) :
    arg6.view.read (Elt Ideal) (arg6.view.writes (Elt Ideal) arg6.view.junk (kernelRun0_A.sl.HS0_16 (F := Ideal) c i arg2 harg2 arg3 harg3 arg4 harg4 arg5 harg5 arg6 harg6 arg7 harg7 x0 x1 x2)) (ix3 h r ⟨q.val, by omega⟩)
      = acc Q K V (i 1).val h.val r.val q.val := by
  have e0 : ∀ q', acc Q K V 0 h.val r.val q' = 0 + tile V (dwt Q K 0 h.val q') h.val r.val 0 := by
    intro q'
    unfold acc
    rw [part_zero]
  have t1 : Scf.trips (k0_t1_loop i).lb (k0_t1_loop i).ub (k0_t1_loop i).st = 0 := by rw [AttnLoop.trips1 i, hz]
  have hh : h.val = 0 ∨ h.val = 1 ∨ h.val = 2 ∨ h.val = 3 ∨ h.val = 4 ∨ h.val = 5 ∨ h.val = 6 ∨ h.val = 7 := by omega
  rw [hz, e0, ← diag_left Q K V _ _ _ _ q.isLt]
  simp only [kernelRun0_A.sl.HS0_1, kernelRun0_A.sl.HS0_2, kernelRun0_A.sl.HS0_3, kernelRun0_A.sl.HS0_4, kernelRun0_A.sl.HS0_5, kernelRun0_A.sl.HS0_6,
      kernelRun0_A.sl.HS0_7, kernelRun0_A.sl.HS0_8, kernelRun0_A.sl.HS0_9, kernelRun0_A.sl.HS0_10, kernelRun0_A.sl.HS0_11, kernelRun0_A.sl.HS0_12,
      kernelRun0_A.sl.HS0_13, kernelRun0_A.sl.HS0_14, kernelRun0_A.sl.HS0_15, kernelRun0_A.sl.HS0_16, kernelRun0_A.sl.HS0_1_1,
      kernelRun0_A.sl.HS1_16]
  rcases hh with hh | hh | hh | hh | hh | hh | hh | hh <;>
  · simp (disch := ((try dsimp only); omega)) only [t1, AttnLoop.trips2 i, pb_k0_t1, pb_k0_t2, List.nil_append, View.writes_append, View.writes_nil, AttnMem.hit3, AttnMem.miss3, AttnMem.hit4, AttnMem.miss4]
    pointwise [kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17,
      kernelRun0_A.sl.r_18, kernelRun0_A.sl.r_19, kernelRun0_A.sl.r_20, kernelRun0_A.sl.r_21, kernelRun0_A.sl.v10, kernelRun0_A.sl.v11,
      kernelRun0_A.sl.v25, kernelRun0_A.sl.v26, kernelRun0_A.sl.v27, kernelRun0_A.sl.v28, kernelRun0_A.sl.v29, kernelRun0_A.sl.v30,
      kernelRun0_A.sl.v36, kernelRun0_A.sl.v37, kernelRun0_A.sl.v38, kernelRun0_A.sl.v39, kernelRun0_A.sl.v40, kernelRun0_A.sl.v41,
      kernelRun0_A.sl.v42, kernelRun0_A.sl.v44, kernelRun0_A.sl.v45, kernelRun0_A.sl.v46, kernelRun0_A.sl.v54, kernelRun0_A.sl.v58,
      kernelRun0_A.sl.v61, kernelRun0_A.sl.v68, kernelRun0_A.sl.v80, kernelRun0_A.sl.v84, kernelRun0_A.sl.v87, kernelRun0_A.sl.v94,
      kernelRun0_A.sl.v106, kernelRun0_A.sl.v110, kernelRun0_A.sl.v113, kernelRun0_A.sl.v120, kernelRun0_A.sl.v132, kernelRun0_A.sl.v136,
      kernelRun0_A.sl.v139, kernelRun0_A.sl.v146, kernelRun0_A.sl.v158, kernelRun0_A.sl.v162, kernelRun0_A.sl.v165, kernelRun0_A.sl.v172,
      kernelRun0_A.sl.v184, kernelRun0_A.sl.v188, kernelRun0_A.sl.v191, kernelRun0_A.sl.v198, kernelRun0_A.sl.v210, kernelRun0_A.sl.v214,
      kernelRun0_A.sl.v217, kernelRun0_A.sl.v224, kernelRun0_A.sl.v236, kernelRun0_A.sl.v240, kernelRun0_A.sl.v243, kernelRun0_A.sl.v250,
      kernelRun0_A.sl.v258, kernelRun0_A.sl.v264, kernelRun0_A.sl.v276, kernelRun0_A.sl.v282, kernelRun0_A.sl.v294, kernelRun0_A.sl.v300,
      kernelRun0_A.sl.v312, kernelRun0_A.sl.v318, kernelRun0_A.sl.v393, kernelRun0_A.sl.v394, kernelRun0_A.sl.v428, k0_pay2, k0_pay3, k0_pay4,
      k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay192, k0_pay193, k0_pay194, k0_pay195, k0_pay205,
      k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229,
      k0_pay230, k0_pay231, k0_pay232, k0_pay233, k0_pay234, k0_pay235, k0_pay236, k0_pay237, k0_pay238, k0_pay239, k0_pay240, k0_pay241,
      k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_A.sl.HS0_1, kernelRun0_A.sl.HS0_2, kernelRun0_A.sl.HS0_3, kernelRun0_A.sl.HS0_4, kernelRun0_A.sl.HS0_5, kernelRun0_A.sl.HS0_6,
      kernelRun0_A.sl.HS0_7, kernelRun0_A.sl.HS0_8, kernelRun0_A.sl.HS0_9, kernelRun0_A.sl.HS0_10, kernelRun0_A.sl.HS0_11, kernelRun0_A.sl.HS0_12,
      kernelRun0_A.sl.HS0_13, kernelRun0_A.sl.HS0_14, kernelRun0_A.sl.HS0_15, kernelRun0_A.sl.HS0_16, kernelRun0_A.sl.HS0_1_1,
      kernelRun0_A.sl.HS1_16]
    try simp (disch := ((try dsimp only); omega)) only [t1, AttnLoop.trips2 i, pb_k0_t1, pb_k0_t2, List.nil_append, View.writes_append, View.writes_nil, AttnMem.hit3, AttnMem.miss3, AttnMem.hit4, AttnMem.miss4]
    pointwise [kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17,
      kernelRun0_A.sl.r_18, kernelRun0_A.sl.r_19, kernelRun0_A.sl.r_20, kernelRun0_A.sl.r_21, kernelRun0_A.sl.v10, kernelRun0_A.sl.v11,
      kernelRun0_A.sl.v25, kernelRun0_A.sl.v26, kernelRun0_A.sl.v27, kernelRun0_A.sl.v28, kernelRun0_A.sl.v29, kernelRun0_A.sl.v30,
      kernelRun0_A.sl.v36, kernelRun0_A.sl.v37, kernelRun0_A.sl.v38, kernelRun0_A.sl.v39, kernelRun0_A.sl.v40, kernelRun0_A.sl.v41,
      kernelRun0_A.sl.v42, kernelRun0_A.sl.v44, kernelRun0_A.sl.v45, kernelRun0_A.sl.v46, kernelRun0_A.sl.v54, kernelRun0_A.sl.v58,
      kernelRun0_A.sl.v61, kernelRun0_A.sl.v68, kernelRun0_A.sl.v80, kernelRun0_A.sl.v84, kernelRun0_A.sl.v87, kernelRun0_A.sl.v94,
      kernelRun0_A.sl.v106, kernelRun0_A.sl.v110, kernelRun0_A.sl.v113, kernelRun0_A.sl.v120, kernelRun0_A.sl.v132, kernelRun0_A.sl.v136,
      kernelRun0_A.sl.v139, kernelRun0_A.sl.v146, kernelRun0_A.sl.v158, kernelRun0_A.sl.v162, kernelRun0_A.sl.v165, kernelRun0_A.sl.v172,
      kernelRun0_A.sl.v184, kernelRun0_A.sl.v188, kernelRun0_A.sl.v191, kernelRun0_A.sl.v198, kernelRun0_A.sl.v210, kernelRun0_A.sl.v214,
      kernelRun0_A.sl.v217, kernelRun0_A.sl.v224, kernelRun0_A.sl.v236, kernelRun0_A.sl.v240, kernelRun0_A.sl.v243, kernelRun0_A.sl.v250,
      kernelRun0_A.sl.v258, kernelRun0_A.sl.v264, kernelRun0_A.sl.v276, kernelRun0_A.sl.v282, kernelRun0_A.sl.v294, kernelRun0_A.sl.v300,
      kernelRun0_A.sl.v312, kernelRun0_A.sl.v318, kernelRun0_A.sl.v393, kernelRun0_A.sl.v394, kernelRun0_A.sl.v428, k0_pay2, k0_pay3, k0_pay4,
      k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay192, k0_pay193, k0_pay194, k0_pay195, k0_pay205,
      k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229,
      k0_pay230, k0_pay231, k0_pay232, k0_pay233, k0_pay234, k0_pay235, k0_pay236, k0_pay237, k0_pay238, k0_pay239, k0_pay240, k0_pay241,
      k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_A.sl.HS0_1, kernelRun0_A.sl.HS0_2, kernelRun0_A.sl.HS0_3, kernelRun0_A.sl.HS0_4, kernelRun0_A.sl.HS0_5, kernelRun0_A.sl.HS0_6,
      kernelRun0_A.sl.HS0_7, kernelRun0_A.sl.HS0_8, kernelRun0_A.sl.HS0_9, kernelRun0_A.sl.HS0_10, kernelRun0_A.sl.HS0_11, kernelRun0_A.sl.HS0_12,
      kernelRun0_A.sl.HS0_13, kernelRun0_A.sl.HS0_14, kernelRun0_A.sl.HS0_15, kernelRun0_A.sl.HS0_16, kernelRun0_A.sl.HS0_1_1,
      kernelRun0_A.sl.HS1_16]
    try simp (disch := ((try dsimp only); omega)) only [t1, AttnLoop.trips2 i, pb_k0_t1, pb_k0_t2, List.nil_append, View.writes_append, View.writes_nil, AttnMem.hit3, AttnMem.miss3, AttnMem.hit4, AttnMem.miss4]
    try pointwise [kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17,
      kernelRun0_A.sl.r_18, kernelRun0_A.sl.r_19, kernelRun0_A.sl.r_20, kernelRun0_A.sl.r_21, kernelRun0_A.sl.v10, kernelRun0_A.sl.v11,
      kernelRun0_A.sl.v25, kernelRun0_A.sl.v26, kernelRun0_A.sl.v27, kernelRun0_A.sl.v28, kernelRun0_A.sl.v29, kernelRun0_A.sl.v30,
      kernelRun0_A.sl.v36, kernelRun0_A.sl.v37, kernelRun0_A.sl.v38, kernelRun0_A.sl.v39, kernelRun0_A.sl.v40, kernelRun0_A.sl.v41,
      kernelRun0_A.sl.v42, kernelRun0_A.sl.v44, kernelRun0_A.sl.v45, kernelRun0_A.sl.v46, kernelRun0_A.sl.v54, kernelRun0_A.sl.v58,
      kernelRun0_A.sl.v61, kernelRun0_A.sl.v68, kernelRun0_A.sl.v80, kernelRun0_A.sl.v84, kernelRun0_A.sl.v87, kernelRun0_A.sl.v94,
      kernelRun0_A.sl.v106, kernelRun0_A.sl.v110, kernelRun0_A.sl.v113, kernelRun0_A.sl.v120, kernelRun0_A.sl.v132, kernelRun0_A.sl.v136,
      kernelRun0_A.sl.v139, kernelRun0_A.sl.v146, kernelRun0_A.sl.v158, kernelRun0_A.sl.v162, kernelRun0_A.sl.v165, kernelRun0_A.sl.v172,
      kernelRun0_A.sl.v184, kernelRun0_A.sl.v188, kernelRun0_A.sl.v191, kernelRun0_A.sl.v198, kernelRun0_A.sl.v210, kernelRun0_A.sl.v214,
      kernelRun0_A.sl.v217, kernelRun0_A.sl.v224, kernelRun0_A.sl.v236, kernelRun0_A.sl.v240, kernelRun0_A.sl.v243, kernelRun0_A.sl.v250,
      kernelRun0_A.sl.v258, kernelRun0_A.sl.v264, kernelRun0_A.sl.v276, kernelRun0_A.sl.v282, kernelRun0_A.sl.v294, kernelRun0_A.sl.v300,
      kernelRun0_A.sl.v312, kernelRun0_A.sl.v318, kernelRun0_A.sl.v393, kernelRun0_A.sl.v394, kernelRun0_A.sl.v428, k0_pay2, k0_pay3, k0_pay4,
      k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay192, k0_pay193, k0_pay194, k0_pay195, k0_pay205,
      k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229,
      k0_pay230, k0_pay231, k0_pay232, k0_pay233, k0_pay234, k0_pay235, k0_pay236, k0_pay237, k0_pay238, k0_pay239, k0_pay240, k0_pay241,
      k0_pay242, k0_pay243, k0_pay244, k0_pay245, k0_pay246]
    try simp only [AttnMem.load3, AttnMem.load4, Matrix.cons_val, Fin.val_zero, Nat.add_zero, Nat.zero_add, Fin.eta]
    try simp (disch := rfl) only [Memref.IsWhole.read_unread, hQ, hK, hV, offsH i, hz, Matrix.cons_val]
    try simp (disch := omega) only [weight_early, Nat.add_le_add_iff_left]
    try simp only [tile, wt, lg, hh, Nat.reduceMul, Nat.zero_add, Nat.add_zero]

set_option maxHeartbeats 8000000 in
include hQ hK hV hz in
/-- What the accumulator holds at the end, at a query of the last 256. -/
theorem acc_right (h : Fin 8) (r : Fin 80) (q : Fin 256) :
    arg6.view.read (Elt Ideal) (arg6.view.writes (Elt Ideal) arg6.view.junk (kernelRun0_A.sl.HS0_16 (F := Ideal) c i arg2 harg2 arg3 harg3 arg4 harg4 arg5 harg5 arg6 harg6 arg7 harg7 x0 x1 x2)) (ix3 h r ⟨256 + q.val, by omega⟩)
      = acc Q K V (i 1).val h.val r.val (256 + q.val) := by
  have e0 : ∀ q', acc Q K V 0 h.val r.val q' = 0 + tile V (dwt Q K 0 h.val q') h.val r.val 0 := by
    intro q'
    unfold acc
    rw [part_zero]
  have t1 : Scf.trips (k0_t1_loop i).lb (k0_t1_loop i).ub (k0_t1_loop i).st = 0 := by rw [AttnLoop.trips1 i, hz]
  have hh : h.val = 0 ∨ h.val = 1 ∨ h.val = 2 ∨ h.val = 3 ∨ h.val = 4 ∨ h.val = 5 ∨ h.val = 6 ∨ h.val = 7 := by omega
  rw [hz, e0, ← diag_right Q K V]
  simp only [kernelRun0_A.sl.HS0_1, kernelRun0_A.sl.HS0_2, kernelRun0_A.sl.HS0_3, kernelRun0_A.sl.HS0_4, kernelRun0_A.sl.HS0_5, kernelRun0_A.sl.HS0_6,
      kernelRun0_A.sl.HS0_7, kernelRun0_A.sl.HS0_8, kernelRun0_A.sl.HS0_9, kernelRun0_A.sl.HS0_10, kernelRun0_A.sl.HS0_11, kernelRun0_A.sl.HS0_12,
      kernelRun0_A.sl.HS0_13, kernelRun0_A.sl.HS0_14, kernelRun0_A.sl.HS0_15, kernelRun0_A.sl.HS0_16, kernelRun0_A.sl.HS0_1_1,
      kernelRun0_A.sl.HS1_16]
  rcases hh with hh | hh | hh | hh | hh | hh | hh | hh <;>
  · simp (disch := ((try dsimp only); omega)) only [t1, AttnLoop.trips2 i, pb_k0_t1, pb_k0_t2, List.nil_append, View.writes_append, View.writes_nil, AttnMem.hit3, AttnMem.miss3, AttnMem.hit4, AttnMem.miss4]
    pointwise [kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17,
      kernelRun0_A.sl.r_18, kernelRun0_A.sl.r_19, kernelRun0_A.sl.r_20, kernelRun0_A.sl.r_21, kernelRun0_A.sl.v10, kernelRun0_A.sl.v11,
      kernelRun0_A.sl.v25, kernelRun0_A.sl.v26, kernelRun0_A.sl.v27, kernelRun0_A.sl.v28, kernelRun0_A.sl.v29, kernelRun0_A.sl.v30,
      kernelRun0_A.sl.v36, kernelRun0_A.sl.v37, kernelRun0_A.sl.v38, kernelRun0_A.sl.v39, kernelRun0_A.sl.v40, kernelRun0_A.sl.v41,
      kernelRun0_A.sl.v42, kernelRun0_A.sl.v44, kernelRun0_A.sl.v45, kernelRun0_A.sl.v46, kernelRun0_A.sl.v54, kernelRun0_A.sl.v58,
      kernelRun0_A.sl.v61, kernelRun0_A.sl.v68, kernelRun0_A.sl.v80, kernelRun0_A.sl.v84, kernelRun0_A.sl.v87, kernelRun0_A.sl.v94,
      kernelRun0_A.sl.v106, kernelRun0_A.sl.v110, kernelRun0_A.sl.v113, kernelRun0_A.sl.v120, kernelRun0_A.sl.v132, kernelRun0_A.sl.v136,
      kernelRun0_A.sl.v139, kernelRun0_A.sl.v146, kernelRun0_A.sl.v158, kernelRun0_A.sl.v162, kernelRun0_A.sl.v165, kernelRun0_A.sl.v172,
      kernelRun0_A.sl.v184, kernelRun0_A.sl.v188, kernelRun0_A.sl.v191, kernelRun0_A.sl.v198, kernelRun0_A.sl.v210, kernelRun0_A.sl.v214,
      kernelRun0_A.sl.v217, kernelRun0_A.sl.v224, kernelRun0_A.sl.v236, kernelRun0_A.sl.v240, kernelRun0_A.sl.v243, kernelRun0_A.sl.v250,
      kernelRun0_A.sl.v258, kernelRun0_A.sl.v264, kernelRun0_A.sl.v276, kernelRun0_A.sl.v282, kernelRun0_A.sl.v294, kernelRun0_A.sl.v300,
      kernelRun0_A.sl.v312, kernelRun0_A.sl.v318, kernelRun0_A.sl.v393, kernelRun0_A.sl.v394, kernelRun0_A.sl.v428, k0_pay2, k0_pay3, k0_pay4,
      k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay192, k0_pay193, k0_pay194, k0_pay195, k0_pay205,
      k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229,
      k0_pay230, k0_pay231, k0_pay232, k0_pay233, k0_pay234, k0_pay235, k0_pay236, k0_pay237, k0_pay238, k0_pay239, k0_pay240, k0_pay241,
      k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_A.sl.HS0_1, kernelRun0_A.sl.HS0_2, kernelRun0_A.sl.HS0_3, kernelRun0_A.sl.HS0_4, kernelRun0_A.sl.HS0_5, kernelRun0_A.sl.HS0_6,
      kernelRun0_A.sl.HS0_7, kernelRun0_A.sl.HS0_8, kernelRun0_A.sl.HS0_9, kernelRun0_A.sl.HS0_10, kernelRun0_A.sl.HS0_11, kernelRun0_A.sl.HS0_12,
      kernelRun0_A.sl.HS0_13, kernelRun0_A.sl.HS0_14, kernelRun0_A.sl.HS0_15, kernelRun0_A.sl.HS0_16, kernelRun0_A.sl.HS0_1_1,
      kernelRun0_A.sl.HS1_16]
    try simp (disch := ((try dsimp only); omega)) only [t1, AttnLoop.trips2 i, pb_k0_t1, pb_k0_t2, List.nil_append, View.writes_append, View.writes_nil, AttnMem.hit3, AttnMem.miss3, AttnMem.hit4, AttnMem.miss4]
    pointwise [kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17,
      kernelRun0_A.sl.r_18, kernelRun0_A.sl.r_19, kernelRun0_A.sl.r_20, kernelRun0_A.sl.r_21, kernelRun0_A.sl.v10, kernelRun0_A.sl.v11,
      kernelRun0_A.sl.v25, kernelRun0_A.sl.v26, kernelRun0_A.sl.v27, kernelRun0_A.sl.v28, kernelRun0_A.sl.v29, kernelRun0_A.sl.v30,
      kernelRun0_A.sl.v36, kernelRun0_A.sl.v37, kernelRun0_A.sl.v38, kernelRun0_A.sl.v39, kernelRun0_A.sl.v40, kernelRun0_A.sl.v41,
      kernelRun0_A.sl.v42, kernelRun0_A.sl.v44, kernelRun0_A.sl.v45, kernelRun0_A.sl.v46, kernelRun0_A.sl.v54, kernelRun0_A.sl.v58,
      kernelRun0_A.sl.v61, kernelRun0_A.sl.v68, kernelRun0_A.sl.v80, kernelRun0_A.sl.v84, kernelRun0_A.sl.v87, kernelRun0_A.sl.v94,
      kernelRun0_A.sl.v106, kernelRun0_A.sl.v110, kernelRun0_A.sl.v113, kernelRun0_A.sl.v120, kernelRun0_A.sl.v132, kernelRun0_A.sl.v136,
      kernelRun0_A.sl.v139, kernelRun0_A.sl.v146, kernelRun0_A.sl.v158, kernelRun0_A.sl.v162, kernelRun0_A.sl.v165, kernelRun0_A.sl.v172,
      kernelRun0_A.sl.v184, kernelRun0_A.sl.v188, kernelRun0_A.sl.v191, kernelRun0_A.sl.v198, kernelRun0_A.sl.v210, kernelRun0_A.sl.v214,
      kernelRun0_A.sl.v217, kernelRun0_A.sl.v224, kernelRun0_A.sl.v236, kernelRun0_A.sl.v240, kernelRun0_A.sl.v243, kernelRun0_A.sl.v250,
      kernelRun0_A.sl.v258, kernelRun0_A.sl.v264, kernelRun0_A.sl.v276, kernelRun0_A.sl.v282, kernelRun0_A.sl.v294, kernelRun0_A.sl.v300,
      kernelRun0_A.sl.v312, kernelRun0_A.sl.v318, kernelRun0_A.sl.v393, kernelRun0_A.sl.v394, kernelRun0_A.sl.v428, k0_pay2, k0_pay3, k0_pay4,
      k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay192, k0_pay193, k0_pay194, k0_pay195, k0_pay205,
      k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229,
      k0_pay230, k0_pay231, k0_pay232, k0_pay233, k0_pay234, k0_pay235, k0_pay236, k0_pay237, k0_pay238, k0_pay239, k0_pay240, k0_pay241,
      k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_A.sl.HS0_1, kernelRun0_A.sl.HS0_2, kernelRun0_A.sl.HS0_3, kernelRun0_A.sl.HS0_4, kernelRun0_A.sl.HS0_5, kernelRun0_A.sl.HS0_6,
      kernelRun0_A.sl.HS0_7, kernelRun0_A.sl.HS0_8, kernelRun0_A.sl.HS0_9, kernelRun0_A.sl.HS0_10, kernelRun0_A.sl.HS0_11, kernelRun0_A.sl.HS0_12,
      kernelRun0_A.sl.HS0_13, kernelRun0_A.sl.HS0_14, kernelRun0_A.sl.HS0_15, kernelRun0_A.sl.HS0_16, kernelRun0_A.sl.HS0_1_1,
      kernelRun0_A.sl.HS1_16]
    try simp (disch := ((try dsimp only); omega)) only [t1, AttnLoop.trips2 i, pb_k0_t1, pb_k0_t2, List.nil_append, View.writes_append, View.writes_nil, AttnMem.hit3, AttnMem.miss3, AttnMem.hit4, AttnMem.miss4]
    try pointwise [kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17,
      kernelRun0_A.sl.r_18, kernelRun0_A.sl.r_19, kernelRun0_A.sl.r_20, kernelRun0_A.sl.r_21, kernelRun0_A.sl.v10, kernelRun0_A.sl.v11,
      kernelRun0_A.sl.v25, kernelRun0_A.sl.v26, kernelRun0_A.sl.v27, kernelRun0_A.sl.v28, kernelRun0_A.sl.v29, kernelRun0_A.sl.v30,
      kernelRun0_A.sl.v36, kernelRun0_A.sl.v37, kernelRun0_A.sl.v38, kernelRun0_A.sl.v39, kernelRun0_A.sl.v40, kernelRun0_A.sl.v41,
      kernelRun0_A.sl.v42, kernelRun0_A.sl.v44, kernelRun0_A.sl.v45, kernelRun0_A.sl.v46, kernelRun0_A.sl.v54, kernelRun0_A.sl.v58,
      kernelRun0_A.sl.v61, kernelRun0_A.sl.v68, kernelRun0_A.sl.v80, kernelRun0_A.sl.v84, kernelRun0_A.sl.v87, kernelRun0_A.sl.v94,
      kernelRun0_A.sl.v106, kernelRun0_A.sl.v110, kernelRun0_A.sl.v113, kernelRun0_A.sl.v120, kernelRun0_A.sl.v132, kernelRun0_A.sl.v136,
      kernelRun0_A.sl.v139, kernelRun0_A.sl.v146, kernelRun0_A.sl.v158, kernelRun0_A.sl.v162, kernelRun0_A.sl.v165, kernelRun0_A.sl.v172,
      kernelRun0_A.sl.v184, kernelRun0_A.sl.v188, kernelRun0_A.sl.v191, kernelRun0_A.sl.v198, kernelRun0_A.sl.v210, kernelRun0_A.sl.v214,
      kernelRun0_A.sl.v217, kernelRun0_A.sl.v224, kernelRun0_A.sl.v236, kernelRun0_A.sl.v240, kernelRun0_A.sl.v243, kernelRun0_A.sl.v250,
      kernelRun0_A.sl.v258, kernelRun0_A.sl.v264, kernelRun0_A.sl.v276, kernelRun0_A.sl.v282, kernelRun0_A.sl.v294, kernelRun0_A.sl.v300,
      kernelRun0_A.sl.v312, kernelRun0_A.sl.v318, kernelRun0_A.sl.v393, kernelRun0_A.sl.v394, kernelRun0_A.sl.v428, k0_pay2, k0_pay3, k0_pay4,
      k0_pay5, k0_pay6, k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay192, k0_pay193, k0_pay194, k0_pay195, k0_pay205,
      k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229,
      k0_pay230, k0_pay231, k0_pay232, k0_pay233, k0_pay234, k0_pay235, k0_pay236, k0_pay237, k0_pay238, k0_pay239, k0_pay240, k0_pay241,
      k0_pay242, k0_pay243, k0_pay244, k0_pay245, k0_pay246]
    try simp only [AttnMem.load3, AttnMem.load4, Matrix.cons_val, Fin.val_zero, Nat.add_zero, Nat.zero_add, Fin.eta]
    try simp (disch := rfl) only [Memref.IsWhole.read_unread, hQ, hK, hV, offsH i, hz, Matrix.cons_val]
    try simp (disch := omega) only [weight_early, Nat.add_le_add_iff_left]
    try simp only [tile, wt, lg, hh, Nat.reduceMul, Nat.zero_add, Nat.add_zero]

end Cert.KernelIdeal.AttnRunA
end
end
-- ==== Proof.AttnRunB.lean ====
/- What the attention kernel leaves for a block of queries at an odd position: from the first key tile's exponentials through the
   loop to the block's own tile. -/
module

public import proofs.«01_k».proof.Proof.AttnDiag

@[expose] public section

set_option backward.proofsInPublic true
set_option maxRecDepth 16384

noncomputable section

namespace Cert.KernelIdeal.AttnRunB

open Idealize.ShloMosaic Idealize.ShloMosaic.TcCoe Idealize.SL.Sem
open Cert.KernelIdeal Cert.KernelIdeal.Gen
open Cert.Attn Cert.KernelIdeal.AttnTrip Cert.KernelIdeal.AttnDiag

variable (c : Dev nD) (i : grid0.Coords)
  (arg2 : Memref sig .tc .vmem S1x1x1024x512 .bf16) (harg2 : arg2.IsWhole) (arg3 : Memref sig .tc .vmem S1x4096x1024 .bf16) (harg3 : arg3.IsWhole)
  (arg4 : Memref sig .tc .vmem S1x8x640x512 .bf16) (harg4 : arg4.IsWhole) (arg5 : Memref sig .tc .vmem S1x512x512 .bf16) (harg5 : arg5.IsWhole)
  (arg6 : Memref sig .tc .vmem S8x80x512 .f32) (harg6 : arg6.IsWhole) (arg7 : Memref sig .tc .vmem S2x8x512x512 .bf16) (harg7 : arg7.IsWhole)
  (hc3 : cond0_3 i)
  (x0 : Vec Ideal S1x1x1024x512 .bf16) (x1 : Vec Ideal S1x4096x1024 .bf16) (x2 : Vec Ideal S1x8x640x512 .bf16)
  (Q K : ℕ → ℕ → EReal) (V : ℕ → ℕ → ℕ → EReal)
  (hQ : ∀ (a b : Fin 1) (f : Fin 1024) (q : Fin 512), x0 (ix4 a b f q) = Q f.val q.val)
  (hK : ∀ (a : Fin 1) (s : Fin 4096) (j : Fin 1024), x1 (ix3 a s j) = K s.val j.val)
  (hV : ∀ (a : Fin 1) (t : Fin 8) (r : Fin 640) (q : Fin 512), x2 (ix4 a t r q) = V t.val r.val q.val)
  (hp : par i = 0) (hi : 1 ≤ (i 1).val)

include hp in
/-- The accumulator starts at nothing, -/
theorem base6 (h : Fin 8) (r : Fin 80) (q : Fin 512) :
    arg6.view.read (Elt Ideal) (arg6.view.writes (Elt Ideal) arg6.view.junk (kernelRun0_B.sl.HS0_1 (F := Ideal))) (ix3 h r q) = part Q K V h.val r.val q.val (par i) := by
  rw [hp, part_zero]
  simp only [kernelRun0_B.sl.HS0_1]
  simp (disch := ((try dsimp only); omega)) only [AttnMem.hit3]
  pointwise [k0_pay192]

set_option maxHeartbeats 4000000 in
include hQ hK hp in
/-- and the scratch with the first tile's exponentials. -/
theorem base7 (a : Fin 2) (h : Fin 8) (kk q : Fin 512) (ha : a.val = 1) :
    arg7.view.read (Elt Ideal) (arg7.view.writes (Elt Ideal) arg7.view.junk (kernelRun0_B.sl.HS1_16 (F := Ideal) c arg2 harg2 arg3 harg3 x0 x1)) (ix4 a h kk q)
      = wt Q K h.val (par i * 512 + kk.val) q.val := by
  rw [hp]
  have hh : h.val = 0 ∨ h.val = 1 ∨ h.val = 2 ∨ h.val = 3 ∨ h.val = 4 ∨ h.val = 5 ∨ h.val = 6 ∨ h.val = 7 := by omega
  simp only [kernelRun0_B.sl.HS1_16]
  rcases hh with hh | hh | hh | hh | hh | hh | hh | hh <;>
  · simp (disch := ((try dsimp only); omega)) only [AttnMem.hit4, AttnMem.miss4]
    pointwise [kernelRun0_B.sl.cst_253, kernelRun0_B.sl.cst_367, kernelRun0_B.sl.r, kernelRun0_B.sl.r_1, kernelRun0_B.sl.r_2, kernelRun0_B.sl.r_3,
      kernelRun0_B.sl.r_4, kernelRun0_B.sl.r_5, kernelRun0_B.sl.r_6, kernelRun0_B.sl.r_7, kernelRun0_B.sl.r_8, kernelRun0_B.sl.r_9,
      kernelRun0_B.sl.r_10, kernelRun0_B.sl.r_11, kernelRun0_B.sl.r_12, kernelRun0_B.sl.r_13, kernelRun0_B.sl.r_14, kernelRun0_B.sl.r_15,
      kernelRun0_B.sl.r_16, kernelRun0_B.sl.r_17, kernelRun0_B.sl.r_18, kernelRun0_B.sl.r_19, kernelRun0_B.sl.r_20, kernelRun0_B.sl.r_21,
      kernelRun0_B.sl.r_22, kernelRun0_B.sl.r_23, kernelRun0_B.sl.r_24, kernelRun0_B.sl.r_25, kernelRun0_B.sl.r_26, kernelRun0_B.sl.r_27,
      kernelRun0_B.sl.v10, kernelRun0_B.sl.v11, kernelRun0_B.sl.v25, kernelRun0_B.sl.v26, kernelRun0_B.sl.v27, kernelRun0_B.sl.v28,
      kernelRun0_B.sl.v29, kernelRun0_B.sl.v30, kernelRun0_B.sl.v36, kernelRun0_B.sl.v37, kernelRun0_B.sl.v38, kernelRun0_B.sl.v39,
      kernelRun0_B.sl.v40, kernelRun0_B.sl.v41, kernelRun0_B.sl.v42, kernelRun0_B.sl.v44, kernelRun0_B.sl.v45, kernelRun0_B.sl.v46,
      kernelRun0_B.sl.v54, kernelRun0_B.sl.v58, kernelRun0_B.sl.v61, kernelRun0_B.sl.v68, kernelRun0_B.sl.v80, kernelRun0_B.sl.v84,
      kernelRun0_B.sl.v87, kernelRun0_B.sl.v94, kernelRun0_B.sl.v106, kernelRun0_B.sl.v110, kernelRun0_B.sl.v113, kernelRun0_B.sl.v120,
      kernelRun0_B.sl.v132, kernelRun0_B.sl.v136, kernelRun0_B.sl.v139, kernelRun0_B.sl.v146, kernelRun0_B.sl.v158, kernelRun0_B.sl.v162,
      kernelRun0_B.sl.v165, kernelRun0_B.sl.v172, kernelRun0_B.sl.v184, kernelRun0_B.sl.v188, kernelRun0_B.sl.v191, kernelRun0_B.sl.v198,
      kernelRun0_B.sl.v210, kernelRun0_B.sl.v214, kernelRun0_B.sl.v217, kernelRun0_B.sl.v224, kernelRun0_B.sl.v236, kernelRun0_B.sl.v240,
      kernelRun0_B.sl.v243, kernelRun0_B.sl.v250, kernelRun0_B.sl.v258, kernelRun0_B.sl.v264, kernelRun0_B.sl.v276, kernelRun0_B.sl.v282,
      kernelRun0_B.sl.v294, kernelRun0_B.sl.v300, kernelRun0_B.sl.v312, kernelRun0_B.sl.v318, kernelRun0_B.sl.v333, kernelRun0_B.sl.v335,
      kernelRun0_B.sl.v336, kernelRun0_B.sl.v337, kernelRun0_B.sl.v338, kernelRun0_B.sl.v340, kernelRun0_B.sl.v341, kernelRun0_B.sl.v342,
      kernelRun0_B.sl.v343, kernelRun0_B.sl.v348, kernelRun0_B.sl.v350, kernelRun0_B.sl.v351, kernelRun0_B.sl.v352, kernelRun0_B.sl.v353,
      kernelRun0_B.sl.v354, kernelRun0_B.sl.v355, kernelRun0_B.sl.v356, kernelRun0_B.sl.v357, kernelRun0_B.sl.v358, kernelRun0_B.sl.v363,
      kernelRun0_B.sl.v365, kernelRun0_B.sl.v366, kernelRun0_B.sl.v367, kernelRun0_B.sl.v368, kernelRun0_B.sl.v369, kernelRun0_B.sl.v370,
      kernelRun0_B.sl.v371, kernelRun0_B.sl.v372, kernelRun0_B.sl.v373, kernelRun0_B.sl.v378, kernelRun0_B.sl.v380, kernelRun0_B.sl.v381,
      kernelRun0_B.sl.v382, kernelRun0_B.sl.v383, kernelRun0_B.sl.v384, kernelRun0_B.sl.v385, kernelRun0_B.sl.v386, kernelRun0_B.sl.v387,
      kernelRun0_B.sl.v388, kernelRun0_B.sl.v390, kernelRun0_B.sl.v393, kernelRun0_B.sl.v395, kernelRun0_B.sl.v396, kernelRun0_B.sl.v397,
      kernelRun0_B.sl.v398, kernelRun0_B.sl.v399, kernelRun0_B.sl.v400, kernelRun0_B.sl.v401, kernelRun0_B.sl.v402, kernelRun0_B.sl.v403,
      kernelRun0_B.sl.v408, kernelRun0_B.sl.v410, kernelRun0_B.sl.v411, kernelRun0_B.sl.v412, kernelRun0_B.sl.v413, kernelRun0_B.sl.v414,
      kernelRun0_B.sl.v415, kernelRun0_B.sl.v416, kernelRun0_B.sl.v417, kernelRun0_B.sl.v418, kernelRun0_B.sl.v423, kernelRun0_B.sl.v425,
      kernelRun0_B.sl.v426, kernelRun0_B.sl.v427, kernelRun0_B.sl.v428, kernelRun0_B.sl.v429, kernelRun0_B.sl.v430, kernelRun0_B.sl.v431,
      kernelRun0_B.sl.v432, kernelRun0_B.sl.v433, kernelRun0_B.sl.v438, kernelRun0_B.sl.v451, kernelRun0_B.sl.v457, kernelRun0_B.sl.v464,
      kernelRun0_B.sl.v518, kernelRun0_B.sl.v524, kernelRun0_B.sl.v585, kernelRun0_B.sl.v591, kernelRun0_B.sl.v599, kernelRun0_B.sl.v634,
      kernelRun0_B.sl.v652, kernelRun0_B.sl.v658, kernelRun0_B.sl.v702, kernelRun0_B.sl.v719, kernelRun0_B.sl.v725, kernelRun0_B.sl.v786,
      kernelRun0_B.sl.v792, kernelRun0_B.sl.v837, kernelRun0_B.sl.v853, kernelRun0_B.sl.v859, kernelRun0_B.sl.v384_1, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay196, k0_pay197, k0_pay198,
      k0_pay204, k0_pay205, k0_pay206, k0_pay207, k0_pay208, k0_pay209, k0_pay210, k0_pay211, k0_pay212, k0_pay213, k0_pay214, k0_pay215,
      k0_pay216, k0_pay217, k0_pay218, k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236, k0_pay237, k0_pay238, k0_pay239,
      k0_pay240, k0_pay241, k0_pay242, k0_pay243, k0_pay244, k0_pay245, k0_pay246]
    simp only [AttnMem.load3, AttnMem.load4, Matrix.cons_val, Fin.val_zero, Nat.add_zero, Nat.zero_add, Fin.eta, Memref.IsWhole.read_unread, hQ, hK, wt, lg, hh, Nat.reduceMul]
    rfl

set_option maxHeartbeats 8000000 in
include hQ hK hV hp hi in
/-- What the accumulator holds at the end, at a query of the first 256. -/
theorem acc_left (h : Fin 8) (r : Fin 80) (q : Fin 256) :
    arg6.view.read (Elt Ideal) (arg6.view.writes (Elt Ideal) arg6.view.junk (kernelRun0_B.sl.HS0_24 (F := Ideal) c i arg2 harg2 arg3 harg3 arg4 harg4 arg5 harg5 arg6 harg6 arg7 harg7 hc3 x0 x1 x2)) (ix3 h r ⟨q.val, by omega⟩)
      = acc Q K V (i 1).val h.val r.val q.val := by
  have g6 := fun arg1 v11 c2 v25 v30 v31 => AttnLoop.loop6 Variants.none c none i arg2 harg2 arg3 harg3 arg4 harg4 arg5 harg5 arg6 harg6 arg7 harg7 arg1 v11 c2 v25 v30 v31 x0 x1 x2 _ _ Q K V hQ hK hV
    (base6 i arg6 Q K V hp) (base7 c i arg2 harg2 arg3 harg3 arg7 x0 x1 Q K hQ hK hp)
  have g7 := fun arg1 v11 c2 v25 v30 v31 => AttnLoop.loop7 Variants.none c none i arg2 harg2 arg3 harg3 arg4 harg4 arg5 harg5 arg6 harg6 arg7 harg7 arg1 v11 c2 v25 v30 v31 x0 x1 x2 _ _ Q K V hQ hK hV
    (base6 i arg6 Q K V hp) (base7 c i arg2 harg2 arg3 harg3 arg7 x0 x1 Q K hQ hK hp)
  have hh : h.val = 0 ∨ h.val = 1 ∨ h.val = 2 ∨ h.val = 3 ∨ h.val = 4 ∨ h.val = 5 ∨ h.val = 6 ∨ h.val = 7 := by omega
  rw [← acc_pred Q K V _ _ _ _ hi, ← diag_left Q K V _ _ _ _ q.isLt]
  simp only [kernelRun0_B.sl.HS0_2, kernelRun0_B.sl.HS0_3, kernelRun0_B.sl.HS0_4, kernelRun0_B.sl.HS0_5, kernelRun0_B.sl.HS0_6, kernelRun0_B.sl.HS0_7,
      kernelRun0_B.sl.HS0_8, kernelRun0_B.sl.HS0_9, kernelRun0_B.sl.HS0_10, kernelRun0_B.sl.HS0_11, kernelRun0_B.sl.HS0_12,
      kernelRun0_B.sl.HS0_13, kernelRun0_B.sl.HS0_14, kernelRun0_B.sl.HS0_15, kernelRun0_B.sl.HS0_16, kernelRun0_B.sl.HS0_17,
      kernelRun0_B.sl.HS0_18, kernelRun0_B.sl.HS0_19, kernelRun0_B.sl.HS0_20, kernelRun0_B.sl.HS0_21, kernelRun0_B.sl.HS0_22,
      kernelRun0_B.sl.HS0_23, kernelRun0_B.sl.HS0_24, kernelRun0_B.sl.HS0_1_1, kernelRun0_B.sl.HS1_2, kernelRun0_B.sl.HS1_4,
      kernelRun0_B.sl.HS1_6, kernelRun0_B.sl.HS1_8, kernelRun0_B.sl.HS1_10, kernelRun0_B.sl.HS1_12, kernelRun0_B.sl.HS1_14,
      kernelRun0_B.sl.HS1_16_1]
  rcases hh with hh | hh | hh | hh | hh | hh | hh | hh <;>
  · simp (disch := ((try dsimp only); omega)) only [AttnMem.hit3, AttnMem.miss3, AttnMem.hit4, AttnMem.miss4]
    pointwise [kernelRun0_B.sl.cst_253, kernelRun0_B.sl.cst_367, kernelRun0_B.sl.r, kernelRun0_B.sl.r_1, kernelRun0_B.sl.r_2, kernelRun0_B.sl.r_3,
      kernelRun0_B.sl.r_4, kernelRun0_B.sl.r_5, kernelRun0_B.sl.r_6, kernelRun0_B.sl.r_7, kernelRun0_B.sl.r_8, kernelRun0_B.sl.r_9,
      kernelRun0_B.sl.r_10, kernelRun0_B.sl.r_11, kernelRun0_B.sl.r_12, kernelRun0_B.sl.r_13, kernelRun0_B.sl.r_14, kernelRun0_B.sl.r_15,
      kernelRun0_B.sl.r_16, kernelRun0_B.sl.r_17, kernelRun0_B.sl.r_18, kernelRun0_B.sl.r_19, kernelRun0_B.sl.r_20, kernelRun0_B.sl.r_21,
      kernelRun0_B.sl.r_22, kernelRun0_B.sl.r_23, kernelRun0_B.sl.r_24, kernelRun0_B.sl.r_25, kernelRun0_B.sl.r_26, kernelRun0_B.sl.r_27,
      kernelRun0_B.sl.v10, kernelRun0_B.sl.v11, kernelRun0_B.sl.v25, kernelRun0_B.sl.v26, kernelRun0_B.sl.v27, kernelRun0_B.sl.v28,
      kernelRun0_B.sl.v29, kernelRun0_B.sl.v30, kernelRun0_B.sl.v36, kernelRun0_B.sl.v37, kernelRun0_B.sl.v38, kernelRun0_B.sl.v39,
      kernelRun0_B.sl.v40, kernelRun0_B.sl.v41, kernelRun0_B.sl.v42, kernelRun0_B.sl.v44, kernelRun0_B.sl.v45, kernelRun0_B.sl.v46,
      kernelRun0_B.sl.v54, kernelRun0_B.sl.v58, kernelRun0_B.sl.v61, kernelRun0_B.sl.v68, kernelRun0_B.sl.v80, kernelRun0_B.sl.v84,
      kernelRun0_B.sl.v87, kernelRun0_B.sl.v94, kernelRun0_B.sl.v106, kernelRun0_B.sl.v110, kernelRun0_B.sl.v113, kernelRun0_B.sl.v120,
      kernelRun0_B.sl.v132, kernelRun0_B.sl.v136, kernelRun0_B.sl.v139, kernelRun0_B.sl.v146, kernelRun0_B.sl.v158, kernelRun0_B.sl.v162,
      kernelRun0_B.sl.v165, kernelRun0_B.sl.v172, kernelRun0_B.sl.v184, kernelRun0_B.sl.v188, kernelRun0_B.sl.v191, kernelRun0_B.sl.v198,
      kernelRun0_B.sl.v210, kernelRun0_B.sl.v214, kernelRun0_B.sl.v217, kernelRun0_B.sl.v224, kernelRun0_B.sl.v236, kernelRun0_B.sl.v240,
      kernelRun0_B.sl.v243, kernelRun0_B.sl.v250, kernelRun0_B.sl.v258, kernelRun0_B.sl.v264, kernelRun0_B.sl.v276, kernelRun0_B.sl.v282,
      kernelRun0_B.sl.v294, kernelRun0_B.sl.v300, kernelRun0_B.sl.v312, kernelRun0_B.sl.v318, kernelRun0_B.sl.v333, kernelRun0_B.sl.v335,
      kernelRun0_B.sl.v336, kernelRun0_B.sl.v337, kernelRun0_B.sl.v338, kernelRun0_B.sl.v340, kernelRun0_B.sl.v341, kernelRun0_B.sl.v342,
      kernelRun0_B.sl.v343, kernelRun0_B.sl.v348, kernelRun0_B.sl.v350, kernelRun0_B.sl.v351, kernelRun0_B.sl.v352, kernelRun0_B.sl.v353,
      kernelRun0_B.sl.v354, kernelRun0_B.sl.v355, kernelRun0_B.sl.v356, kernelRun0_B.sl.v357, kernelRun0_B.sl.v358, kernelRun0_B.sl.v363,
      kernelRun0_B.sl.v365, kernelRun0_B.sl.v366, kernelRun0_B.sl.v367, kernelRun0_B.sl.v368, kernelRun0_B.sl.v369, kernelRun0_B.sl.v370,
      kernelRun0_B.sl.v371, kernelRun0_B.sl.v372, kernelRun0_B.sl.v373, kernelRun0_B.sl.v378, kernelRun0_B.sl.v380, kernelRun0_B.sl.v381,
      kernelRun0_B.sl.v382, kernelRun0_B.sl.v383, kernelRun0_B.sl.v384, kernelRun0_B.sl.v385, kernelRun0_B.sl.v386, kernelRun0_B.sl.v387,
      kernelRun0_B.sl.v388, kernelRun0_B.sl.v390, kernelRun0_B.sl.v393, kernelRun0_B.sl.v395, kernelRun0_B.sl.v396, kernelRun0_B.sl.v397,
      kernelRun0_B.sl.v398, kernelRun0_B.sl.v399, kernelRun0_B.sl.v400, kernelRun0_B.sl.v401, kernelRun0_B.sl.v402, kernelRun0_B.sl.v403,
      kernelRun0_B.sl.v408, kernelRun0_B.sl.v410, kernelRun0_B.sl.v411, kernelRun0_B.sl.v412, kernelRun0_B.sl.v413, kernelRun0_B.sl.v414,
      kernelRun0_B.sl.v415, kernelRun0_B.sl.v416, kernelRun0_B.sl.v417, kernelRun0_B.sl.v418, kernelRun0_B.sl.v423, kernelRun0_B.sl.v425,
      kernelRun0_B.sl.v426, kernelRun0_B.sl.v427, kernelRun0_B.sl.v428, kernelRun0_B.sl.v429, kernelRun0_B.sl.v430, kernelRun0_B.sl.v431,
      kernelRun0_B.sl.v432, kernelRun0_B.sl.v433, kernelRun0_B.sl.v438, kernelRun0_B.sl.v451, kernelRun0_B.sl.v457, kernelRun0_B.sl.v464,
      kernelRun0_B.sl.v518, kernelRun0_B.sl.v524, kernelRun0_B.sl.v585, kernelRun0_B.sl.v591, kernelRun0_B.sl.v599, kernelRun0_B.sl.v634,
      kernelRun0_B.sl.v652, kernelRun0_B.sl.v658, kernelRun0_B.sl.v702, kernelRun0_B.sl.v719, kernelRun0_B.sl.v725, kernelRun0_B.sl.v786,
      kernelRun0_B.sl.v792, kernelRun0_B.sl.v837, kernelRun0_B.sl.v853, kernelRun0_B.sl.v859, kernelRun0_B.sl.v384_1, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay196, k0_pay197, k0_pay198,
      k0_pay204, k0_pay205, k0_pay206, k0_pay207, k0_pay208, k0_pay209, k0_pay210, k0_pay211, k0_pay212, k0_pay213, k0_pay214, k0_pay215,
      k0_pay216, k0_pay217, k0_pay218, k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236, k0_pay237, k0_pay238, k0_pay239,
      k0_pay240, k0_pay241, k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_B.sl.HS0_2, kernelRun0_B.sl.HS0_3, kernelRun0_B.sl.HS0_4, kernelRun0_B.sl.HS0_5, kernelRun0_B.sl.HS0_6, kernelRun0_B.sl.HS0_7,
      kernelRun0_B.sl.HS0_8, kernelRun0_B.sl.HS0_9, kernelRun0_B.sl.HS0_10, kernelRun0_B.sl.HS0_11, kernelRun0_B.sl.HS0_12,
      kernelRun0_B.sl.HS0_13, kernelRun0_B.sl.HS0_14, kernelRun0_B.sl.HS0_15, kernelRun0_B.sl.HS0_16, kernelRun0_B.sl.HS0_17,
      kernelRun0_B.sl.HS0_18, kernelRun0_B.sl.HS0_19, kernelRun0_B.sl.HS0_20, kernelRun0_B.sl.HS0_21, kernelRun0_B.sl.HS0_22,
      kernelRun0_B.sl.HS0_23, kernelRun0_B.sl.HS0_24, kernelRun0_B.sl.HS0_1_1, kernelRun0_B.sl.HS1_2, kernelRun0_B.sl.HS1_4,
      kernelRun0_B.sl.HS1_6, kernelRun0_B.sl.HS1_8, kernelRun0_B.sl.HS1_10, kernelRun0_B.sl.HS1_12, kernelRun0_B.sl.HS1_14,
      kernelRun0_B.sl.HS1_16_1]
    try simp (disch := ((try dsimp only); omega)) only [AttnMem.hit3, AttnMem.miss3, AttnMem.hit4, AttnMem.miss4]
    pointwise [kernelRun0_B.sl.cst_253, kernelRun0_B.sl.cst_367, kernelRun0_B.sl.r, kernelRun0_B.sl.r_1, kernelRun0_B.sl.r_2, kernelRun0_B.sl.r_3,
      kernelRun0_B.sl.r_4, kernelRun0_B.sl.r_5, kernelRun0_B.sl.r_6, kernelRun0_B.sl.r_7, kernelRun0_B.sl.r_8, kernelRun0_B.sl.r_9,
      kernelRun0_B.sl.r_10, kernelRun0_B.sl.r_11, kernelRun0_B.sl.r_12, kernelRun0_B.sl.r_13, kernelRun0_B.sl.r_14, kernelRun0_B.sl.r_15,
      kernelRun0_B.sl.r_16, kernelRun0_B.sl.r_17, kernelRun0_B.sl.r_18, kernelRun0_B.sl.r_19, kernelRun0_B.sl.r_20, kernelRun0_B.sl.r_21,
      kernelRun0_B.sl.r_22, kernelRun0_B.sl.r_23, kernelRun0_B.sl.r_24, kernelRun0_B.sl.r_25, kernelRun0_B.sl.r_26, kernelRun0_B.sl.r_27,
      kernelRun0_B.sl.v10, kernelRun0_B.sl.v11, kernelRun0_B.sl.v25, kernelRun0_B.sl.v26, kernelRun0_B.sl.v27, kernelRun0_B.sl.v28,
      kernelRun0_B.sl.v29, kernelRun0_B.sl.v30, kernelRun0_B.sl.v36, kernelRun0_B.sl.v37, kernelRun0_B.sl.v38, kernelRun0_B.sl.v39,
      kernelRun0_B.sl.v40, kernelRun0_B.sl.v41, kernelRun0_B.sl.v42, kernelRun0_B.sl.v44, kernelRun0_B.sl.v45, kernelRun0_B.sl.v46,
      kernelRun0_B.sl.v54, kernelRun0_B.sl.v58, kernelRun0_B.sl.v61, kernelRun0_B.sl.v68, kernelRun0_B.sl.v80, kernelRun0_B.sl.v84,
      kernelRun0_B.sl.v87, kernelRun0_B.sl.v94, kernelRun0_B.sl.v106, kernelRun0_B.sl.v110, kernelRun0_B.sl.v113, kernelRun0_B.sl.v120,
      kernelRun0_B.sl.v132, kernelRun0_B.sl.v136, kernelRun0_B.sl.v139, kernelRun0_B.sl.v146, kernelRun0_B.sl.v158, kernelRun0_B.sl.v162,
      kernelRun0_B.sl.v165, kernelRun0_B.sl.v172, kernelRun0_B.sl.v184, kernelRun0_B.sl.v188, kernelRun0_B.sl.v191, kernelRun0_B.sl.v198,
      kernelRun0_B.sl.v210, kernelRun0_B.sl.v214, kernelRun0_B.sl.v217, kernelRun0_B.sl.v224, kernelRun0_B.sl.v236, kernelRun0_B.sl.v240,
      kernelRun0_B.sl.v243, kernelRun0_B.sl.v250, kernelRun0_B.sl.v258, kernelRun0_B.sl.v264, kernelRun0_B.sl.v276, kernelRun0_B.sl.v282,
      kernelRun0_B.sl.v294, kernelRun0_B.sl.v300, kernelRun0_B.sl.v312, kernelRun0_B.sl.v318, kernelRun0_B.sl.v333, kernelRun0_B.sl.v335,
      kernelRun0_B.sl.v336, kernelRun0_B.sl.v337, kernelRun0_B.sl.v338, kernelRun0_B.sl.v340, kernelRun0_B.sl.v341, kernelRun0_B.sl.v342,
      kernelRun0_B.sl.v343, kernelRun0_B.sl.v348, kernelRun0_B.sl.v350, kernelRun0_B.sl.v351, kernelRun0_B.sl.v352, kernelRun0_B.sl.v353,
      kernelRun0_B.sl.v354, kernelRun0_B.sl.v355, kernelRun0_B.sl.v356, kernelRun0_B.sl.v357, kernelRun0_B.sl.v358, kernelRun0_B.sl.v363,
      kernelRun0_B.sl.v365, kernelRun0_B.sl.v366, kernelRun0_B.sl.v367, kernelRun0_B.sl.v368, kernelRun0_B.sl.v369, kernelRun0_B.sl.v370,
      kernelRun0_B.sl.v371, kernelRun0_B.sl.v372, kernelRun0_B.sl.v373, kernelRun0_B.sl.v378, kernelRun0_B.sl.v380, kernelRun0_B.sl.v381,
      kernelRun0_B.sl.v382, kernelRun0_B.sl.v383, kernelRun0_B.sl.v384, kernelRun0_B.sl.v385, kernelRun0_B.sl.v386, kernelRun0_B.sl.v387,
      kernelRun0_B.sl.v388, kernelRun0_B.sl.v390, kernelRun0_B.sl.v393, kernelRun0_B.sl.v395, kernelRun0_B.sl.v396, kernelRun0_B.sl.v397,
      kernelRun0_B.sl.v398, kernelRun0_B.sl.v399, kernelRun0_B.sl.v400, kernelRun0_B.sl.v401, kernelRun0_B.sl.v402, kernelRun0_B.sl.v403,
      kernelRun0_B.sl.v408, kernelRun0_B.sl.v410, kernelRun0_B.sl.v411, kernelRun0_B.sl.v412, kernelRun0_B.sl.v413, kernelRun0_B.sl.v414,
      kernelRun0_B.sl.v415, kernelRun0_B.sl.v416, kernelRun0_B.sl.v417, kernelRun0_B.sl.v418, kernelRun0_B.sl.v423, kernelRun0_B.sl.v425,
      kernelRun0_B.sl.v426, kernelRun0_B.sl.v427, kernelRun0_B.sl.v428, kernelRun0_B.sl.v429, kernelRun0_B.sl.v430, kernelRun0_B.sl.v431,
      kernelRun0_B.sl.v432, kernelRun0_B.sl.v433, kernelRun0_B.sl.v438, kernelRun0_B.sl.v451, kernelRun0_B.sl.v457, kernelRun0_B.sl.v464,
      kernelRun0_B.sl.v518, kernelRun0_B.sl.v524, kernelRun0_B.sl.v585, kernelRun0_B.sl.v591, kernelRun0_B.sl.v599, kernelRun0_B.sl.v634,
      kernelRun0_B.sl.v652, kernelRun0_B.sl.v658, kernelRun0_B.sl.v702, kernelRun0_B.sl.v719, kernelRun0_B.sl.v725, kernelRun0_B.sl.v786,
      kernelRun0_B.sl.v792, kernelRun0_B.sl.v837, kernelRun0_B.sl.v853, kernelRun0_B.sl.v859, kernelRun0_B.sl.v384_1, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay196, k0_pay197, k0_pay198,
      k0_pay204, k0_pay205, k0_pay206, k0_pay207, k0_pay208, k0_pay209, k0_pay210, k0_pay211, k0_pay212, k0_pay213, k0_pay214, k0_pay215,
      k0_pay216, k0_pay217, k0_pay218, k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236, k0_pay237, k0_pay238, k0_pay239,
      k0_pay240, k0_pay241, k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_B.sl.HS0_2, kernelRun0_B.sl.HS0_3, kernelRun0_B.sl.HS0_4, kernelRun0_B.sl.HS0_5, kernelRun0_B.sl.HS0_6, kernelRun0_B.sl.HS0_7,
      kernelRun0_B.sl.HS0_8, kernelRun0_B.sl.HS0_9, kernelRun0_B.sl.HS0_10, kernelRun0_B.sl.HS0_11, kernelRun0_B.sl.HS0_12,
      kernelRun0_B.sl.HS0_13, kernelRun0_B.sl.HS0_14, kernelRun0_B.sl.HS0_15, kernelRun0_B.sl.HS0_16, kernelRun0_B.sl.HS0_17,
      kernelRun0_B.sl.HS0_18, kernelRun0_B.sl.HS0_19, kernelRun0_B.sl.HS0_20, kernelRun0_B.sl.HS0_21, kernelRun0_B.sl.HS0_22,
      kernelRun0_B.sl.HS0_23, kernelRun0_B.sl.HS0_24, kernelRun0_B.sl.HS0_1_1, kernelRun0_B.sl.HS1_2, kernelRun0_B.sl.HS1_4,
      kernelRun0_B.sl.HS1_6, kernelRun0_B.sl.HS1_8, kernelRun0_B.sl.HS1_10, kernelRun0_B.sl.HS1_12, kernelRun0_B.sl.HS1_14,
      kernelRun0_B.sl.HS1_16_1]
    try simp (disch := ((try dsimp only); omega)) only [AttnMem.hit3, AttnMem.miss3, AttnMem.hit4, AttnMem.miss4]
    try simp (disch := ((try dsimp only); omega)) only [AttnLoop.trips1 i, AttnLoop.trips2 i, pb_k0_t2, List.nil_append, View.writes_append, View.writes_nil, AttnMem.hit3, AttnMem.miss3, AttnMem.hit4, AttnMem.miss4]
    simp (disch := rfl) only [Memref.IsWhole.read_unread, hQ, hK, hV, g6, g7, offsE i, offsF i, offsG i hi, offsH i, Matrix.cons_val]
    simp (disch := omega) only [weight_early, weight_late]
    simp only [tile, wt, lg, hh, Nat.reduceMul, Nat.zero_add]

set_option maxHeartbeats 8000000 in
include hQ hK hV hp hi in
/-- What the accumulator holds at the end, at a query of the last 256. -/
theorem acc_right (h : Fin 8) (r : Fin 80) (q : Fin 256) :
    arg6.view.read (Elt Ideal) (arg6.view.writes (Elt Ideal) arg6.view.junk (kernelRun0_B.sl.HS0_24 (F := Ideal) c i arg2 harg2 arg3 harg3 arg4 harg4 arg5 harg5 arg6 harg6 arg7 harg7 hc3 x0 x1 x2)) (ix3 h r ⟨256 + q.val, by omega⟩)
      = acc Q K V (i 1).val h.val r.val (256 + q.val) := by
  have g6 := fun arg1 v11 c2 v25 v30 v31 => AttnLoop.loop6 Variants.none c none i arg2 harg2 arg3 harg3 arg4 harg4 arg5 harg5 arg6 harg6 arg7 harg7 arg1 v11 c2 v25 v30 v31 x0 x1 x2 _ _ Q K V hQ hK hV
    (base6 i arg6 Q K V hp) (base7 c i arg2 harg2 arg3 harg3 arg7 x0 x1 Q K hQ hK hp)
  have g7 := fun arg1 v11 c2 v25 v30 v31 => AttnLoop.loop7 Variants.none c none i arg2 harg2 arg3 harg3 arg4 harg4 arg5 harg5 arg6 harg6 arg7 harg7 arg1 v11 c2 v25 v30 v31 x0 x1 x2 _ _ Q K V hQ hK hV
    (base6 i arg6 Q K V hp) (base7 c i arg2 harg2 arg3 harg3 arg7 x0 x1 Q K hQ hK hp)
  have hh : h.val = 0 ∨ h.val = 1 ∨ h.val = 2 ∨ h.val = 3 ∨ h.val = 4 ∨ h.val = 5 ∨ h.val = 6 ∨ h.val = 7 := by omega
  rw [← acc_pred Q K V _ _ _ _ hi, ← diag_right Q K V]
  simp only [kernelRun0_B.sl.HS0_2, kernelRun0_B.sl.HS0_3, kernelRun0_B.sl.HS0_4, kernelRun0_B.sl.HS0_5, kernelRun0_B.sl.HS0_6, kernelRun0_B.sl.HS0_7,
      kernelRun0_B.sl.HS0_8, kernelRun0_B.sl.HS0_9, kernelRun0_B.sl.HS0_10, kernelRun0_B.sl.HS0_11, kernelRun0_B.sl.HS0_12,
      kernelRun0_B.sl.HS0_13, kernelRun0_B.sl.HS0_14, kernelRun0_B.sl.HS0_15, kernelRun0_B.sl.HS0_16, kernelRun0_B.sl.HS0_17,
      kernelRun0_B.sl.HS0_18, kernelRun0_B.sl.HS0_19, kernelRun0_B.sl.HS0_20, kernelRun0_B.sl.HS0_21, kernelRun0_B.sl.HS0_22,
      kernelRun0_B.sl.HS0_23, kernelRun0_B.sl.HS0_24, kernelRun0_B.sl.HS0_1_1, kernelRun0_B.sl.HS1_2, kernelRun0_B.sl.HS1_4,
      kernelRun0_B.sl.HS1_6, kernelRun0_B.sl.HS1_8, kernelRun0_B.sl.HS1_10, kernelRun0_B.sl.HS1_12, kernelRun0_B.sl.HS1_14,
      kernelRun0_B.sl.HS1_16_1]
  rcases hh with hh | hh | hh | hh | hh | hh | hh | hh <;>
  · simp (disch := ((try dsimp only); omega)) only [AttnMem.hit3, AttnMem.miss3, AttnMem.hit4, AttnMem.miss4]
    pointwise [kernelRun0_B.sl.cst_253, kernelRun0_B.sl.cst_367, kernelRun0_B.sl.r, kernelRun0_B.sl.r_1, kernelRun0_B.sl.r_2, kernelRun0_B.sl.r_3,
      kernelRun0_B.sl.r_4, kernelRun0_B.sl.r_5, kernelRun0_B.sl.r_6, kernelRun0_B.sl.r_7, kernelRun0_B.sl.r_8, kernelRun0_B.sl.r_9,
      kernelRun0_B.sl.r_10, kernelRun0_B.sl.r_11, kernelRun0_B.sl.r_12, kernelRun0_B.sl.r_13, kernelRun0_B.sl.r_14, kernelRun0_B.sl.r_15,
      kernelRun0_B.sl.r_16, kernelRun0_B.sl.r_17, kernelRun0_B.sl.r_18, kernelRun0_B.sl.r_19, kernelRun0_B.sl.r_20, kernelRun0_B.sl.r_21,
      kernelRun0_B.sl.r_22, kernelRun0_B.sl.r_23, kernelRun0_B.sl.r_24, kernelRun0_B.sl.r_25, kernelRun0_B.sl.r_26, kernelRun0_B.sl.r_27,
      kernelRun0_B.sl.v10, kernelRun0_B.sl.v11, kernelRun0_B.sl.v25, kernelRun0_B.sl.v26, kernelRun0_B.sl.v27, kernelRun0_B.sl.v28,
      kernelRun0_B.sl.v29, kernelRun0_B.sl.v30, kernelRun0_B.sl.v36, kernelRun0_B.sl.v37, kernelRun0_B.sl.v38, kernelRun0_B.sl.v39,
      kernelRun0_B.sl.v40, kernelRun0_B.sl.v41, kernelRun0_B.sl.v42, kernelRun0_B.sl.v44, kernelRun0_B.sl.v45, kernelRun0_B.sl.v46,
      kernelRun0_B.sl.v54, kernelRun0_B.sl.v58, kernelRun0_B.sl.v61, kernelRun0_B.sl.v68, kernelRun0_B.sl.v80, kernelRun0_B.sl.v84,
      kernelRun0_B.sl.v87, kernelRun0_B.sl.v94, kernelRun0_B.sl.v106, kernelRun0_B.sl.v110, kernelRun0_B.sl.v113, kernelRun0_B.sl.v120,
      kernelRun0_B.sl.v132, kernelRun0_B.sl.v136, kernelRun0_B.sl.v139, kernelRun0_B.sl.v146, kernelRun0_B.sl.v158, kernelRun0_B.sl.v162,
      kernelRun0_B.sl.v165, kernelRun0_B.sl.v172, kernelRun0_B.sl.v184, kernelRun0_B.sl.v188, kernelRun0_B.sl.v191, kernelRun0_B.sl.v198,
      kernelRun0_B.sl.v210, kernelRun0_B.sl.v214, kernelRun0_B.sl.v217, kernelRun0_B.sl.v224, kernelRun0_B.sl.v236, kernelRun0_B.sl.v240,
      kernelRun0_B.sl.v243, kernelRun0_B.sl.v250, kernelRun0_B.sl.v258, kernelRun0_B.sl.v264, kernelRun0_B.sl.v276, kernelRun0_B.sl.v282,
      kernelRun0_B.sl.v294, kernelRun0_B.sl.v300, kernelRun0_B.sl.v312, kernelRun0_B.sl.v318, kernelRun0_B.sl.v333, kernelRun0_B.sl.v335,
      kernelRun0_B.sl.v336, kernelRun0_B.sl.v337, kernelRun0_B.sl.v338, kernelRun0_B.sl.v340, kernelRun0_B.sl.v341, kernelRun0_B.sl.v342,
      kernelRun0_B.sl.v343, kernelRun0_B.sl.v348, kernelRun0_B.sl.v350, kernelRun0_B.sl.v351, kernelRun0_B.sl.v352, kernelRun0_B.sl.v353,
      kernelRun0_B.sl.v354, kernelRun0_B.sl.v355, kernelRun0_B.sl.v356, kernelRun0_B.sl.v357, kernelRun0_B.sl.v358, kernelRun0_B.sl.v363,
      kernelRun0_B.sl.v365, kernelRun0_B.sl.v366, kernelRun0_B.sl.v367, kernelRun0_B.sl.v368, kernelRun0_B.sl.v369, kernelRun0_B.sl.v370,
      kernelRun0_B.sl.v371, kernelRun0_B.sl.v372, kernelRun0_B.sl.v373, kernelRun0_B.sl.v378, kernelRun0_B.sl.v380, kernelRun0_B.sl.v381,
      kernelRun0_B.sl.v382, kernelRun0_B.sl.v383, kernelRun0_B.sl.v384, kernelRun0_B.sl.v385, kernelRun0_B.sl.v386, kernelRun0_B.sl.v387,
      kernelRun0_B.sl.v388, kernelRun0_B.sl.v390, kernelRun0_B.sl.v393, kernelRun0_B.sl.v395, kernelRun0_B.sl.v396, kernelRun0_B.sl.v397,
      kernelRun0_B.sl.v398, kernelRun0_B.sl.v399, kernelRun0_B.sl.v400, kernelRun0_B.sl.v401, kernelRun0_B.sl.v402, kernelRun0_B.sl.v403,
      kernelRun0_B.sl.v408, kernelRun0_B.sl.v410, kernelRun0_B.sl.v411, kernelRun0_B.sl.v412, kernelRun0_B.sl.v413, kernelRun0_B.sl.v414,
      kernelRun0_B.sl.v415, kernelRun0_B.sl.v416, kernelRun0_B.sl.v417, kernelRun0_B.sl.v418, kernelRun0_B.sl.v423, kernelRun0_B.sl.v425,
      kernelRun0_B.sl.v426, kernelRun0_B.sl.v427, kernelRun0_B.sl.v428, kernelRun0_B.sl.v429, kernelRun0_B.sl.v430, kernelRun0_B.sl.v431,
      kernelRun0_B.sl.v432, kernelRun0_B.sl.v433, kernelRun0_B.sl.v438, kernelRun0_B.sl.v451, kernelRun0_B.sl.v457, kernelRun0_B.sl.v464,
      kernelRun0_B.sl.v518, kernelRun0_B.sl.v524, kernelRun0_B.sl.v585, kernelRun0_B.sl.v591, kernelRun0_B.sl.v599, kernelRun0_B.sl.v634,
      kernelRun0_B.sl.v652, kernelRun0_B.sl.v658, kernelRun0_B.sl.v702, kernelRun0_B.sl.v719, kernelRun0_B.sl.v725, kernelRun0_B.sl.v786,
      kernelRun0_B.sl.v792, kernelRun0_B.sl.v837, kernelRun0_B.sl.v853, kernelRun0_B.sl.v859, kernelRun0_B.sl.v384_1, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay196, k0_pay197, k0_pay198,
      k0_pay204, k0_pay205, k0_pay206, k0_pay207, k0_pay208, k0_pay209, k0_pay210, k0_pay211, k0_pay212, k0_pay213, k0_pay214, k0_pay215,
      k0_pay216, k0_pay217, k0_pay218, k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236, k0_pay237, k0_pay238, k0_pay239,
      k0_pay240, k0_pay241, k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_B.sl.HS0_2, kernelRun0_B.sl.HS0_3, kernelRun0_B.sl.HS0_4, kernelRun0_B.sl.HS0_5, kernelRun0_B.sl.HS0_6, kernelRun0_B.sl.HS0_7,
      kernelRun0_B.sl.HS0_8, kernelRun0_B.sl.HS0_9, kernelRun0_B.sl.HS0_10, kernelRun0_B.sl.HS0_11, kernelRun0_B.sl.HS0_12,
      kernelRun0_B.sl.HS0_13, kernelRun0_B.sl.HS0_14, kernelRun0_B.sl.HS0_15, kernelRun0_B.sl.HS0_16, kernelRun0_B.sl.HS0_17,
      kernelRun0_B.sl.HS0_18, kernelRun0_B.sl.HS0_19, kernelRun0_B.sl.HS0_20, kernelRun0_B.sl.HS0_21, kernelRun0_B.sl.HS0_22,
      kernelRun0_B.sl.HS0_23, kernelRun0_B.sl.HS0_24, kernelRun0_B.sl.HS0_1_1, kernelRun0_B.sl.HS1_2, kernelRun0_B.sl.HS1_4,
      kernelRun0_B.sl.HS1_6, kernelRun0_B.sl.HS1_8, kernelRun0_B.sl.HS1_10, kernelRun0_B.sl.HS1_12, kernelRun0_B.sl.HS1_14,
      kernelRun0_B.sl.HS1_16_1]
    try simp (disch := ((try dsimp only); omega)) only [AttnMem.hit3, AttnMem.miss3, AttnMem.hit4, AttnMem.miss4]
    pointwise [kernelRun0_B.sl.cst_253, kernelRun0_B.sl.cst_367, kernelRun0_B.sl.r, kernelRun0_B.sl.r_1, kernelRun0_B.sl.r_2, kernelRun0_B.sl.r_3,
      kernelRun0_B.sl.r_4, kernelRun0_B.sl.r_5, kernelRun0_B.sl.r_6, kernelRun0_B.sl.r_7, kernelRun0_B.sl.r_8, kernelRun0_B.sl.r_9,
      kernelRun0_B.sl.r_10, kernelRun0_B.sl.r_11, kernelRun0_B.sl.r_12, kernelRun0_B.sl.r_13, kernelRun0_B.sl.r_14, kernelRun0_B.sl.r_15,
      kernelRun0_B.sl.r_16, kernelRun0_B.sl.r_17, kernelRun0_B.sl.r_18, kernelRun0_B.sl.r_19, kernelRun0_B.sl.r_20, kernelRun0_B.sl.r_21,
      kernelRun0_B.sl.r_22, kernelRun0_B.sl.r_23, kernelRun0_B.sl.r_24, kernelRun0_B.sl.r_25, kernelRun0_B.sl.r_26, kernelRun0_B.sl.r_27,
      kernelRun0_B.sl.v10, kernelRun0_B.sl.v11, kernelRun0_B.sl.v25, kernelRun0_B.sl.v26, kernelRun0_B.sl.v27, kernelRun0_B.sl.v28,
      kernelRun0_B.sl.v29, kernelRun0_B.sl.v30, kernelRun0_B.sl.v36, kernelRun0_B.sl.v37, kernelRun0_B.sl.v38, kernelRun0_B.sl.v39,
      kernelRun0_B.sl.v40, kernelRun0_B.sl.v41, kernelRun0_B.sl.v42, kernelRun0_B.sl.v44, kernelRun0_B.sl.v45, kernelRun0_B.sl.v46,
      kernelRun0_B.sl.v54, kernelRun0_B.sl.v58, kernelRun0_B.sl.v61, kernelRun0_B.sl.v68, kernelRun0_B.sl.v80, kernelRun0_B.sl.v84,
      kernelRun0_B.sl.v87, kernelRun0_B.sl.v94, kernelRun0_B.sl.v106, kernelRun0_B.sl.v110, kernelRun0_B.sl.v113, kernelRun0_B.sl.v120,
      kernelRun0_B.sl.v132, kernelRun0_B.sl.v136, kernelRun0_B.sl.v139, kernelRun0_B.sl.v146, kernelRun0_B.sl.v158, kernelRun0_B.sl.v162,
      kernelRun0_B.sl.v165, kernelRun0_B.sl.v172, kernelRun0_B.sl.v184, kernelRun0_B.sl.v188, kernelRun0_B.sl.v191, kernelRun0_B.sl.v198,
      kernelRun0_B.sl.v210, kernelRun0_B.sl.v214, kernelRun0_B.sl.v217, kernelRun0_B.sl.v224, kernelRun0_B.sl.v236, kernelRun0_B.sl.v240,
      kernelRun0_B.sl.v243, kernelRun0_B.sl.v250, kernelRun0_B.sl.v258, kernelRun0_B.sl.v264, kernelRun0_B.sl.v276, kernelRun0_B.sl.v282,
      kernelRun0_B.sl.v294, kernelRun0_B.sl.v300, kernelRun0_B.sl.v312, kernelRun0_B.sl.v318, kernelRun0_B.sl.v333, kernelRun0_B.sl.v335,
      kernelRun0_B.sl.v336, kernelRun0_B.sl.v337, kernelRun0_B.sl.v338, kernelRun0_B.sl.v340, kernelRun0_B.sl.v341, kernelRun0_B.sl.v342,
      kernelRun0_B.sl.v343, kernelRun0_B.sl.v348, kernelRun0_B.sl.v350, kernelRun0_B.sl.v351, kernelRun0_B.sl.v352, kernelRun0_B.sl.v353,
      kernelRun0_B.sl.v354, kernelRun0_B.sl.v355, kernelRun0_B.sl.v356, kernelRun0_B.sl.v357, kernelRun0_B.sl.v358, kernelRun0_B.sl.v363,
      kernelRun0_B.sl.v365, kernelRun0_B.sl.v366, kernelRun0_B.sl.v367, kernelRun0_B.sl.v368, kernelRun0_B.sl.v369, kernelRun0_B.sl.v370,
      kernelRun0_B.sl.v371, kernelRun0_B.sl.v372, kernelRun0_B.sl.v373, kernelRun0_B.sl.v378, kernelRun0_B.sl.v380, kernelRun0_B.sl.v381,
      kernelRun0_B.sl.v382, kernelRun0_B.sl.v383, kernelRun0_B.sl.v384, kernelRun0_B.sl.v385, kernelRun0_B.sl.v386, kernelRun0_B.sl.v387,
      kernelRun0_B.sl.v388, kernelRun0_B.sl.v390, kernelRun0_B.sl.v393, kernelRun0_B.sl.v395, kernelRun0_B.sl.v396, kernelRun0_B.sl.v397,
      kernelRun0_B.sl.v398, kernelRun0_B.sl.v399, kernelRun0_B.sl.v400, kernelRun0_B.sl.v401, kernelRun0_B.sl.v402, kernelRun0_B.sl.v403,
      kernelRun0_B.sl.v408, kernelRun0_B.sl.v410, kernelRun0_B.sl.v411, kernelRun0_B.sl.v412, kernelRun0_B.sl.v413, kernelRun0_B.sl.v414,
      kernelRun0_B.sl.v415, kernelRun0_B.sl.v416, kernelRun0_B.sl.v417, kernelRun0_B.sl.v418, kernelRun0_B.sl.v423, kernelRun0_B.sl.v425,
      kernelRun0_B.sl.v426, kernelRun0_B.sl.v427, kernelRun0_B.sl.v428, kernelRun0_B.sl.v429, kernelRun0_B.sl.v430, kernelRun0_B.sl.v431,
      kernelRun0_B.sl.v432, kernelRun0_B.sl.v433, kernelRun0_B.sl.v438, kernelRun0_B.sl.v451, kernelRun0_B.sl.v457, kernelRun0_B.sl.v464,
      kernelRun0_B.sl.v518, kernelRun0_B.sl.v524, kernelRun0_B.sl.v585, kernelRun0_B.sl.v591, kernelRun0_B.sl.v599, kernelRun0_B.sl.v634,
      kernelRun0_B.sl.v652, kernelRun0_B.sl.v658, kernelRun0_B.sl.v702, kernelRun0_B.sl.v719, kernelRun0_B.sl.v725, kernelRun0_B.sl.v786,
      kernelRun0_B.sl.v792, kernelRun0_B.sl.v837, kernelRun0_B.sl.v853, kernelRun0_B.sl.v859, kernelRun0_B.sl.v384_1, k0_pay158, k0_pay159,
      k0_pay160, k0_pay161, k0_pay162, k0_pay163, k0_pay164, k0_pay165, k0_pay166, k0_pay167, k0_pay168, k0_pay169, k0_pay170, k0_pay171,
      k0_pay172, k0_pay173, k0_pay174, k0_pay175, k0_pay176, k0_pay177, k0_pay178, k0_pay179, k0_pay180, k0_pay181, k0_pay182, k0_pay183,
      k0_pay184, k0_pay185, k0_pay186, k0_pay187, k0_pay188, k0_pay189, k0_pay190, k0_pay191, k0_pay192, k0_pay196, k0_pay197, k0_pay198,
      k0_pay204, k0_pay205, k0_pay206, k0_pay207, k0_pay208, k0_pay209, k0_pay210, k0_pay211, k0_pay212, k0_pay213, k0_pay214, k0_pay215,
      k0_pay216, k0_pay217, k0_pay218, k0_pay219, k0_pay220, k0_pay221, k0_pay222, k0_pay223, k0_pay224, k0_pay225, k0_pay226, k0_pay227,
      k0_pay228, k0_pay229, k0_pay230, k0_pay231, k0_pay232, k0_pay233, k0_pay234, k0_pay235, k0_pay236, k0_pay237, k0_pay238, k0_pay239,
      k0_pay240, k0_pay241, k0_pay242, k0_pay243, k0_pay244, k0_pay245, k0_pay246]
    try simp only [View.readCov]
    try simp only [AttnMem.load3, AttnMem.load4, Matrix.cons_val, Fin.val_zero, Nat.add_zero, Nat.zero_add, Fin.eta]
    try simp only [kernelRun0_B.sl.HS0_2, kernelRun0_B.sl.HS0_3, kernelRun0_B.sl.HS0_4, kernelRun0_B.sl.HS0_5, kernelRun0_B.sl.HS0_6, kernelRun0_B.sl.HS0_7,
      kernelRun0_B.sl.HS0_8, kernelRun0_B.sl.HS0_9, kernelRun0_B.sl.HS0_10, kernelRun0_B.sl.HS0_11, kernelRun0_B.sl.HS0_12,
      kernelRun0_B.sl.HS0_13, kernelRun0_B.sl.HS0_14, kernelRun0_B.sl.HS0_15, kernelRun0_B.sl.HS0_16, kernelRun0_B.sl.HS0_17,
      kernelRun0_B.sl.HS0_18, kernelRun0_B.sl.HS0_19, kernelRun0_B.sl.HS0_20, kernelRun0_B.sl.HS0_21, kernelRun0_B.sl.HS0_22,
      kernelRun0_B.sl.HS0_23, kernelRun0_B.sl.HS0_24, kernelRun0_B.sl.HS0_1_1, kernelRun0_B.sl.HS1_2, kernelRun0_B.sl.HS1_4,
      kernelRun0_B.sl.HS1_6, kernelRun0_B.sl.HS1_8, kernelRun0_B.sl.HS1_10, kernelRun0_B.sl.HS1_12, kernelRun0_B.sl.HS1_14,
      kernelRun0_B.sl.HS1_16_1]
    try simp (disch := ((try dsimp only); omega)) only [AttnMem.hit3, AttnMem.miss3, AttnMem.hit4, AttnMem.miss4]
    try simp (disch := ((try dsimp only); omega)) only [AttnLoop.trips1 i, AttnLoop.trips2 i, pb_k0_t2, List.nil_append, View.writes_append, View.writes_nil, AttnMem.hit3, AttnMem.miss3, AttnMem.hit4, AttnMem.miss4]
    simp (disch := rfl) only [Memref.IsWhole.read_unread, hQ, hK, hV, g6, g7, offsE i, offsF i, offsG i hi, offsH i, Matrix.cons_val]
    simp (disch := omega) only [weight_early, weight_late]
    simp only [tile, wt, lg, hh, Nat.reduceMul, Nat.zero_add]

end Cert.KernelIdeal.AttnRunB
end
end
-- ==== Proof.AttnRunC.lean ====
/- What the attention kernel leaves for a block of queries at an even position past the first: the first key tile on its own,
   then from the second one's exponentials through the loop to the block's own tile. -/
module

public import proofs.«01_k».proof.Proof.AttnDiag

@[expose] public section

set_option backward.proofsInPublic true
set_option maxRecDepth 16384

noncomputable section

namespace Cert.KernelIdeal.AttnRunC

open Idealize.ShloMosaic Idealize.ShloMosaic.TcCoe Idealize.SL.Sem
open Cert.KernelIdeal Cert.KernelIdeal.Gen
open Cert.Attn Cert.KernelIdeal.AttnTrip Cert.KernelIdeal.AttnDiag

variable (c : Dev nD) (i : grid0.Coords)
  (arg2 : Memref sig .tc .vmem S1x1x1024x512 .bf16) (harg2 : arg2.IsWhole) (arg3 : Memref sig .tc .vmem S1x4096x1024 .bf16) (harg3 : arg3.IsWhole)
  (arg4 : Memref sig .tc .vmem S1x8x640x512 .bf16) (harg4 : arg4.IsWhole) (arg5 : Memref sig .tc .vmem S1x512x512 .bf16) (harg5 : arg5.IsWhole)
  (arg6 : Memref sig .tc .vmem S8x80x512 .f32) (harg6 : arg6.IsWhole) (arg7 : Memref sig .tc .vmem S2x8x512x512 .bf16) (harg7 : arg7.IsWhole)
  (hc3 : cond0_3 i)
  (x0 : Vec Ideal S1x1x1024x512 .bf16) (x1 : Vec Ideal S1x4096x1024 .bf16) (x2 : Vec Ideal S1x8x640x512 .bf16)
  (Q K : ℕ → ℕ → EReal) (V : ℕ → ℕ → ℕ → EReal)
  (hQ : ∀ (a b : Fin 1) (f : Fin 1024) (q : Fin 512), x0 (ix4 a b f q) = Q f.val q.val)
  (hK : ∀ (a : Fin 1) (s : Fin 4096) (j : Fin 1024), x1 (ix3 a s j) = K s.val j.val)
  (hV : ∀ (a : Fin 1) (t : Fin 8) (r : Fin 640) (q : Fin 512), x2 (ix4 a t r q) = V t.val r.val q.val)
  (hp : par i = 1) (hi : 1 ≤ (i 1).val)

set_option maxHeartbeats 8000000 in
include hQ hK hV hp in
/-- The accumulator holds the first tile's sum, -/
theorem base6 (h : Fin 8) (r : Fin 80) (q : Fin 512) :
    arg6.view.read (Elt Ideal) (arg6.view.writes (Elt Ideal) arg6.view.junk (kernelRun0_C.sl.HS0_9 (F := Ideal) c arg2 harg2 arg3 harg3 arg4 harg4 arg6 arg7 x0 x1 x2)) (ix3 h r q) = part Q K V h.val r.val q.val (par i) := by
  have hh : h.val = 0 ∨ h.val = 1 ∨ h.val = 2 ∨ h.val = 3 ∨ h.val = 4 ∨ h.val = 5 ∨ h.val = 6 ∨ h.val = 7 := by omega
  have e : part Q K V h.val r.val q.val 1 = 0 + tile V (fun kk => wt Q K h.val (0 * 512 + kk) q.val) h.val r.val 0 := by
    rw [part_succ Q K V h.val r.val q.val 0, part_zero]
  rw [hp, e]
  simp only [kernelRun0_C.sl.HS0_1, kernelRun0_C.sl.HS0_2, kernelRun0_C.sl.HS0_3, kernelRun0_C.sl.HS0_4, kernelRun0_C.sl.HS0_5, kernelRun0_C.sl.HS0_6,
      kernelRun0_C.sl.HS0_7, kernelRun0_C.sl.HS0_8, kernelRun0_C.sl.HS0_9, kernelRun0_C.sl.HS1_16, kernelRun0_C.sl.HS1_17, kernelRun0_C.sl.HS1_18,
      kernelRun0_C.sl.HS1_19, kernelRun0_C.sl.HS1_20, kernelRun0_C.sl.HS1_21, kernelRun0_C.sl.HS1_22, kernelRun0_C.sl.HS1_23,
      kernelRun0_C.sl.HS1_24]
  rcases hh with hh | hh | hh | hh | hh | hh | hh | hh <;>
  · simp (disch := ((try dsimp only); omega)) only [AttnMem.hit3, AttnMem.miss3, AttnMem.hit4, AttnMem.miss4]
    pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    try simp only [View.readCov]
    try simp only [AttnMem.load3, AttnMem.load4, Matrix.cons_val, Fin.val_zero, Nat.add_zero, Nat.zero_add, Fin.eta]
    try simp (disch := ((try dsimp only); omega)) only [AttnMem.hit3, AttnMem.miss3, AttnMem.hit4, AttnMem.miss4]
    try pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    try simp only [View.readCov]
    try simp only [AttnMem.load3, AttnMem.load4, Matrix.cons_val, Fin.val_zero, Nat.add_zero, Nat.zero_add, Fin.eta]
    try simp only [kernelRun0_C.sl.HS0_1, kernelRun0_C.sl.HS0_2, kernelRun0_C.sl.HS0_3, kernelRun0_C.sl.HS0_4, kernelRun0_C.sl.HS0_5, kernelRun0_C.sl.HS0_6,
      kernelRun0_C.sl.HS0_7, kernelRun0_C.sl.HS0_8, kernelRun0_C.sl.HS0_9, kernelRun0_C.sl.HS1_16, kernelRun0_C.sl.HS1_17, kernelRun0_C.sl.HS1_18,
      kernelRun0_C.sl.HS1_19, kernelRun0_C.sl.HS1_20, kernelRun0_C.sl.HS1_21, kernelRun0_C.sl.HS1_22, kernelRun0_C.sl.HS1_23,
      kernelRun0_C.sl.HS1_24]
    try simp (disch := ((try dsimp only); omega)) only [AttnMem.hit3, AttnMem.miss3, AttnMem.hit4, AttnMem.miss4]
    try pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    simp (disch := rfl) only [Memref.IsWhole.read_unread, hQ, hK, hV, AttnMem.load3, AttnMem.load4, Matrix.cons_val, Fin.val_zero, Nat.add_zero, Nat.zero_add, Fin.eta, tile, wt, lg, hh, Nat.reduceMul, Nat.zero_add]
    rfl

set_option maxHeartbeats 4000000 in
include hQ hK hp in
/-- and the scratch the second tile's exponentials. -/
theorem base7 (a : Fin 2) (h : Fin 8) (kk q : Fin 512) (ha : a.val = 1) :
    arg7.view.read (Elt Ideal) (arg7.view.writes (Elt Ideal) arg7.view.junk (kernelRun0_C.sl.HS1_24 (F := Ideal) c arg2 harg2 arg3 harg3 x0 x1)) (ix4 a h kk q)
      = wt Q K h.val (par i * 512 + kk.val) q.val := by
  rw [hp]
  have hh : h.val = 0 ∨ h.val = 1 ∨ h.val = 2 ∨ h.val = 3 ∨ h.val = 4 ∨ h.val = 5 ∨ h.val = 6 ∨ h.val = 7 := by omega
  simp only [kernelRun0_C.sl.HS1_16, kernelRun0_C.sl.HS1_17, kernelRun0_C.sl.HS1_18, kernelRun0_C.sl.HS1_19, kernelRun0_C.sl.HS1_20,
      kernelRun0_C.sl.HS1_21, kernelRun0_C.sl.HS1_22, kernelRun0_C.sl.HS1_23, kernelRun0_C.sl.HS1_24]
  rcases hh with hh | hh | hh | hh | hh | hh | hh | hh <;>
  · simp (disch := ((try dsimp only); omega)) only [AttnMem.hit4, AttnMem.miss4]
    pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    simp only [AttnMem.load3, AttnMem.load4, Matrix.cons_val, Fin.val_zero, Nat.add_zero, Nat.zero_add, Fin.eta, Memref.IsWhole.read_unread, hQ, hK, wt, lg, hh, Nat.reduceMul]
    rfl

set_option maxHeartbeats 8000000 in
include hQ hK hV hp hi in
/-- What the accumulator holds at the end, at a query of the first 256. -/
theorem acc_left (h : Fin 8) (r : Fin 80) (q : Fin 256) :
    arg6.view.read (Elt Ideal) (arg6.view.writes (Elt Ideal) arg6.view.junk (kernelRun0_C.sl.HS0_24 (F := Ideal) c i arg2 harg2 arg3 harg3 arg4 harg4 arg5 harg5 arg6 harg6 arg7 harg7 hc3 x0 x1 x2)) (ix3 h r ⟨q.val, by omega⟩)
      = acc Q K V (i 1).val h.val r.val q.val := by
  have g6 := fun arg1 v11 c2 v25 v30 v31 => AttnLoop.loop6 Variants.none c none i arg2 harg2 arg3 harg3 arg4 harg4 arg5 harg5 arg6 harg6 arg7 harg7 arg1 v11 c2 v25 v30 v31 x0 x1 x2 _ _ Q K V hQ hK hV
    (base6 c i arg2 harg2 arg3 harg3 arg4 harg4 arg6 arg7 x0 x1 x2 Q K V hQ hK hV hp) (base7 c i arg2 harg2 arg3 harg3 arg7 x0 x1 Q K hQ hK hp)
  have g7 := fun arg1 v11 c2 v25 v30 v31 => AttnLoop.loop7 Variants.none c none i arg2 harg2 arg3 harg3 arg4 harg4 arg5 harg5 arg6 harg6 arg7 harg7 arg1 v11 c2 v25 v30 v31 x0 x1 x2 _ _ Q K V hQ hK hV
    (base6 c i arg2 harg2 arg3 harg3 arg4 harg4 arg6 arg7 x0 x1 x2 Q K V hQ hK hV hp) (base7 c i arg2 harg2 arg3 harg3 arg7 x0 x1 Q K hQ hK hp)
  have hh : h.val = 0 ∨ h.val = 1 ∨ h.val = 2 ∨ h.val = 3 ∨ h.val = 4 ∨ h.val = 5 ∨ h.val = 6 ∨ h.val = 7 := by omega
  rw [← acc_pred Q K V _ _ _ _ hi, ← diag_left Q K V _ _ _ _ q.isLt]
  simp only [kernelRun0_C.sl.HS0_10, kernelRun0_C.sl.HS0_11, kernelRun0_C.sl.HS0_12, kernelRun0_C.sl.HS0_13, kernelRun0_C.sl.HS0_14,
      kernelRun0_C.sl.HS0_15, kernelRun0_C.sl.HS0_16, kernelRun0_C.sl.HS0_17, kernelRun0_C.sl.HS0_18, kernelRun0_C.sl.HS0_19,
      kernelRun0_C.sl.HS0_20, kernelRun0_C.sl.HS0_21, kernelRun0_C.sl.HS0_22, kernelRun0_C.sl.HS0_23, kernelRun0_C.sl.HS0_24,
      kernelRun0_C.sl.HS0_1_1, kernelRun0_C.sl.HS0_2_1, kernelRun0_C.sl.HS0_3_1, kernelRun0_C.sl.HS0_4_1, kernelRun0_C.sl.HS0_5_1,
      kernelRun0_C.sl.HS0_6_1, kernelRun0_C.sl.HS0_7_1, kernelRun0_C.sl.HS0_8_1, kernelRun0_C.sl.HS0_9_1, kernelRun0_C.sl.HS1_2,
      kernelRun0_C.sl.HS1_4, kernelRun0_C.sl.HS1_6, kernelRun0_C.sl.HS1_8, kernelRun0_C.sl.HS1_10, kernelRun0_C.sl.HS1_12, kernelRun0_C.sl.HS1_14,
      kernelRun0_C.sl.HS1_16_1]
  rcases hh with hh | hh | hh | hh | hh | hh | hh | hh <;>
  · simp (disch := ((try dsimp only); omega)) only [AttnMem.hit3, AttnMem.miss3, AttnMem.hit4, AttnMem.miss4]
    pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    try simp only [View.readCov]
    try simp only [AttnMem.load3, AttnMem.load4, Matrix.cons_val, Fin.val_zero, Nat.add_zero, Nat.zero_add, Fin.eta]
    try simp only [kernelRun0_C.sl.HS0_10, kernelRun0_C.sl.HS0_11, kernelRun0_C.sl.HS0_12, kernelRun0_C.sl.HS0_13, kernelRun0_C.sl.HS0_14,
      kernelRun0_C.sl.HS0_15, kernelRun0_C.sl.HS0_16, kernelRun0_C.sl.HS0_17, kernelRun0_C.sl.HS0_18, kernelRun0_C.sl.HS0_19,
      kernelRun0_C.sl.HS0_20, kernelRun0_C.sl.HS0_21, kernelRun0_C.sl.HS0_22, kernelRun0_C.sl.HS0_23, kernelRun0_C.sl.HS0_24,
      kernelRun0_C.sl.HS0_1_1, kernelRun0_C.sl.HS0_2_1, kernelRun0_C.sl.HS0_3_1, kernelRun0_C.sl.HS0_4_1, kernelRun0_C.sl.HS0_5_1,
      kernelRun0_C.sl.HS0_6_1, kernelRun0_C.sl.HS0_7_1, kernelRun0_C.sl.HS0_8_1, kernelRun0_C.sl.HS0_9_1, kernelRun0_C.sl.HS1_2,
      kernelRun0_C.sl.HS1_4, kernelRun0_C.sl.HS1_6, kernelRun0_C.sl.HS1_8, kernelRun0_C.sl.HS1_10, kernelRun0_C.sl.HS1_12, kernelRun0_C.sl.HS1_14,
      kernelRun0_C.sl.HS1_16_1]
    try simp (disch := ((try dsimp only); omega)) only [AttnMem.hit3, AttnMem.miss3, AttnMem.hit4, AttnMem.miss4]
    pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    try simp only [View.readCov]
    try simp only [AttnMem.load3, AttnMem.load4, Matrix.cons_val, Fin.val_zero, Nat.add_zero, Nat.zero_add, Fin.eta]
    try simp only [kernelRun0_C.sl.HS0_10, kernelRun0_C.sl.HS0_11, kernelRun0_C.sl.HS0_12, kernelRun0_C.sl.HS0_13, kernelRun0_C.sl.HS0_14,
      kernelRun0_C.sl.HS0_15, kernelRun0_C.sl.HS0_16, kernelRun0_C.sl.HS0_17, kernelRun0_C.sl.HS0_18, kernelRun0_C.sl.HS0_19,
      kernelRun0_C.sl.HS0_20, kernelRun0_C.sl.HS0_21, kernelRun0_C.sl.HS0_22, kernelRun0_C.sl.HS0_23, kernelRun0_C.sl.HS0_24,
      kernelRun0_C.sl.HS0_1_1, kernelRun0_C.sl.HS0_2_1, kernelRun0_C.sl.HS0_3_1, kernelRun0_C.sl.HS0_4_1, kernelRun0_C.sl.HS0_5_1,
      kernelRun0_C.sl.HS0_6_1, kernelRun0_C.sl.HS0_7_1, kernelRun0_C.sl.HS0_8_1, kernelRun0_C.sl.HS0_9_1, kernelRun0_C.sl.HS1_2,
      kernelRun0_C.sl.HS1_4, kernelRun0_C.sl.HS1_6, kernelRun0_C.sl.HS1_8, kernelRun0_C.sl.HS1_10, kernelRun0_C.sl.HS1_12, kernelRun0_C.sl.HS1_14,
      kernelRun0_C.sl.HS1_16_1]
    try simp (disch := ((try dsimp only); omega)) only [AttnMem.hit3, AttnMem.miss3, AttnMem.hit4, AttnMem.miss4]
    try simp (disch := ((try dsimp only); omega)) only [AttnLoop.trips1 i, AttnLoop.trips2 i, pb_k0_t2, List.nil_append, View.writes_append, View.writes_nil, AttnMem.hit3, AttnMem.miss3, AttnMem.hit4, AttnMem.miss4]
    simp (disch := rfl) only [Memref.IsWhole.read_unread, hQ, hK, hV, g6, g7, offsE i, offsF i, offsG i hi, offsH i, Matrix.cons_val]
    simp (disch := omega) only [weight_early, weight_late]
    simp only [tile, wt, lg, hh, Nat.reduceMul, Nat.zero_add]

set_option maxHeartbeats 8000000 in
include hQ hK hV hp hi in
/-- What the accumulator holds at the end, at a query of the last 256. -/
theorem acc_right (h : Fin 8) (r : Fin 80) (q : Fin 256) :
    arg6.view.read (Elt Ideal) (arg6.view.writes (Elt Ideal) arg6.view.junk (kernelRun0_C.sl.HS0_24 (F := Ideal) c i arg2 harg2 arg3 harg3 arg4 harg4 arg5 harg5 arg6 harg6 arg7 harg7 hc3 x0 x1 x2)) (ix3 h r ⟨256 + q.val, by omega⟩)
      = acc Q K V (i 1).val h.val r.val (256 + q.val) := by
  have g6 := fun arg1 v11 c2 v25 v30 v31 => AttnLoop.loop6 Variants.none c none i arg2 harg2 arg3 harg3 arg4 harg4 arg5 harg5 arg6 harg6 arg7 harg7 arg1 v11 c2 v25 v30 v31 x0 x1 x2 _ _ Q K V hQ hK hV
    (base6 c i arg2 harg2 arg3 harg3 arg4 harg4 arg6 arg7 x0 x1 x2 Q K V hQ hK hV hp) (base7 c i arg2 harg2 arg3 harg3 arg7 x0 x1 Q K hQ hK hp)
  have g7 := fun arg1 v11 c2 v25 v30 v31 => AttnLoop.loop7 Variants.none c none i arg2 harg2 arg3 harg3 arg4 harg4 arg5 harg5 arg6 harg6 arg7 harg7 arg1 v11 c2 v25 v30 v31 x0 x1 x2 _ _ Q K V hQ hK hV
    (base6 c i arg2 harg2 arg3 harg3 arg4 harg4 arg6 arg7 x0 x1 x2 Q K V hQ hK hV hp) (base7 c i arg2 harg2 arg3 harg3 arg7 x0 x1 Q K hQ hK hp)
  have hh : h.val = 0 ∨ h.val = 1 ∨ h.val = 2 ∨ h.val = 3 ∨ h.val = 4 ∨ h.val = 5 ∨ h.val = 6 ∨ h.val = 7 := by omega
  rw [← acc_pred Q K V _ _ _ _ hi, ← diag_right Q K V]
  simp only [kernelRun0_C.sl.HS0_10, kernelRun0_C.sl.HS0_11, kernelRun0_C.sl.HS0_12, kernelRun0_C.sl.HS0_13, kernelRun0_C.sl.HS0_14,
      kernelRun0_C.sl.HS0_15, kernelRun0_C.sl.HS0_16, kernelRun0_C.sl.HS0_17, kernelRun0_C.sl.HS0_18, kernelRun0_C.sl.HS0_19,
      kernelRun0_C.sl.HS0_20, kernelRun0_C.sl.HS0_21, kernelRun0_C.sl.HS0_22, kernelRun0_C.sl.HS0_23, kernelRun0_C.sl.HS0_24,
      kernelRun0_C.sl.HS0_1_1, kernelRun0_C.sl.HS0_2_1, kernelRun0_C.sl.HS0_3_1, kernelRun0_C.sl.HS0_4_1, kernelRun0_C.sl.HS0_5_1,
      kernelRun0_C.sl.HS0_6_1, kernelRun0_C.sl.HS0_7_1, kernelRun0_C.sl.HS0_8_1, kernelRun0_C.sl.HS0_9_1, kernelRun0_C.sl.HS1_2,
      kernelRun0_C.sl.HS1_4, kernelRun0_C.sl.HS1_6, kernelRun0_C.sl.HS1_8, kernelRun0_C.sl.HS1_10, kernelRun0_C.sl.HS1_12, kernelRun0_C.sl.HS1_14,
      kernelRun0_C.sl.HS1_16_1]
  rcases hh with hh | hh | hh | hh | hh | hh | hh | hh <;>
  · simp (disch := ((try dsimp only); omega)) only [AttnMem.hit3, AttnMem.miss3, AttnMem.hit4, AttnMem.miss4]
    pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    try simp only [View.readCov]
    try simp only [AttnMem.load3, AttnMem.load4, Matrix.cons_val, Fin.val_zero, Nat.add_zero, Nat.zero_add, Fin.eta]
    try simp only [kernelRun0_C.sl.HS0_10, kernelRun0_C.sl.HS0_11, kernelRun0_C.sl.HS0_12, kernelRun0_C.sl.HS0_13, kernelRun0_C.sl.HS0_14,
      kernelRun0_C.sl.HS0_15, kernelRun0_C.sl.HS0_16, kernelRun0_C.sl.HS0_17, kernelRun0_C.sl.HS0_18, kernelRun0_C.sl.HS0_19,
      kernelRun0_C.sl.HS0_20, kernelRun0_C.sl.HS0_21, kernelRun0_C.sl.HS0_22, kernelRun0_C.sl.HS0_23, kernelRun0_C.sl.HS0_24,
      kernelRun0_C.sl.HS0_1_1, kernelRun0_C.sl.HS0_2_1, kernelRun0_C.sl.HS0_3_1, kernelRun0_C.sl.HS0_4_1, kernelRun0_C.sl.HS0_5_1,
      kernelRun0_C.sl.HS0_6_1, kernelRun0_C.sl.HS0_7_1, kernelRun0_C.sl.HS0_8_1, kernelRun0_C.sl.HS0_9_1, kernelRun0_C.sl.HS1_2,
      kernelRun0_C.sl.HS1_4, kernelRun0_C.sl.HS1_6, kernelRun0_C.sl.HS1_8, kernelRun0_C.sl.HS1_10, kernelRun0_C.sl.HS1_12, kernelRun0_C.sl.HS1_14,
      kernelRun0_C.sl.HS1_16_1]
    try simp (disch := ((try dsimp only); omega)) only [AttnMem.hit3, AttnMem.miss3, AttnMem.hit4, AttnMem.miss4]
    pointwise [kernelRun0_C.sl.cst_253, kernelRun0_C.sl.cst_268, kernelRun0_C.sl.cst_367, kernelRun0_C.sl.r, kernelRun0_C.sl.r_1, kernelRun0_C.sl.r_2,
      kernelRun0_C.sl.r_3, kernelRun0_C.sl.r_4, kernelRun0_C.sl.r_5, kernelRun0_C.sl.r_6, kernelRun0_C.sl.r_7, kernelRun0_C.sl.r_8,
      kernelRun0_C.sl.r_9, kernelRun0_C.sl.r_10, kernelRun0_C.sl.r_11, kernelRun0_C.sl.r_12, kernelRun0_C.sl.r_13, kernelRun0_C.sl.r_14,
      kernelRun0_C.sl.r_15, kernelRun0_C.sl.r_16, kernelRun0_C.sl.r_17, kernelRun0_C.sl.r_18, kernelRun0_C.sl.r_19, kernelRun0_C.sl.r_20,
      kernelRun0_C.sl.r_21, kernelRun0_C.sl.r_22, kernelRun0_C.sl.r_23, kernelRun0_C.sl.r_24, kernelRun0_C.sl.r_25, kernelRun0_C.sl.r_26,
      kernelRun0_C.sl.r_27, kernelRun0_C.sl.v10, kernelRun0_C.sl.v11, kernelRun0_C.sl.v25, kernelRun0_C.sl.v26, kernelRun0_C.sl.v27,
      kernelRun0_C.sl.v28, kernelRun0_C.sl.v29, kernelRun0_C.sl.v30, kernelRun0_C.sl.v36, kernelRun0_C.sl.v37, kernelRun0_C.sl.v38,
      kernelRun0_C.sl.v39, kernelRun0_C.sl.v40, kernelRun0_C.sl.v41, kernelRun0_C.sl.v42, kernelRun0_C.sl.v44, kernelRun0_C.sl.v45,
      kernelRun0_C.sl.v46, kernelRun0_C.sl.v54, kernelRun0_C.sl.v58, kernelRun0_C.sl.v61, kernelRun0_C.sl.v68, kernelRun0_C.sl.v80,
      kernelRun0_C.sl.v84, kernelRun0_C.sl.v87, kernelRun0_C.sl.v94, kernelRun0_C.sl.v106, kernelRun0_C.sl.v110, kernelRun0_C.sl.v113,
      kernelRun0_C.sl.v120, kernelRun0_C.sl.v132, kernelRun0_C.sl.v136, kernelRun0_C.sl.v139, kernelRun0_C.sl.v146, kernelRun0_C.sl.v158,
      kernelRun0_C.sl.v162, kernelRun0_C.sl.v165, kernelRun0_C.sl.v172, kernelRun0_C.sl.v184, kernelRun0_C.sl.v188, kernelRun0_C.sl.v191,
      kernelRun0_C.sl.v198, kernelRun0_C.sl.v210, kernelRun0_C.sl.v214, kernelRun0_C.sl.v217, kernelRun0_C.sl.v224, kernelRun0_C.sl.v236,
      kernelRun0_C.sl.v240, kernelRun0_C.sl.v243, kernelRun0_C.sl.v250, kernelRun0_C.sl.v258, kernelRun0_C.sl.v264, kernelRun0_C.sl.v276,
      kernelRun0_C.sl.v282, kernelRun0_C.sl.v294, kernelRun0_C.sl.v300, kernelRun0_C.sl.v312, kernelRun0_C.sl.v318, kernelRun0_C.sl.v333,
      kernelRun0_C.sl.v335, kernelRun0_C.sl.v336, kernelRun0_C.sl.v337, kernelRun0_C.sl.v338, kernelRun0_C.sl.v339, kernelRun0_C.sl.v340,
      kernelRun0_C.sl.v341, kernelRun0_C.sl.v342, kernelRun0_C.sl.v343, kernelRun0_C.sl.v345, kernelRun0_C.sl.v346, kernelRun0_C.sl.v347,
      kernelRun0_C.sl.v348, kernelRun0_C.sl.v349, kernelRun0_C.sl.v350, kernelRun0_C.sl.v351, kernelRun0_C.sl.v352, kernelRun0_C.sl.v353,
      kernelRun0_C.sl.v354, kernelRun0_C.sl.v355, kernelRun0_C.sl.v356, kernelRun0_C.sl.v357, kernelRun0_C.sl.v358, kernelRun0_C.sl.v359,
      kernelRun0_C.sl.v360, kernelRun0_C.sl.v361, kernelRun0_C.sl.v362, kernelRun0_C.sl.v363, kernelRun0_C.sl.v364, kernelRun0_C.sl.v365,
      kernelRun0_C.sl.v366, kernelRun0_C.sl.v367, kernelRun0_C.sl.v368, kernelRun0_C.sl.v369, kernelRun0_C.sl.v370, kernelRun0_C.sl.v371,
      kernelRun0_C.sl.v372, kernelRun0_C.sl.v373, kernelRun0_C.sl.v375, kernelRun0_C.sl.v378, kernelRun0_C.sl.v379, kernelRun0_C.sl.v380,
      kernelRun0_C.sl.v381, kernelRun0_C.sl.v382, kernelRun0_C.sl.v383, kernelRun0_C.sl.v384, kernelRun0_C.sl.v385, kernelRun0_C.sl.v386,
      kernelRun0_C.sl.v387, kernelRun0_C.sl.v388, kernelRun0_C.sl.v389, kernelRun0_C.sl.v390, kernelRun0_C.sl.v391, kernelRun0_C.sl.v392,
      kernelRun0_C.sl.v393, kernelRun0_C.sl.v394, kernelRun0_C.sl.v395, kernelRun0_C.sl.v396, kernelRun0_C.sl.v397, kernelRun0_C.sl.v398,
      kernelRun0_C.sl.v399, kernelRun0_C.sl.v400, kernelRun0_C.sl.v401, kernelRun0_C.sl.v402, kernelRun0_C.sl.v403, kernelRun0_C.sl.v405,
      kernelRun0_C.sl.v406, kernelRun0_C.sl.v407, kernelRun0_C.sl.v408, kernelRun0_C.sl.v409, kernelRun0_C.sl.v410, kernelRun0_C.sl.v411,
      kernelRun0_C.sl.v412, kernelRun0_C.sl.v413, kernelRun0_C.sl.v414, kernelRun0_C.sl.v415, kernelRun0_C.sl.v416, kernelRun0_C.sl.v417,
      kernelRun0_C.sl.v418, kernelRun0_C.sl.v421, kernelRun0_C.sl.v423, kernelRun0_C.sl.v425, kernelRun0_C.sl.v426, kernelRun0_C.sl.v427,
      kernelRun0_C.sl.v428, kernelRun0_C.sl.v429, kernelRun0_C.sl.v430, kernelRun0_C.sl.v431, kernelRun0_C.sl.v432, kernelRun0_C.sl.v433,
      kernelRun0_C.sl.v434, kernelRun0_C.sl.v435, kernelRun0_C.sl.v437, kernelRun0_C.sl.v438, kernelRun0_C.sl.v439, kernelRun0_C.sl.v440,
      kernelRun0_C.sl.v441, kernelRun0_C.sl.v444, kernelRun0_C.sl.v448, kernelRun0_C.sl.v451, kernelRun0_C.sl.v452, kernelRun0_C.sl.v453,
      kernelRun0_C.sl.v454, kernelRun0_C.sl.v455, kernelRun0_C.sl.v456, kernelRun0_C.sl.v457, kernelRun0_C.sl.v458, kernelRun0_C.sl.v460,
      kernelRun0_C.sl.v461, kernelRun0_C.sl.v462, kernelRun0_C.sl.v463, kernelRun0_C.sl.v464, kernelRun0_C.sl.v467, kernelRun0_C.sl.v471,
      kernelRun0_C.sl.v474, kernelRun0_C.sl.v475, kernelRun0_C.sl.v476, kernelRun0_C.sl.v477, kernelRun0_C.sl.v478, kernelRun0_C.sl.v479,
      kernelRun0_C.sl.v480, kernelRun0_C.sl.v481, kernelRun0_C.sl.v483, kernelRun0_C.sl.v484, kernelRun0_C.sl.v485, kernelRun0_C.sl.v486,
      kernelRun0_C.sl.v487, kernelRun0_C.sl.v490, kernelRun0_C.sl.v494, kernelRun0_C.sl.v496, kernelRun0_C.sl.v497, kernelRun0_C.sl.v498,
      kernelRun0_C.sl.v499, kernelRun0_C.sl.v500, kernelRun0_C.sl.v501, kernelRun0_C.sl.v502, kernelRun0_C.sl.v503, kernelRun0_C.sl.v504,
      kernelRun0_C.sl.v506, kernelRun0_C.sl.v507, kernelRun0_C.sl.v508, kernelRun0_C.sl.v509, kernelRun0_C.sl.v510, kernelRun0_C.sl.v518,
      kernelRun0_C.sl.v524, kernelRun0_C.sl.v585, kernelRun0_C.sl.v591, kernelRun0_C.sl.v599, kernelRun0_C.sl.v634, kernelRun0_C.sl.v652,
      kernelRun0_C.sl.v658, kernelRun0_C.sl.v702, kernelRun0_C.sl.v719, kernelRun0_C.sl.v725, kernelRun0_C.sl.v786, kernelRun0_C.sl.v792,
      kernelRun0_C.sl.v837, kernelRun0_C.sl.v853, kernelRun0_C.sl.v859, kernelRun0_C.sl.v333_1, kernelRun0_C.sl.v336_1, kernelRun0_C.sl.v337_1,
      kernelRun0_C.sl.v338_1, kernelRun0_C.sl.v340_1, kernelRun0_C.sl.v341_1, kernelRun0_C.sl.v342_1, kernelRun0_C.sl.v343_1,
      kernelRun0_C.sl.v348_1, kernelRun0_C.sl.v352_1, kernelRun0_C.sl.v356_1, kernelRun0_C.sl.v363_1, kernelRun0_C.sl.v365_1,
      kernelRun0_C.sl.v366_1, kernelRun0_C.sl.v368_1, kernelRun0_C.sl.v369_1, kernelRun0_C.sl.v370_1, kernelRun0_C.sl.v371_1,
      kernelRun0_C.sl.v372_1, kernelRun0_C.sl.v382_1, kernelRun0_C.sl.v383_1, kernelRun0_C.sl.v384_1, kernelRun0_C.sl.v384_2,
      kernelRun0_C.sl.v385_1, kernelRun0_C.sl.v386_1, kernelRun0_C.sl.v387_1, kernelRun0_C.sl.v388_1, kernelRun0_C.sl.v393_1,
      kernelRun0_C.sl.v395_1, kernelRun0_C.sl.v398_1, kernelRun0_C.sl.v402_1, kernelRun0_C.sl.v408_1, kernelRun0_C.sl.v410_1,
      kernelRun0_C.sl.v411_1, kernelRun0_C.sl.v412_1, kernelRun0_C.sl.v414_1, kernelRun0_C.sl.v415_1, kernelRun0_C.sl.v416_1,
      kernelRun0_C.sl.v417_1, kernelRun0_C.sl.v418_1, kernelRun0_C.sl.v425_1, kernelRun0_C.sl.v428_1, kernelRun0_C.sl.v429_1,
      kernelRun0_C.sl.v430_1, kernelRun0_C.sl.v431_1, kernelRun0_C.sl.v432_1, kernelRun0_C.sl.v433_1, kernelRun0_C.sl.v438_1,
      kernelRun0_C.sl.v451_1, kernelRun0_C.sl.v457_1, kernelRun0_C.sl.v464_1, k0_pay158, k0_pay159, k0_pay160, k0_pay161, k0_pay162, k0_pay163,
      k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay196, k0_pay197, k0_pay198, k0_pay199, k0_pay204, k0_pay205, k0_pay206,
      k0_pay207, k0_pay208, k0_pay209, k0_pay210, k0_pay211, k0_pay212, k0_pay213, k0_pay214, k0_pay215, k0_pay216, k0_pay217, k0_pay218,
      k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236, k0_pay237, k0_pay238, k0_pay239, k0_pay240, k0_pay241, k0_pay242,
      k0_pay243, k0_pay244, k0_pay245, k0_pay246]
    try simp only [View.readCov]
    try simp only [AttnMem.load3, AttnMem.load4, Matrix.cons_val, Fin.val_zero, Nat.add_zero, Nat.zero_add, Fin.eta]
    try simp only [kernelRun0_C.sl.HS0_10, kernelRun0_C.sl.HS0_11, kernelRun0_C.sl.HS0_12, kernelRun0_C.sl.HS0_13, kernelRun0_C.sl.HS0_14,
      kernelRun0_C.sl.HS0_15, kernelRun0_C.sl.HS0_16, kernelRun0_C.sl.HS0_17, kernelRun0_C.sl.HS0_18, kernelRun0_C.sl.HS0_19,
      kernelRun0_C.sl.HS0_20, kernelRun0_C.sl.HS0_21, kernelRun0_C.sl.HS0_22, kernelRun0_C.sl.HS0_23, kernelRun0_C.sl.HS0_24,
      kernelRun0_C.sl.HS0_1_1, kernelRun0_C.sl.HS0_2_1, kernelRun0_C.sl.HS0_3_1, kernelRun0_C.sl.HS0_4_1, kernelRun0_C.sl.HS0_5_1,
      kernelRun0_C.sl.HS0_6_1, kernelRun0_C.sl.HS0_7_1, kernelRun0_C.sl.HS0_8_1, kernelRun0_C.sl.HS0_9_1, kernelRun0_C.sl.HS1_2,
      kernelRun0_C.sl.HS1_4, kernelRun0_C.sl.HS1_6, kernelRun0_C.sl.HS1_8, kernelRun0_C.sl.HS1_10, kernelRun0_C.sl.HS1_12, kernelRun0_C.sl.HS1_14,
      kernelRun0_C.sl.HS1_16_1]
    try simp (disch := ((try dsimp only); omega)) only [AttnMem.hit3, AttnMem.miss3, AttnMem.hit4, AttnMem.miss4]
    try simp (disch := ((try dsimp only); omega)) only [AttnLoop.trips1 i, AttnLoop.trips2 i, pb_k0_t2, List.nil_append, View.writes_append, View.writes_nil, AttnMem.hit3, AttnMem.miss3, AttnMem.hit4, AttnMem.miss4]
    simp (disch := rfl) only [Memref.IsWhole.read_unread, hQ, hK, hV, g6, g7, offsE i, offsF i, offsG i hi, offsH i, Matrix.cons_val]
    simp (disch := omega) only [weight_early, weight_late]
    simp only [tile, wt, lg, hh, Nat.reduceMul, Nat.zero_add]

end Cert.KernelIdeal.AttnRunC
end
end
-- ==== Proof.AttnOut.lean ====
/- What a block of the attention kernel writes: the eight heads' sums over their weights' sums, side by side. -/
module

public import proofs.«01_k».proof.Proof.AttnRunA
public import proofs.«01_k».proof.Proof.AttnRunB
public import proofs.«01_k».proof.Proof.AttnRunC

@[expose] public section

set_option backward.proofsInPublic true
set_option maxRecDepth 16384

noncomputable section

namespace Cert.KernelIdeal.AttnOut

open Idealize.ShloMosaic Idealize.ShloMosaic.TcCoe Idealize.SL.Sem
open Cert.KernelIdeal Cert.KernelIdeal.Gen
open Cert.Attn Cert.KernelIdeal.AttnTrip

set_option maxHeartbeats 4000000 in
/-- The four pieces of the block, each of two heads: a head's row divided by its row 64. -/
theorem pieces (w0 w1 w2 w3 w4 w5 w6 w7 : Vec Ideal S1x80x512 .f32) (G : ℕ → ℕ → ℕ → EReal)
    (h0 : ∀ (a : Fin 1) (r : Fin 80) (q : Fin 512), w0 (ix3 a r q) = G 0 r.val q.val)
    (h1 : ∀ (a : Fin 1) (r : Fin 80) (q : Fin 512), w1 (ix3 a r q) = G 1 r.val q.val)
    (h2 : ∀ (a : Fin 1) (r : Fin 80) (q : Fin 512), w2 (ix3 a r q) = G 2 r.val q.val)
    (h3 : ∀ (a : Fin 1) (r : Fin 80) (q : Fin 512), w3 (ix3 a r q) = G 3 r.val q.val)
    (h4 : ∀ (a : Fin 1) (r : Fin 80) (q : Fin 512), w4 (ix3 a r q) = G 4 r.val q.val)
    (h5 : ∀ (a : Fin 1) (r : Fin 80) (q : Fin 512), w5 (ix3 a r q) = G 5 r.val q.val)
    (h6 : ∀ (a : Fin 1) (r : Fin 80) (q : Fin 512), w6 (ix3 a r q) = G 6 r.val q.val)
    (h7 : ∀ (a : Fin 1) (r : Fin 80) (q : Fin 512), w7 (ix3 a r q) = G 7 r.val q.val)
    (h : Fin 8) (d : Fin 64) (a : Fin 1) (q k : Fin 512) (hk : k.val = h.val * 64 + d.val) :
    VO0_3.read (Elt Ideal) (VO0_3.writes (Elt Ideal) VO0_3.junk
      [⟨Rect.unit ![0, 0, 384] S1x512x128.size inb_S1x512x512_S1x512x128_0_0_384, k0_pay1 w6 w7⟩,
       ⟨Rect.unit ![0, 0, 256] S1x512x128.size inb_S1x512x512_S1x512x128_0_0_256, k0_pay249 w4 w5⟩,
       ⟨Rect.unit ![0, 0, 128] S1x512x128.size inb_S1x512x512_S1x512x128_0_0_128, k0_pay248 w2 w3⟩,
       ⟨Rect.unit ![0, 0, 0] S1x512x128.size inb_S1x512x512_S1x512x128_0_0_0, k0_pay247 (k0_pay246 w0 w1)⟩]) (ix3 a q k)
    = Ideal.div (G h.val d.val q.val) (G h.val 64 q.val) := by
  have gg : ∀ x x' y y' z, x = x' → y = y' → G x y z = G x' y' z := fun x x' y y' z e e' => by rw [e, e']
  have hh : h.val = 0 ∨ h.val = 1 ∨ h.val = 2 ∨ h.val = 3 ∨ h.val = 4 ∨ h.val = 5 ∨ h.val = 6 ∨ h.val = 7 := by omega
  rcases hh with hh | hh | hh | hh | hh | hh | hh | hh <;>
  · simp (disch := ((try dsimp only); omega)) only [AttnMem.hit3, AttnMem.miss3]
    pointwise [k0_pay1, k0_pay249, k0_pay248, k0_pay247, k0_pay246]
    split_ifs
    all_goals first
      | (exfalso; omega)
      | (simp only [h0, h1, h2, h3, h4, h5, h6, h7]
         exact congrArg₂ Ideal.div (gg _ _ _ _ _ (by omega) (by (try dsimp only); omega)) (gg _ _ _ _ _ (by omega) rfl))

variable (c : Dev nD) (i : grid0.Coords)
  (arg2 : Memref sig .tc .vmem S1x1x1024x512 .bf16) (harg2 : arg2.IsWhole) (arg3 : Memref sig .tc .vmem S1x4096x1024 .bf16) (harg3 : arg3.IsWhole)
  (arg4 : Memref sig .tc .vmem S1x8x640x512 .bf16) (harg4 : arg4.IsWhole) (arg5 : Memref sig .tc .vmem S1x512x512 .bf16) (harg5 : arg5.IsWhole)
  (arg6 : Memref sig .tc .vmem S8x80x512 .f32) (harg6 : arg6.IsWhole) (arg7 : Memref sig .tc .vmem S2x8x512x512 .bf16) (harg7 : arg7.IsWhole)
  (x0 : Vec Ideal S1x1x1024x512 .bf16) (x1 : Vec Ideal S1x4096x1024 .bf16) (x2 : Vec Ideal S1x8x640x512 .bf16)
  (Q K : ℕ → ℕ → EReal) (V : ℕ → ℕ → ℕ → EReal)
  (hQ : ∀ (a b : Fin 1) (f : Fin 1024) (q : Fin 512), x0 (ix4 a b f q) = Q f.val q.val)
  (hK : ∀ (a : Fin 1) (s : Fin 4096) (j : Fin 1024), x1 (ix3 a s j) = K s.val j.val)
  (hV : ∀ (a : Fin 1) (t : Fin 8) (r : Fin 640) (q : Fin 512), x2 (ix4 a t r q) = V t.val r.val q.val)

/-- The accumulator read back a head at a time, from what it holds at each half of the queries. -/
theorem head_read (L : List (View.Piece (Elt Ideal) S8x80x512 .f32)) (A : ℕ → ℕ → ℕ → EReal)
    (hl : ∀ (h : Fin 8) (r : Fin 80) (q : Fin 256), arg6.view.read (Elt Ideal) (arg6.view.writes (Elt Ideal) arg6.view.junk L) (ix3 h r ⟨q.val, by omega⟩) = A h.val r.val q.val)
    (hr : ∀ (h : Fin 8) (r : Fin 80) (q : Fin 256), arg6.view.read (Elt Ideal) (arg6.view.writes (Elt Ideal) arg6.view.junk L) (ix3 h r ⟨256 + q.val, by omega⟩) = A h.val r.val (256 + q.val))
    (h : ℕ) (hh : h < 8) (inb) (a : Fin 1) (r : Fin 80) (q : Fin 512) :
    arg6.view.readCov L (Rect.unit (s := S8x80x512) ![h, 0, 0] S1x80x512.size inb).toLoadRect (ix3 a r q) = A h r.val q.val := by
  have e : arg6.view.readCov L (Rect.unit (s := S8x80x512) ![h, 0, 0] S1x80x512.size inb).toLoadRect (ix3 a r q)
      = arg6.view.read (Elt Ideal) (arg6.view.writes (Elt Ideal) arg6.view.junk L) (ix3 ⟨h, hh⟩ r q) := by
    simp only [View.readCov, AttnMem.load3, Matrix.cons_val, Nat.add_zero, Nat.zero_add, Fin.eta]
    congr 2
    apply Fin.ext
    show h + a.val = h
    omega
  rw [e]
  by_cases hq : q.val < 256
  · exact hl ⟨h, hh⟩ r ⟨q.val, hq⟩
  · have e2 : q = ⟨256 + (q.val - 256), by omega⟩ := Fin.ext (by show q.val = 256 + (q.val - 256); omega)
    rw [e2]
    exact hr ⟨h, hh⟩ r ⟨q.val - 256, by omega⟩

include hQ hK hV in
/-- The block of the first queries, -/
theorem outA (hc0 : cond0_0 i) (hc1 : ¬cond0_1 i) (hc2 : ¬cond0_2 i) (hc3 : ¬cond0_3 i) (hz : (i 1).val = 0) (h : Fin 8) (d : Fin 64) (a : Fin 1) (q k : Fin 512) (hk : k.val = h.val * 64 + d.val) :
    out0_A_3 (F := Ideal) c i arg2 harg2 arg3 harg3 arg4 harg4 arg5 harg5 arg6 harg6 arg7 harg7 hc0 hc1 hc2 hc3 x0 x1 x2 (ix3 a q k)
      = Ideal.div (acc Q K V (i 1).val h.val d.val q.val) (acc Q K V (i 1).val h.val 64 q.val) := by
  have g := head_read arg6 _ (acc Q K V (i 1).val) (AttnRunA.acc_left c i arg2 harg2 arg3 harg3 arg4 harg4 arg5 harg5 arg6 harg6 arg7 harg7  x0 x1 x2 Q K V hQ hK hV hz) (AttnRunA.acc_right c i arg2 harg2 arg3 harg3 arg4 harg4 arg5 harg5 arg6 harg6 arg7 harg7  x0 x1 x2 Q K V hQ hK hV hz)
  exact pieces _ _ _ _ _ _ _ _ (acc Q K V (i 1).val)
    (g 0 (by omega) _) (g 1 (by omega) _) (g 2 (by omega) _) (g 3 (by omega) _) (g 4 (by omega) _) (g 5 (by omega) _) (g 6 (by omega) _) (g 7 (by omega) _)
    h d a q k hk

include hQ hK hV in
/-- of an odd position, -/
theorem outB (hc0 : ¬cond0_0 i) (hc1 : cond0_1 i) (hc2 : ¬cond0_2 i) (hc3 : cond0_3 i) (hp : par i = 0) (hi : 1 ≤ (i 1).val) (h : Fin 8) (d : Fin 64) (a : Fin 1) (q k : Fin 512) (hk : k.val = h.val * 64 + d.val) :
    out0_B_3 (F := Ideal) c i arg2 harg2 arg3 harg3 arg4 harg4 arg5 harg5 arg6 harg6 arg7 harg7 hc0 hc1 hc2 hc3 x0 x1 x2 (ix3 a q k)
      = Ideal.div (acc Q K V (i 1).val h.val d.val q.val) (acc Q K V (i 1).val h.val 64 q.val) := by
  have g := head_read arg6 _ (acc Q K V (i 1).val) (AttnRunB.acc_left c i arg2 harg2 arg3 harg3 arg4 harg4 arg5 harg5 arg6 harg6 arg7 harg7 hc3 x0 x1 x2 Q K V hQ hK hV hp hi) (AttnRunB.acc_right c i arg2 harg2 arg3 harg3 arg4 harg4 arg5 harg5 arg6 harg6 arg7 harg7 hc3 x0 x1 x2 Q K V hQ hK hV hp hi)
  exact pieces _ _ _ _ _ _ _ _ (acc Q K V (i 1).val)
    (g 0 (by omega) _) (g 1 (by omega) _) (g 2 (by omega) _) (g 3 (by omega) _) (g 4 (by omega) _) (g 5 (by omega) _) (g 6 (by omega) _) (g 7 (by omega) _)
    h d a q k hk

include hQ hK hV in
/-- and of an even one. -/
theorem outC (hc0 : ¬cond0_0 i) (hc1 : cond0_1 i) (hc2 : cond0_2 i) (hc3 : cond0_3 i) (hp : par i = 1) (hi : 1 ≤ (i 1).val) (h : Fin 8) (d : Fin 64) (a : Fin 1) (q k : Fin 512) (hk : k.val = h.val * 64 + d.val) :
    out0_C_3 (F := Ideal) c i arg2 harg2 arg3 harg3 arg4 harg4 arg5 harg5 arg6 harg6 arg7 harg7 hc0 hc1 hc2 hc3 x0 x1 x2 (ix3 a q k)
      = Ideal.div (acc Q K V (i 1).val h.val d.val q.val) (acc Q K V (i 1).val h.val 64 q.val) := by
  have g := head_read arg6 _ (acc Q K V (i 1).val) (AttnRunC.acc_left c i arg2 harg2 arg3 harg3 arg4 harg4 arg5 harg5 arg6 harg6 arg7 harg7 hc3 x0 x1 x2 Q K V hQ hK hV hp hi) (AttnRunC.acc_right c i arg2 harg2 arg3 harg3 arg4 harg4 arg5 harg5 arg6 harg6 arg7 harg7 hc3 x0 x1 x2 Q K V hQ hK hV hp hi)
  exact pieces _ _ _ _ _ _ _ _ (acc Q K V (i 1).val)
    (g 0 (by omega) _) (g 1 (by omega) _) (g 2 (by omega) _) (g 3 (by omega) _) (g 4 (by omega) _) (g 5 (by omega) _) (g 6 (by omega) _) (g 7 (by omega) _)
    h d a q k hk

end Cert.KernelIdeal.AttnOut
end
end
-- ==== Proof.AttnHost.lean ====
/- The arrays the attention kernel's host lines prepare, read at an index: the packed rows of queries and keys, and the values. -/
module

public import proofs.«01_k».proof.Proof.AttnOut
public import proofs.«01_k».proof.Proof.AttnMath
public import proofs.«01_k».proof.Proof.Gen.KernelIdeal.Value
public import Idealize.ShloMosaic.Lib.Pipeline.ValueKit
public import Idealize.ShloMosaic.Lib.StableHlo.RunRead

@[expose] public section

set_option backward.proofsInPublic true
set_option maxRecDepth 16384

noncomputable section

namespace Cert.KernelIdeal.AttnHost

open Idealize.ShloMosaic Idealize.ShloMosaic.TcCoe Idealize.SL.Sem
open Cert.KernelIdeal Cert.KernelIdeal.Gen
open Cert.Attn

variable (m : (ℓ : Loc nD τ sig) → Buf (Elt Ideal) ℓ) (c : Dev nD)

/-- The running sum of the gates' logarithms. -/
def cum (x3 : FVec Ideal S8x8x4096 .f32) : FVec Ideal S8x8x4096 .f32 :=
  Host.reduceWindowAdd ![1, 1, 4096] ![1, 1, 1] ![0, 0, 4095] ![0, 0, 0] x3
    (broadcastInDim S_ ![] bcast_S_S_ (constant S_ FTy.f32 0#32))
    reduceWindows_S8x8x4096_S8x8x4096_w1s1p0_0_w1s1p0_0_w4096s1p4095_0 h_S_

/-- A row of 64 real numbers, -/
def row (g : Fin 64 → ℝ) (d : ℕ) : EReal := if h : d < 64 then ((g ⟨d, h⟩ : ℝ) : EReal) else 0

/-- and the three pieces of one: itself, and nothing left. -/
def pieces (x : ℝ) (j : ℕ) : EReal := if j = 0 then ((x : ℝ) : EReal) else 0

/-- The product of a packed row of keys and one of queries. -/
theorem feat_real (k q : Fin 64 → ℝ) (a b : ℝ) :
    ∑ f : Fin 128, feat (row k) (fun _ => 1) (pieces b) f.val * feat (row q) (pieces a) (fun _ => 1) f.val
      = (((∑ d, k d * q d) + (a + b) : ℝ) : EReal) := by
  rw [sum_feat]
  have e1 : ∑ d : Fin 64, row k d.val * row q d.val = ((∑ d, k d * q d : ℝ) : EReal) := by
    refine Eq.trans (Finset.sum_congr rfl fun d _ => ?_) (coe_sum _ _).symm
    unfold row
    rw [dif_pos d.isLt, dif_pos d.isLt]
    exact (EReal.coe_mul _ _).symm
  have e2 : ∑ j : Fin 3, (1 : EReal) * pieces a j.val = (a : EReal) := by
    simp [Fin.sum_univ_three, pieces]
  have e3 : ∑ j : Fin 3, pieces b j.val * (1 : EReal) = (b : EReal) := by
    simp [Fin.sum_univ_three, pieces]
  rw [e1, e2, e3]
  norm_cast

theorem two : Ideal.ofBits FTy.f32 1073741824#32 = ((2 : ℝ) : EReal) := by
  simp [Ideal.ofBits, Ideal.ieee, -EReal.coe_mul]; try norm_num

theorem neg_one : Ideal.ofBits FTy.f32 3212836864#32 = ((-1 : ℝ) : EReal) := by
  simp [Ideal.ofBits, Ideal.ieee, -EReal.coe_mul]; try norm_num

theorem eighth : Ideal.ofBits FTy.f32 1040187392#32 = ((1 / 8 : ℝ) : EReal) := by
  simp [Ideal.ofBits, Ideal.ieee, -EReal.coe_mul]; norm_num

/-- A real number over the logarithm of two. -/
theorem div_log (x : ℝ) : Ideal.div ((x : ℝ) : EReal) (Ideal.log (Ideal.ofBits FTy.f32 1073741824#32)) = ((x * (1 / Real.log 2) : ℝ) : EReal) := by
  have h2 : Real.log 2 ≠ 0 := (Real.log_pos (by norm_num)).ne'
  rw [two, Ideal.log_coe, if_neg (by norm_num), Ideal.div_coe h2, ← EReal.coe_mul]

theorem feat_row (x a b : ℕ → EReal) (f : ℕ) (h : f < 64) : feat x a b f = x f := if_pos h

theorem feat_fst (x a b : ℕ → EReal) (f : ℕ) (h : ¬f < 64) (h' : f - 64 < 3) : feat x a b f = a (f - 64) :=
  (if_neg h).trans (if_pos (by omega))

theorem feat_gap (x a b : ℕ → EReal) (f : ℕ) (h : ¬f < 64) (h' : ¬f - 64 < 3) (h'' : f - 64 - 3 < 21) : feat x a b f = 0 :=
  (if_neg h).trans ((if_neg (by omega)).trans (if_pos (by omega)))

theorem feat_snd (x a b : ℕ → EReal) (f : ℕ) (h : ¬f < 64) (h' : ¬f - 64 < 3) (h'' : ¬f - 64 - 3 < 21) (h3 : f - 64 - 3 - 21 < 3) :
    feat x a b f = b (f - 88) :=
  (if_neg h).trans ((if_neg (by omega)).trans ((if_neg (by omega)).trans (if_pos (by omega))))

theorem feat_end (x a b : ℕ → EReal) (f : ℕ) (h : ¬f < 64) (h' : ¬f - 64 < 3) (h'' : ¬f - 64 - 3 < 21) (h3 : ¬f - 64 - 3 - 21 < 3) :
    feat x a b f = 0 :=
  (if_neg h).trans ((if_neg (by omega)).trans ((if_neg (by omega)).trans (if_neg (by omega))))

/-- The values, with the row of ones that counts the weights. -/
theorem values (b t : Fin 8) (r : Fin 640) (q : Fin 512) (x : FVec Ideal S8x8x4096x64 .f32) (hx : m ((c : Thread nD τ).loc main_arg2) = x) :
    V m c main_v62 (ix4 b t r q) = if h : r.val % 80 < 64 then x (ix4 b ⟨r.val / 80, by omega⟩ ⟨t.val * 512 + q.val, by omega⟩ ⟨r.val % 80, h⟩)
      else if r.val % 80 = 64 then (1 : EReal) else 0 := by
  simp only [V]
  after_reads_simp
  dsimp only [Matrix.cons_val]
  pointwise
  after_reads_simp
  pointwise
  rw [← hx]
  by_cases h : r.val % 80 < 64
  · rw [dif_pos h, dif_pos h]
  · rw [dif_neg h, dif_neg h]
    by_cases h' : r.val % 80 = 64
    · rw [if_pos h', dif_pos (by omega)]
    · rw [if_neg h', dif_neg (by omega)]

variable (x0 : FVec Ideal S8x8x4096x64 .f32) (x3 : FVec Ideal S8x8x4096 .f32) (qr kr : S8x8x4096x64.Idx → ℝ) (cr : S8x8x4096.Idx → ℝ)

set_option maxHeartbeats 4000000 in
/-- A packed row of queries. -/
theorem queries (h0 : m (c, Proc.tc.devRef main_arg0) = x0) (h3 : m (c, Proc.tc.devRef main_arg3) = x3)
    (hq : ∀ i, x0 i = ((qr i : ℝ) : EReal))
    (hc : ∀ i, cum x3 i = ((cr i : ℝ) : EReal)) (b t : Fin 8) (r : Fin 1024) (q : Fin 512)
    (s : Fin 4096) (hs : s.val = t.val * 512 + q.val) :
    V m c main_v54 (ix4 b t r q) = feat (row fun d => qr (ix4 b ⟨r.val / 128, by omega⟩ s d) * (1 / 8) * (1 / Real.log 2))
      (pieces (cr (ix3 b ⟨r.val / 128, by omega⟩ s) * (1 / Real.log 2))) (fun _ => 1) (r.val % 128) := by
  simp only [V]
  after_reads_simp
  try dsimp only [Matrix.cons_val]
  try after_reads_simp
  try dsimp only [Matrix.cons_val]
  try after_reads_simp
  try simp only [StableHlo.TRef.ofBuf, StableHlo.TRef.toBuf, cast_eq]
  pointwise
  try after_reads_simp
  try dsimp only [Matrix.cons_val]
  try after_reads_simp
  try simp only [StableHlo.TRef.ofBuf, StableHlo.TRef.toBuf, cast_eq]
  try pointwise
  try after_reads_simp
  try dsimp only [Matrix.cons_val]
  try after_reads_simp
  try simp only [StableHlo.TRef.ofBuf, StableHlo.TRef.toBuf, cast_eq]
  simp only [h0, h3]
  pointwise
  unfold cum at hc
  simp only [hc, hq, eighth, neg_one, div_log, ← EReal.coe_mul, ← EReal.coe_sub, sub_self, mul_zero, neg_one_mul, ← hs, Fin.eta]
  by_cases h1 : r.val % 128 < 64
  · rewrite [dif_pos h1]
    refine Eq.trans ?_ (feat_row _ _ _ _ h1).symm
    rw [row, dif_pos h1]
  rewrite [dif_neg h1]
  by_cases h2 : r.val % 128 - 64 < 3
  · rewrite [dif_pos h2]
    refine Eq.trans ?_ (feat_fst _ _ _ _ h1 h2).symm
    by_cases h3 : r.val % 128 - 64 < 1
    · rewrite [dif_pos h3]
      exact (if_pos (show r.val % 128 - 64 = 0 by omega)).symm
    rewrite [dif_neg h3]
    refine Eq.trans ?_ (if_neg (show ¬r.val % 128 - 64 = 0 by omega)).symm
    by_cases h4 : r.val % 128 - 64 - 1 < 1
    · rewrite [dif_pos h4]; exact EReal.coe_zero
    · rewrite [dif_neg h4]; exact EReal.coe_zero
  rewrite [dif_neg h2]
  by_cases h3 : r.val % 128 - 64 - 3 < 21
  · rewrite [dif_pos h3]
    exact (feat_gap _ _ _ _ h1 h2 h3).symm
  rewrite [dif_neg h3]
  by_cases h4 : r.val % 128 - 64 - 3 - 21 < 3
  · rewrite [dif_pos h4]
    refine Eq.trans ?_ (feat_snd _ _ _ _ h1 h2 h3 h4).symm
    exact (rfl : (1 : EReal) = 1)
  · rewrite [dif_neg h4]
    exact (feat_end _ _ _ _ h1 h2 h3 h4).symm

set_option maxHeartbeats 4000000 in
/-- A packed row of keys. -/
theorem keys (h0 : m (c, Proc.tc.devRef main_arg1) = x0) (h3 : m (c, Proc.tc.devRef main_arg3) = x3)
    (hq : ∀ i, x0 i = ((kr i : ℝ) : EReal))
    (hc : ∀ i, cum x3 i = ((cr i : ℝ) : EReal)) (b : Fin 8) (s : Fin 4096) (j : Fin 1024) :
    V m c main_v55 (ix3 b s j) = feat (row fun d => kr (ix4 b ⟨j.val / 128, by omega⟩ s d)) (fun _ => 1)
      (pieces (-(cr (ix3 b ⟨j.val / 128, by omega⟩ s) * (1 / Real.log 2)))) (j.val % 128) := by
  simp only [V]
  after_reads_simp
  try dsimp only [Matrix.cons_val]
  try after_reads_simp
  try dsimp only [Matrix.cons_val]
  try after_reads_simp
  try simp only [StableHlo.TRef.ofBuf, StableHlo.TRef.toBuf, cast_eq]
  pointwise
  try after_reads_simp
  try dsimp only [Matrix.cons_val]
  try after_reads_simp
  try simp only [StableHlo.TRef.ofBuf, StableHlo.TRef.toBuf, cast_eq]
  try pointwise
  try after_reads_simp
  try dsimp only [Matrix.cons_val]
  try after_reads_simp
  try simp only [StableHlo.TRef.ofBuf, StableHlo.TRef.toBuf, cast_eq]
  simp only [h0, h3]
  pointwise
  unfold cum at hc
  simp only [hc, hq, eighth, neg_one, div_log, ← EReal.coe_mul, ← EReal.coe_sub, sub_self, mul_zero, neg_one_mul]
  by_cases h1 : j.val % 128 < 64
  · rw [dif_pos h1]
    rw [feat, if_pos h1, row, dif_pos h1]
  rw [dif_neg h1]
  rw [feat, if_neg h1]
  by_cases h2 : j.val % 128 - 64 < 3
  · rw [dif_pos h2, if_pos (show j.val % 128 < 67 by omega)]
  rw [dif_neg h2]
  rw [if_neg (show ¬j.val % 128 < 67 by omega)]
  by_cases h3 : j.val % 128 - 64 - 3 < 21
  · rw [dif_pos h3, if_pos (show j.val % 128 < 88 by omega)]
  rw [dif_neg h3]
  rw [if_neg (show ¬j.val % 128 < 88 by omega)]
  by_cases h4 : j.val % 128 - 64 - 3 - 21 < 3
  · rw [dif_pos h4]
    rw [if_pos (show j.val % 128 < 91 by omega), pieces]
    by_cases h5 : j.val % 128 - 64 - 3 - 21 < 1
    · rw [if_pos (show j.val % 128 - 88 = 0 by omega), dif_pos h5, ← EReal.coe_mul, neg_one_mul]
    rw [if_neg (show ¬j.val % 128 - 88 = 0 by omega), dif_neg h5]
    by_cases h6 : j.val % 128 - 64 - 3 - 21 - 1 < 1
    · rw [dif_pos h6, EReal.coe_zero]
      exact mul_zero ((-1 : ℝ) : EReal)
    · rw [dif_neg h6, EReal.coe_zero]
      exact mul_zero ((-1 : ℝ) : EReal)
  · rw [dif_neg h4, if_neg (show ¬j.val % 128 < 91 by omega)]

end Cert.KernelIdeal.AttnHost
end
end
-- ==== Proof.AttnPoint.lean ====
/- A query's weights and sums as real numbers: the packed products are the scaled products plus the gates between query and key. -/
module

public import proofs.«01_k».proof.Proof.AttnHost
public import proofs.«01_k».proof.Proof.Gen.KernelIdeal.Value
public import Idealize.ShloMosaic.Lib.Pipeline.ValueKit
public import Idealize.ShloMosaic.Lib.StableHlo.RunRead

@[expose] public section

set_option backward.proofsInPublic true
set_option maxRecDepth 16384

noncomputable section

namespace Cert.KernelIdeal.AttnPoint

open Idealize.ShloMosaic Idealize.ShloMosaic.TcCoe Idealize.SL.Sem
open Cert.KernelIdeal Cert.KernelIdeal.Gen
open Cert.Attn

variable (m : (ℓ : Loc nD τ sig) → Buf (Elt Ideal) ℓ) (c : Dev nD)

variable (b t : Fin 8)

/-- The kernel's three operands as functions of whole numbers: the queries of a block, -/
def Qn (f q : ℕ) : EReal := if h : f < 1024 ∧ q < 512 then (V m c main_v54 : Vec Ideal S8x8x1024x512 .bf16) (ix4 b t ⟨f, h.1⟩ ⟨q, h.2⟩) else 0

/-- a batch's keys, -/
def Kn (s f : ℕ) : EReal := if h : s < 4096 ∧ f < 1024 then (V m c main_v55 : Vec Ideal S8x4096x1024 .bf16) (ix3 b ⟨s, h.1⟩ ⟨f, h.2⟩) else 0

/-- and its values. -/
def Vn (k r q : ℕ) : EReal :=
  if h : k < 8 ∧ r < 640 ∧ q < 512 then (V m c main_v62 : Vec Ideal S8x8x640x512 .bf16) (ix4 b ⟨k, h.1⟩ ⟨r, h.2.1⟩ ⟨q, h.2.2⟩) else 0

variable (x0 x1 x2 : FVec Ideal S8x8x4096x64 .f32) (x3 : FVec Ideal S8x8x4096 .f32) (qr kr : S8x8x4096x64.Idx → ℝ) (cr : S8x8x4096.Idx → ℝ)
  (h0 : m (c, Proc.tc.devRef main_arg0) = x0) (h1 : m (c, Proc.tc.devRef main_arg1) = x1) (h2 : m ((c : Thread nD τ).loc main_arg2) = x2)
  (h3 : m (c, Proc.tc.devRef main_arg3) = x3)
  (hq : ∀ i, x0 i = ((qr i : ℝ) : EReal)) (hk : ∀ i, x1 i = ((kr i : ℝ) : EReal)) (hc : ∀ i, AttnHost.cum x3 i = ((cr i : ℝ) : EReal))
  (h : Fin 8)

include h0 h3 hq hc in
theorem Qn_eq (f : Fin 128) (q : Fin 512) (s : Fin 4096) (hs : s.val = t.val * 512 + q.val) :
    Qn m c b t (h.val * 128 + f.val) q.val = feat (AttnHost.row fun d => qr (ix4 b h s d) * (1 / 8) * (1 / Real.log 2))
      (AttnHost.pieces (cr (ix3 b h s) * (1 / Real.log 2))) (fun _ => 1) f.val := by
  unfold Qn
  rw [dif_pos ⟨by omega, q.isLt⟩]
  refine (AttnHost.queries m c x0 x3 qr cr h0 h3 hq hc b t ⟨h.val * 128 + f.val, by omega⟩ q s hs).trans ?_
  have e : (⟨(h.val * 128 + f.val) / 128, by omega⟩ : Fin 8) = h := Fin.ext (by show (h.val * 128 + f.val) / 128 = h.val; omega)
  have e' : (h.val * 128 + f.val) % 128 = f.val := by omega
  dsimp only
  rw [e, e']

include h1 h3 hk hc in
theorem Kn_eq (f : Fin 128) (s : Fin 4096) :
    Kn m c b s.val (h.val * 128 + f.val) = feat (AttnHost.row fun d => kr (ix4 b h s d)) (fun _ => 1)
      (AttnHost.pieces (-(cr (ix3 b h s) * (1 / Real.log 2)))) f.val := by
  unfold Kn
  rw [dif_pos ⟨s.isLt, by omega⟩]
  refine (AttnHost.keys m c x1 x3 kr cr h1 h3 hk hc b s ⟨h.val * 128 + f.val, by omega⟩).trans ?_
  have e : (⟨(h.val * 128 + f.val) / 128, by omega⟩ : Fin 8) = h := Fin.ext (by show (h.val * 128 + f.val) / 128 = h.val; omega)
  have e' : (h.val * 128 + f.val) % 128 = f.val := by omega
  dsimp only
  rw [e, e']

include h2 in
theorem Vn_eq (k : Fin 8) (d : Fin 64) (q : Fin 512) (s : Fin 4096) (hs : s.val = k.val * 512 + q.val) :
    Vn m c b k.val (h.val * 80 + d.val) q.val = x2 (ix4 b h s d) := by
  unfold Vn
  rw [dif_pos ⟨k.isLt, by omega, q.isLt⟩]
  refine (AttnHost.values m c b k ⟨h.val * 80 + d.val, by omega⟩ q x2 h2).trans ?_
  rw [dif_pos (show (h.val * 80 + d.val) % 80 < 64 by omega)]
  have e : (⟨(h.val * 80 + d.val) / 80, by omega⟩ : Fin 8) = h := Fin.ext (by show (h.val * 80 + d.val) / 80 = h.val; omega)
  have e' : (⟨(h.val * 80 + d.val) % 80, by omega⟩ : Fin 64) = d := Fin.ext (by show (h.val * 80 + d.val) % 80 = d.val; omega)
  have e'' : (⟨k.val * 512 + q.val, by omega⟩ : Fin 4096) = s := Fin.ext hs.symm
  dsimp only
  rw [e, e', e'']

include h2 in
theorem Vn_one (k : Fin 8) (q : Fin 512) : Vn m c b k.val (h.val * 80 + 64) q.val = 1 := by
  unfold Vn
  rw [dif_pos ⟨k.isLt, by omega, q.isLt⟩]
  refine (AttnHost.values m c b k ⟨h.val * 80 + 64, by omega⟩ q x2 h2).trans ?_
  rw [dif_neg (show ¬(h.val * 80 + 64) % 80 < 64 by omega), if_pos (show (h.val * 80 + 64) % 80 = 64 by omega)]

include h0 h1 h3 hq hk hc in
/-- A query's weight for a key: the exponential of their scaled product and of the gates between them. -/
theorem wt_real (q : Fin 512) (u s : Fin 4096) (hu : u.val = t.val * 512 + q.val) :
    wt (Qn m c b t) (Kn m c b) h.val s.val q.val
      = ((Real.exp ((∑ e : Fin 64, qr (ix4 b h u e) * kr (ix4 b h s e)) * (1 / 8) + (cr (ix3 b h u) - cr (ix3 b h s))) : ℝ) : EReal) := by
  have e : lg (Qn m c b t) (Kn m c b) h.val s.val q.val
      = ((((∑ e : Fin 64, qr (ix4 b h u e) * kr (ix4 b h s e)) * (1 / 8) + (cr (ix3 b h u) - cr (ix3 b h s))) * (1 / Real.log 2) : ℝ) : EReal) := by
    unfold lg
    refine (Finset.sum_congr rfl fun f _ => ?_).trans ((AttnHost.feat_real (fun d => kr (ix4 b h s d))
      (fun d => qr (ix4 b h u d) * (1 / 8) * (1 / Real.log 2)) (cr (ix3 b h u) * (1 / Real.log 2)) (-(cr (ix3 b h s) * (1 / Real.log 2)))).trans ?_)
    · rw [Kn_eq m c b x1 x3 kr cr h1 h3 hk hc h f s, Qn_eq m c b t x0 x3 qr cr h0 h3 hq hc h f q u hu]
    · refine congrArg (fun x : ℝ => (x : EReal)) ?_
      have e2 : ∑ d : Fin 64, kr (ix4 b h s d) * (qr (ix4 b h u d) * (1 / 8) * (1 / Real.log 2))
          = (∑ d : Fin 64, qr (ix4 b h u d) * kr (ix4 b h s d)) * (1 / 8) * (1 / Real.log 2) := by
        rw [Finset.sum_mul, Finset.sum_mul]
        exact Finset.sum_congr rfl fun d _ => by ring
      rw [e2]
      ring
  unfold wt
  rw [e, exp2_div_log]

include h0 h1 h2 h3 hq hk hc in
/-- A query's weighted sum of the values, -/
theorem acc_value (q : Fin 512) (u : Fin 4096) (hu : u.val = t.val * 512 + q.val) (d : Fin 64) :
    acc (Qn m c b t) (Kn m c b) (Vn m c b) t.val h.val d.val q.val
      = ∑ s : Fin 4096, x2 (ix4 b h s d) * (if s.val ≤ u.val then ((Real.exp ((∑ e : Fin 64, qr (ix4 b h u e) * kr (ix4 b h s e)) * (1 / 8)
          + (cr (ix3 b h u) - cr (ix3 b h s))) : ℝ) : EReal) else 0) := by
  rw [acc_eq (Qn m c b t) (Kn m c b) (Vn m c b) t.val h.val d.val q.val t.isLt q.isLt
    (fun n => if hn : n < 4096 then x2 (ix4 b h ⟨n, hn⟩ d) else 0) (fun kt kk hkt hkk => ?_)]
  · refine Finset.sum_congr rfl fun s _ => ?_
    rw [dif_pos s.isLt, wt_real m c b t x0 x1 x3 qr kr cr h0 h1 h3 hq hk hc h q u s hu, hu]
  · rw [dif_pos (show kt * 512 + kk < 4096 by omega)]
    exact Vn_eq m c b x2 h2 h ⟨kt, hkt⟩ d ⟨kk, hkk⟩ _ rfl

include h0 h1 h2 h3 hq hk hc in
/-- and the sum of its weights. -/
theorem acc_one (q : Fin 512) (u : Fin 4096) (hu : u.val = t.val * 512 + q.val) :
    acc (Qn m c b t) (Kn m c b) (Vn m c b) t.val h.val 64 q.val
      = ∑ s : Fin 4096, 1 * (if s.val ≤ u.val then ((Real.exp ((∑ e : Fin 64, qr (ix4 b h u e) * kr (ix4 b h s e)) * (1 / 8)
          + (cr (ix3 b h u) - cr (ix3 b h s))) : ℝ) : EReal) else 0) := by
  rw [acc_eq (Qn m c b t) (Kn m c b) (Vn m c b) t.val h.val 64 q.val t.isLt q.isLt
    (fun _ => 1) (fun kt kk hkt hkk => Vn_one m c b x2 h2 h ⟨kt, hkt⟩ ⟨kk, hkk⟩)]
  refine Finset.sum_congr rfl fun s _ => ?_
  rw [wt_real m c b t x0 x1 x3 qr kr cr h0 h1 h3 hq hk hc h q u s hu, hu]

end Cert.KernelIdeal.AttnPoint
end
end
-- ==== Proof.AttnFinal.lean ====
/- The attention kernel's final array: the blocks the grid points stage, and from them the whole result. -/
module

public import proofs.«01_k».proof.Proof.AttnOut
public import proofs.«01_k».proof.Proof.AttnPoint
public import proofs.«01_k».proof.Proof.Gen.KernelIdeal.Value
public import Idealize.ShloMosaic.Lib.Pipeline.ValueKit

@[expose] public section

set_option backward.proofsInPublic true
set_option maxRecDepth 16384

noncomputable section

namespace Cert.KernelIdeal.AttnFinal

open Idealize.ShloMosaic Idealize.ShloMosaic.TcCoe Idealize.SL.Sem
open Cert.KernelIdeal Cert.KernelIdeal.Gen
open Cert.Attn Cert.KernelIdeal.AttnPoint

variable (m : (ℓ : Loc nD τ sig) → Buf (Elt Ideal) ℓ) (c : Dev nD)

theorem idx : ∀ t : Fin cfg0.N, win0_0.index t = ![t.val / 8, t.val % 8, 0, 0] ∧ win0_1.index t = ![t.val / 8, 0, 0]
    ∧ win0_2.index t = ![t.val / 8, 0, 0, 0] ∧ win0_3.index t = ![t.val / 8, t.val % 8, 0] ∧ (grid0.coords t 1).val = t.val % 8 :=
  (by decide +kernel : ∀ t : Fin grid0.N, _)

theorem lt_grid (t : Fin cfg0.N) : t.val < 64 := lt_of_lt_of_eq t.isLt (by decide +kernel)

theorem Qn_at (b i : Fin 8) (f : Fin 1024) (q : Fin 512) :
    Qn m c b i f.val q.val = (V m c main_v54 : Vec Ideal S8x8x1024x512 .bf16) (ix4 b i f q) := by
  unfold Qn
  rw [dif_pos ⟨f.isLt, q.isLt⟩]

theorem Kn_at (b : Fin 8) (s : Fin 4096) (j : Fin 1024) :
    Kn m c b s.val j.val = (V m c main_v55 : Vec Ideal S8x4096x1024 .bf16) (ix3 b s j) := by
  unfold Kn
  rw [dif_pos ⟨s.isLt, j.isLt⟩]

theorem Vn_at (b k : Fin 8) (r : Fin 640) (q : Fin 512) :
    Vn m c b k.val r.val q.val = (V m c main_v62 : Vec Ideal S8x8x640x512 .bf16) (ix4 b k r q) := by
  unfold Vn
  rw [dif_pos ⟨k.isLt, r.isLt, q.isLt⟩]

variable (t : Fin cfg0.N) (b i : Fin 8) (hb : b.val = t.val / 8) (hi : i.val = t.val % 8)

include hb hi in
theorem w0_at (A : Vec Ideal S8x8x1024x512 .bf16) (a a' : Fin 1) (f : Fin 1024) (q : Fin 512) :
    ((cfg0.win 0).blk t).view.read (Elt Ideal) A (ix4 a a' f q : S1x1x1024x512.Idx) = A (ix4 b i f q) := by
  blk_ext [idx t]

include hb in
theorem w1_at (A : Vec Ideal S8x4096x1024 .bf16) (a : Fin 1) (s : Fin 4096) (j : Fin 1024) :
    ((cfg0.win 1).blk t).view.read (Elt Ideal) A (ix3 a s j : S1x4096x1024.Idx) = A (ix3 b s j) := by
  blk_ext [idx t]

include hb in
theorem w2_at (A : Vec Ideal S8x8x640x512 .bf16) (a : Fin 1) (k : Fin 8) (r : Fin 640) (q : Fin 512) :
    ((cfg0.win 2).blk t).view.read (Elt Ideal) A (ix4 a k r q : S1x8x640x512.Idx) = A (ix4 b k r q) := by
  blk_ext [idx t]

include hb hi in
theorem b0_at (a a' : Fin 1) (f : Fin 1024) (q : Fin 512) :
    (iblk m c 0 t : Vec Ideal S1x1x1024x512 .bf16) (ix4 a a' f q) = V m c main_v54 (ix4 b i f q) := by
  exact w0_at t b i hb hi (V m c main_v54) a a' f q

include hb in
theorem b1_at (a : Fin 1) (s : Fin 4096) (j : Fin 1024) :
    (iblk m c 1 t : Vec Ideal S1x4096x1024 .bf16) (ix3 a s j) = V m c main_v55 (ix3 b s j) := by
  exact w1_at t b hb (V m c main_v55) a s j

include hb in
theorem b2_at (a : Fin 1) (k : Fin 8) (r : Fin 640) (q : Fin 512) :
    (iblk m c 2 t : Vec Ideal S1x8x640x512 .bf16) (ix4 a k r q) = V m c main_v62 (ix4 b k r q) := by
  exact w2_at t b hb (V m c main_v62) a k r q

/-- The result at a token and channel. -/
def out (b : Fin 8) (i : Fin 8) (q : Fin 512) (h : Fin 8) (d : Fin 64) : EReal :=
  Ideal.div (acc (Qn m c b i) (Kn m c b) (Vn m c b) i.val h.val d.val q.val) (acc (Qn m c b i) (Kn m c b) (Vn m c b) i.val h.val 64 q.val)

include hb hi in
/-- What a grid point leaves in its block of the result. -/
theorem point (a : Fin 1) (q k : Fin 512) :
    (outsAt0 m c t.val t.isLt : Vec Ideal S1x512x512 .bf16) (ix3 a q k) = out m c b i q ⟨k.val / 64, by omega⟩ ⟨k.val % 64, by omega⟩ := by
  have g1 : (grid0.coords t 1).val = i.val := (idx t).2.2.2.2.trans hi.symm
  have hk : k.val = (⟨k.val / 64, by omega⟩ : Fin 8).val * 64 + (⟨k.val % 64, by omega⟩ : Fin 64).val := by
    show k.val = k.val / 64 * 64 + k.val % 64
    omega
  have hQ : ∀ (a a' : Fin 1) (f : Fin 1024) (q : Fin 512), (iblk m c 0 t : Vec Ideal S1x1x1024x512 .bf16) (ix4 a a' f q) = Qn m c b i f.val q.val :=
    fun a a' f q => (b0_at m c t b i hb hi a a' f q).trans (Qn_at m c b i f q).symm
  have hK : ∀ (a : Fin 1) (s : Fin 4096) (j : Fin 1024), (iblk m c 1 t : Vec Ideal S1x4096x1024 .bf16) (ix3 a s j) = Kn m c b s.val j.val :=
    fun a s j => (b1_at m c t b hb a s j).trans (Kn_at m c b s j).symm
  have hV : ∀ (a : Fin 1) (k : Fin 8) (r : Fin 640) (q : Fin 512), (iblk m c 2 t : Vec Ideal S1x8x640x512 .bf16) (ix4 a k r q) = Vn m c b k.val r.val q.val :=
    fun a k r q => (b2_at m c t b hb a k r q).trans (Vn_at m c b k r q).symm
  unfold out
  by_cases h0 : t.val % 8 = 0
  · have e := AttnOut.outA c (grid0.coords t) (ms0_0 t) (hs0_0 t) (ms0_1 t) (hs0_1 t) (ms0_2 t) (hs0_2 t) (ms0_3 t) (hs0_3 t) scM0_0 (Memref.isWhole_whole _)
      scM0_1 (Memref.isWhole_whole _) (iblk m c 0 t) (iblk m c 1 t) (iblk m c 2 t) (Qn m c b i) (Kn m c b) (Vn m c b) hQ hK hV
      ((hcond0_0 t).mpr (by omega)) (fun h => absurd ((hcond0_1 t).mp h) (by omega)) (fun h => absurd ((hcond0_2 t).mp h) (by omega)) (fun h => absurd ((hcond0_3 t).mp h) (by omega))
      (g1.trans (hi.trans h0)) ⟨k.val / 64, by omega⟩ ⟨k.val % 64, by omega⟩ a q k hk
    rw [g1] at e
    refine Eq.trans ?_ e
    exact congrFun (outsAt0_A m c t h0 (by omega) (by omega) (by omega)) (ix3 a q k)
  by_cases h2 : t.val % 8 = 2 ∨ t.val % 8 = 4 ∨ t.val % 8 = 6
  · have e := AttnOut.outC c (grid0.coords t) (ms0_0 t) (hs0_0 t) (ms0_1 t) (hs0_1 t) (ms0_2 t) (hs0_2 t) (ms0_3 t) (hs0_3 t) scM0_0 (Memref.isWhole_whole _)
      scM0_1 (Memref.isWhole_whole _) (iblk m c 0 t) (iblk m c 1 t) (iblk m c 2 t) (Qn m c b i) (Kn m c b) (Vn m c b) hQ hK hV
      (fun h => absurd ((hcond0_0 t).mp h) (by omega)) ((hcond0_1 t).mpr (by omega)) ((hcond0_2 t).mpr (by omega)) ((hcond0_3 t).mpr (by omega))
      (by show ((grid0.coords t 1).val - 1) % 2 = 1; rw [g1, hi]; omega) (by rw [g1, hi]; omega) ⟨k.val / 64, by omega⟩ ⟨k.val % 64, by omega⟩ a q k hk
    rw [g1] at e
    refine Eq.trans ?_ e
    exact congrFun (outsAt0_C m c t h0 (by omega) h2 (by omega)) (ix3 a q k)
  · have e := AttnOut.outB c (grid0.coords t) (ms0_0 t) (hs0_0 t) (ms0_1 t) (hs0_1 t) (ms0_2 t) (hs0_2 t) (ms0_3 t) (hs0_3 t) scM0_0 (Memref.isWhole_whole _)
      scM0_1 (Memref.isWhole_whole _) (iblk m c 0 t) (iblk m c 1 t) (iblk m c 2 t) (Qn m c b i) (Kn m c b) (Vn m c b) hQ hK hV
      (fun h => absurd ((hcond0_0 t).mp h) (by omega)) ((hcond0_1 t).mpr (by omega)) (fun h => absurd ((hcond0_2 t).mp h) (by omega)) ((hcond0_3 t).mpr (by omega))
      (by show ((grid0.coords t 1).val - 1) % 2 = 0; rw [g1, hi]; omega) (by rw [g1, hi]; omega) ⟨k.val / 64, by omega⟩ ⟨k.val % 64, by omega⟩ a q k hk
    rw [g1] at e
    refine Eq.trans ?_ e
    exact congrFun (outsAt0_B m c t h0 (by omega) h2 (by omega)) (ix3 a q k)

/-- The result array after the run. -/
theorem final : (dats m 0 c).arrAt 3 (cfgs 0).N = fun j : S8x4096x512.Idx =>
    out m c (j 0) ⟨(j 1).val / 512, by have := (j 1).isLt; exact Nat.div_lt_of_lt_mul this⟩ ⟨(j 1).val % 512, Nat.mod_lt _ (by decide)⟩
      ⟨(j 2).val / 64, by have := (j 2).isLt; exact Nat.div_lt_of_lt_mul this⟩ ⟨(j 2).val % 64, Nat.mod_lt _ (by decide)⟩ := by
  refine (dats m 0 c).arrAt_eq_of_covers 3 _ (by decide +kernel) fun t _ y => ?_
  blk_simp
  rw [after0_3]
  obtain ⟨a, q, k, rfl⟩ : ∃ (a : Fin 1) (q k : Fin 512), y = (ix3 a q k : S1x512x512.Idx) := ⟨y 0, y 1, y 2, by funext d; fin_cases d <;> rfl⟩
  have ht := lt_grid t
  refine (point m c t ⟨t.val / 8, by omega⟩ ⟨t.val % 8, by omega⟩ rfl rfl a q k).trans ?_
  congr 1 <;> refine Fin.ext ?_ <;> blk_simp [idx t] <;> (try omega)
  all_goals
    dsimp only
    omega

end Cert.KernelIdeal.AttnFinal

end
-- ==== Proof.AttnRef.lean ====
/- The reference's attention, row by row: the logits are real, so the row maximum it subtracts is real, and the result is the
   average of the values under the softmax weights. -/
module

public import proofs.«01_k».proof.Proof.AttnMath
public import proofs.«01_k».proof.Proof.Gen.ReferenceIdeal.Read
public import Idealize.ShloMosaic.Lib.Pointwise
public import Idealize.ShloMosaic.Lib.WordCmp

@[expose] public section

set_option backward.proofsInPublic true
set_option maxRecDepth 16384

noncomputable section

namespace Cert.ReferenceIdeal.AttnRef

open Idealize.ShloMosaic Idealize.ShloMosaic.TcCoe Idealize.SL.Sem
open Cert.ReferenceIdeal Cert.ReferenceIdeal.Gen Cert.ReferenceIdeal.Read

theorem ninf : Ideal.ofBits .f32 0xFF800000#32 = (⊥ : EReal) := by simp [Ideal.ofBits, Ideal.ieee]

theorem eighth : Ideal.ofBits .f32 0x3E000000#32 = ((1 / 8 : ℝ) : EReal) := by
  simp [Ideal.ofBits, Ideal.ieee, -EReal.coe_mul]; norm_num

/-- A running sum of real numbers is real. -/
theorem window_real {t t' u : Shape} (W S L H : Fin t.rank → ℕ) (x : FVec Ideal t .f32) (z : u.Idx → Ideal .f32)
    (h : t.ReduceWindows W S L H t') (hu : 0 < u.numel) (hz : z (Shape.Idx.first hu) = (0 : EReal)) (hx : ∀ i, ∃ r : ℝ, x i = (r : EReal)) (i : t'.Idx) :
    ∃ r : ℝ, Host.reduceWindowAdd W S L H x z h hu i = (r : EReal) := by
  show ∃ r : ℝ, Ideal.hostReduceWindowAdd W S L H h x (z (Shape.Idx.first hu)) i = (r : EReal)
  rw [hz]
  have step : ∀ (l : List (Fin (⟨t.rank, W⟩ : Shape).numel)) (f : Fin (⟨t.rank, W⟩ : Shape).numel → EReal) (_ : ∀ n, ∃ r : ℝ, f n = (r : EReal)) (a : EReal),
      (∃ r : ℝ, a = (r : EReal)) → ∃ r : ℝ, l.foldl (fun b n => b + f n) a = (r : EReal) := by
    intro l f hf
    induction l with
    | nil => intro a ha; exact ha
    | cons n l ih =>
      intro a ha
      obtain ⟨r, rfl⟩ := ha
      obtain ⟨r', hr'⟩ := hf n
      exact ih _ ⟨r + r', by rw [EReal.coe_add, ← hr']⟩
  unfold Ideal.hostReduceWindowAdd Host.reduceWindow
  refine step _ _ (fun n => ?_) 0 ⟨0, EReal.coe_zero.symm⟩
  split
  · exact hx _
  · exact ⟨0, EReal.coe_zero.symm⟩

variable (x0 x1 x2 : FVec Ideal S8x8x4096x64 .f32) (x3 : FVec Ideal S8x8x4096 .f32)

theorem cum_real (hx : ∀ i, ∃ r : ℝ, x3 i = (r : EReal)) (i : S8x8x4096.Idx) : ∃ r : ℝ, val_main_v0 (F := Ideal) x3 i = (r : EReal) := by
  have z : val_main_call0_call0_v0 (F := Ideal) (Shape.Idx.first h_S_) = 0 := by
    pointwise [val_main_call0_call0_v0, val_main_call0_call0_cst]
  unfold val_main_v0
  exact window_real _ _ _ _ _ _ _ _ z hx i

variable (b h : Fin 8) (t s : Fin 4096)

theorem v9_at : val_main_v9 (F := Ideal) x0 x1 x3 (ix4 b h t s)
    = (∑ d : Fin 64, x0 (ix4 b h t d) * x1 (ix4 b h s d)) * Ideal.ofBits .f32 0x3E000000#32
      + (val_main_v0 (F := Ideal) x3 (ix3 b h t) - val_main_v0 (F := Ideal) x3 (ix3 b h s)) := by
  pointwise [val_main_v9, val_main_v8, val_main_v7, val_main_v6, val_main_v5, val_main_v4, val_main_v3, val_main_v2, val_main_v1, val_main_cst]

theorem sge_iff : IntOp.cmpi .sge (BitVec.ofNat 32 t.val) (BitVec.ofNat 32 s.val) = if s.val ≤ t.val then 1#1 else 0#1 := by
  have ht := t.isLt
  have hs := s.isLt
  word_cmp
  by_cases h : s.val ≤ t.val
  · rw [if_pos h, decide_eq_true h]; rfl
  · rw [if_neg h, decide_eq_false h]; rfl

theorem v17_at : val_main_v17 (F := Ideal) x0 x1 x3 (ix4 b h t s)
    = if s.val ≤ t.val then val_main_v9 (F := Ideal) x0 x1 x3 (ix4 b h t s) else ⊥ := by
  pointwise [val_main_v17, val_main_call1_v2, val_main_call1_v1, val_main_v16, val_main_v15, val_main_v14, val_main_v13,
    val_main_v12, val_main_v11, val_main_v10]
  have e : val_main_call1_v0 (F := Ideal) ix0 = (⊥ : EReal) := ninf
  rw [e, sge_iff]
  by_cases hl : s.val ≤ t.val
  · rw [if_pos hl, if_pos hl]; rfl
  · rw [if_neg hl, if_neg hl]; rfl

/-- The largest of a row of entries below infinity, one of them a real, is a real. -/
theorem max_real {t t' u : Shape} {axes : List (Fin t.rank)} (x : FVec Ideal t .f32) (z : u.Idx → EReal) (h : t.ReducesTo axes t')
    (hu : 0 < u.numel) (j : t'.Idx) (hz : z (Shape.Idx.first hu) = ⊥) (hx : ∀ i, x i ≠ ⊤) (i0 : t.Idx) (hi : h.drop i0 = j) (h0 : x i0 ≠ ⊥) :
    ∃ r : ℝ, max (⊥ : EReal) (Host.reduce (FloatOps.maximumf (F := Ideal) (φ := .f32)) x z h hu j) = (r : EReal) := by
  rw [Host.reduce_eq_fold, hz]
  have top : (Finset.univ.filter fun i => h.drop i = j).fold (FloatOps.maximumf (F := Ideal) (φ := .f32)) (⊥ : EReal) x < ⊤ :=
    (Finset.fold_max_lt _).mpr ⟨bot_lt_top, fun i _ => lt_top_iff_ne_top.mpr (hx i)⟩
  have bot : (⊥ : EReal) < (Finset.univ.filter fun i => h.drop i = j).fold (FloatOps.maximumf (F := Ideal) (φ := .f32)) (⊥ : EReal) x :=
    (Finset.lt_fold_max _).mpr (Or.inr ⟨i0, Finset.mem_filter.mpr ⟨Finset.mem_univ _, hi⟩, bot_lt_iff_ne_bot.mpr h0⟩)
  rw [max_eq_right bot.le]
  exact ⟨_, (EReal.coe_toReal top.ne bot.ne').symm⟩

theorem v20_real (hx : ∀ b h t s, val_main_v17 (F := Ideal) x0 x1 x3 (ix4 b h t s) ≠ ⊤) (h0 : val_main_v17 (F := Ideal) x0 x1 x3 (ix4 b h t t) ≠ ⊥) :
    ∃ r : ℝ, val_main_v20 (F := Ideal) x0 x1 x3 (ix3 b h t) = (r : EReal) := by
  have e : val_main_v20 (F := Ideal) x0 x1 x3 (ix3 b h t) = max (⊥ : EReal) (val_main_v18 (F := Ideal) x0 x1 x3 (ix3 b h t)) := by
    rw [val_main_v20_apply, val_main_v19_apply, val_main_cst_2_apply]
    generalize val_main_v18 (F := Ideal) x0 x1 x3 (ix3 b h t) = y
    exact congrArg (max · y) ninf
  rw [e]
  unfold val_main_v18
  refine max_real _ _ _ _ _ ninf (fun i => ?_) (ix4 b h t t) ?_ h0
  · rw [eq_ix4 i]; exact hx _ _ _ _
  · funext a
    apply Fin.ext
    match a with
    | ⟨0, _⟩ => exact Shape.ReducesTo.drop_apply_val_of_eq reducesTo_S8x8x4096x4096_S8x8x4096_d3 (ix4 b h t t) (0 : Fin 3) (0 : Fin 4)
    | ⟨1, _⟩ => exact Shape.ReducesTo.drop_apply_val_of_eq reducesTo_S8x8x4096x4096_S8x8x4096_d3 (ix4 b h t t) (1 : Fin 3) (1 : Fin 4)
    | ⟨2, _⟩ => exact Shape.ReducesTo.drop_apply_val_of_eq reducesTo_S8x8x4096x4096_S8x8x4096_d3 (ix4 b h t t) (2 : Fin 3) (2 : Fin 4)

theorem v32_at (d : Fin 64) : val_main_v32 (F := Ideal) x0 x1 x2 x3 (ix3 b t ⟨h.val * 64 + d.val, by omega⟩)
    = ∑ s : Fin 4096, Ideal.div (Ideal.exp (val_main_v17 (F := Ideal) x0 x1 x3 (ix4 b h t s) - val_main_v20 (F := Ideal) x0 x1 x3 (ix3 b h t)))
        (∑ s' : Fin 4096, Ideal.exp (val_main_v17 (F := Ideal) x0 x1 x3 (ix4 b h t s') - val_main_v20 (F := Ideal) x0 x1 x3 (ix3 b h t)))
        * x2 (ix4 b h s d) := by
  pointwise [val_main_v32, val_main_v31, val_main_v30, val_main_v29, val_main_v28, val_main_v27, val_main_v26, val_main_v25, val_main_v24, val_main_v23,
    val_main_v22, val_main_v21, val_main_cst_3]

/-- The attention's result at a token and channel, for real queries, keys and log forget gates: the softmax average of the values. -/
theorem result_at (qr kr : S8x8x4096x64.Idx → ℝ) (cr : S8x8x4096.Idx → ℝ) (hq : ∀ i, x0 i = (qr i : EReal)) (hk : ∀ i, x1 i = (kr i : EReal))
    (hc : ∀ i, val_main_v0 (F := Ideal) x3 i = (cr i : EReal)) (d : Fin 64) :
    val_main_v32 (F := Ideal) x0 x1 x2 x3 (ix3 b t ⟨h.val * 64 + d.val, by omega⟩)
      = Ideal.div (∑ s, x2 (ix4 b h s d) * (if s.val ≤ t.val then ((Real.exp ((∑ e : Fin 64, qr (ix4 b h t e) * kr (ix4 b h s e)) * (1 / 8)
          + (cr (ix3 b h t) - cr (ix3 b h s))) : ℝ) : EReal) else 0))
        (∑ s : Fin 4096, 1 * (if s.val ≤ t.val then ((Real.exp ((∑ e : Fin 64, qr (ix4 b h t e) * kr (ix4 b h s e)) * (1 / 8)
          + (cr (ix3 b h t) - cr (ix3 b h s))) : ℝ) : EReal) else 0)) := by
  have e9 : ∀ (b h : Fin 8) (t s : Fin 4096), val_main_v9 (F := Ideal) x0 x1 x3 (ix4 b h t s)
      = (((∑ e : Fin 64, qr (ix4 b h t e) * kr (ix4 b h s e)) * (1 / 8) + (cr (ix3 b h t) - cr (ix3 b h s)) : ℝ) : EReal) := by
    intro b h t s
    rw [v9_at, eighth, hc, hc, EReal.coe_add, EReal.coe_mul, EReal.coe_sub, Cert.Attn.coe_sum]
    refine congrArg (fun e => e * _ + _) (Finset.sum_congr rfl fun d _ => ?_)
    rw [hq, hk, EReal.coe_mul]
  have e17 : ∀ (b h : Fin 8) (t s : Fin 4096), val_main_v17 (F := Ideal) x0 x1 x3 (ix4 b h t s)
      = if s.val ≤ t.val then (((∑ e : Fin 64, qr (ix4 b h t e) * kr (ix4 b h s e)) * (1 / 8) + (cr (ix3 b h t) - cr (ix3 b h s)) : ℝ) : EReal) else ⊥ := by
    intro b h t s
    rw [v17_at, e9]
  obtain ⟨M, hM⟩ := v20_real x0 x1 x3 b h t
    (fun b h t s => by
      rw [e17]
      by_cases hl : s.val ≤ t.val
      · rw [if_pos hl]; exact EReal.coe_ne_top _
      · rw [if_neg hl]; exact bot_ne_top)
    (by rw [e17, if_pos (le_refl _)]; exact EReal.coe_ne_bot _)
  rw [v32_at, hM]
  simp only [e17]
  exact (Cert.Attn.softmax_row _ _ t M).symm

end Cert.ReferenceIdeal.AttnRef

end
-- ==== Proof.Finite.lean ====
/- Reading the preconditions: a conjunction over an array that holds one everywhere says so of every entry, and an entry whose
   absolute value is below infinity is a real number. -/
module

public import Idealize.ShloMosaic.Lib.Pipeline.ValueKit
public import Idealize.ShloMosaic.Lib.IdealHost

@[expose] public section

set_option backward.proofsInPublic true

noncomputable section

namespace Cert.Finite

open Idealize.ShloMosaic

instance and_comm_word : Std.Commutative (IntOp.andi (w := 1)) := ⟨BitVec.and_comm⟩
instance and_assoc_word : Std.Associative (IntOp.andi (w := 1)) := ⟨BitVec.and_assoc⟩

/-- A conjunction that is one has every member one. -/
theorem and_fold {ι : Type} [DecidableEq ι] (f : ι → BitVec 1) (z : BitVec 1) (S : Finset ι) :
    S.fold IntOp.andi z f = 1#1 → ∀ i ∈ S, f i = 1#1 := by
  have both : ∀ x y : BitVec 1, IntOp.andi x y = 1#1 → x = 1#1 ∧ y = 1#1 := by decide
  induction S using Finset.induction_on with
  | empty => intro _ i hi; simp at hi
  | insert a S ha ih =>
    rw [Finset.fold_insert ha]
    intro h i hi
    obtain ⟨h1, h2⟩ := both _ _ h
    rcases Finset.mem_insert.mp hi with rfl | hi
    · exact h1
    · exact ih h2 i hi

/-- The conjunction of a whole array: where it is one, every entry is. -/
theorem all_one {s u : Shape} {axes : List (Fin s.rank)} (t0 : Fin 0 → ℕ) (x : s.Idx → BitVec 1) (z : u.Idx → BitVec 1) (h : s.ReducesTo axes ⟨0, t0⟩) (hu : 0 < u.numel)
    (j : (⟨0, t0⟩ : Shape).Idx) (e : Host.reduce IntOp.andi x z h hu j = 1#1) (i : s.Idx) : x i = 1#1 := by
  rw [Host.reduce_eq_fold] at e
  exact and_fold x _ _ e i (Finset.mem_filter.mpr ⟨Finset.mem_univ _, funext fun a => a.elim0⟩)

/-- An extended real whose absolute value compares below infinity is a real. -/
theorem real_of_lt (x : EReal) (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  induction x using EReal.rec with
  | bot => simp [Ideal.cmp] at h
  | coe r => exact ⟨r, rfl⟩
  | top => simp [Ideal.cmp] at h

end Cert.Finite

end
-- ==== Proof.PreAttn.lean ====
/- What the precondition of the attention says: queries, keys and log forget gates are real numbers. -/
module

public import proofs.«01_k».proof.Proof.Finite
public import proofs.«01_k».proof.Proof.Gen.Pre_attn_finite

@[expose] public section

set_option backward.proofsInPublic true

noncomputable section

namespace Cert.PreAttn

open Idealize.ShloMosaic Cert.Pre_attn_finite Cert.Pre_attn_finite.Gen

variable (a0 a1 a2 : FVec Ideal S8x8x4096x64 .f32) (a3 : FVec Ideal S8x8x4096 .f32) (j0 : S_.Idx) (h : fn (F := Ideal) a0 a1 a2 a3 j0 = 1#1)

theorem both : ∀ x y : BitVec 1, IntOp.andi x y = 1#1 → x = 1#1 ∧ y = 1#1 := by decide

include h in
theorem queries_real (i : S8x8x4096x64.Idx) : ∃ r : ℝ, a0 i = (r : EReal) := by
  have q := Finite.all_one _ _ _ _ _ j0 (both _ _ (both _ _ h).1).1 i
  refine Finite.real_of_lt _ (Eq.trans ?_ q)
  rfl

include h in
theorem keys_real (i : S8x8x4096x64.Idx) : ∃ r : ℝ, a1 i = (r : EReal) := by
  have q := Finite.all_one _ _ _ _ _ j0 (both _ _ (both _ _ h).1).2 i
  refine Finite.real_of_lt _ (Eq.trans ?_ q)
  rfl

include h in
theorem gates_real (i : S8x8x4096.Idx) : ∃ r : ℝ, a3 i = (r : EReal) := by
  have q := Finite.all_one _ _ _ _ _ j0 (both _ _ h).2 i
  refine Finite.real_of_lt _ (Eq.trans ?_ q)
  rfl

end Cert.PreAttn

end
-- ==== Proof.MatchAttn.lean ====
/- The attention kernel and its reference compute the same array. -/
module

public import proofs.«01_k».proof.Defs
public import proofs.«01_k».proof.Proof.AttnFinal
public import proofs.«01_k».proof.Proof.AttnRef
public import proofs.«01_k».proof.Proof.PreAttn
public import proofs.«01_k».proof.Proof.Gen.Kernel
public import proofs.«01_k».proof.Proof.Gen.ReferenceIdeal.Run

@[expose] public section

set_option backward.proofsInPublic true
set_option maxRecDepth 16384

noncomputable section

namespace Cert.MatchAttn

open Idealize.ShloMosaic Idealize.ShloMosaic.TcCoe Idealize.SL.Sem

attribute [local instance] Cert.KernelIdeal.Gen.facts Cert.ReferenceIdeal.Gen.facts Cert.Pre_attn_finite.Gen.facts

variable (m : (ℓ : Loc KernelIdeal.nD KernelIdeal.τ KernelIdeal.sig) → Buf (Elt Ideal) ℓ) (c : Dev KernelIdeal.nD)

/-- The reference's result array is the kernel's. -/
theorem result (hpre : Pre_KernelIdeal_attn_finite m) :
    ReferenceIdeal.Read.val_main_v32 (F := Ideal) (m ((c : Thread KernelIdeal.nD KernelIdeal.τ).loc KernelIdeal.main_arg0))
        (m ((c : Thread KernelIdeal.nD KernelIdeal.τ).loc KernelIdeal.main_arg1)) (m ((c : Thread KernelIdeal.nD KernelIdeal.τ).loc KernelIdeal.main_arg2))
        (m ((c : Thread KernelIdeal.nD KernelIdeal.τ).loc KernelIdeal.main_arg3))
      = (KernelIdeal.Gen.dats m 0 c).arrAt 3 (KernelIdeal.cfgs 0).N := by
  have hp := congrFun (hpre c) (fun a => a.elim0)
  choose qr hq using PreAttn.queries_real _ _ _ _ _ hp
  choose kr hk using PreAttn.keys_real _ _ _ _ _ hp
  choose cr hc using ReferenceIdeal.AttnRef.cum_real (m ((c : Thread KernelIdeal.nD KernelIdeal.τ).loc KernelIdeal.main_arg3)) (PreAttn.gates_real _ _ _ _ _ hp)
  refine Eq.trans (funext fun j => ?_) (KernelIdeal.AttnFinal.final m c).symm
  obtain ⟨b, u, k, rfl⟩ : ∃ (b : Fin 8) (u : Fin 4096) (k : Fin 512), j = (ix3 b u k : ReferenceIdeal.S8x4096x512.Idx) :=
    ⟨j 0, j 1, j 2, by funext d; fin_cases d <;> rfl⟩
  have ek : k = ⟨(⟨k.val / 64, by omega⟩ : Fin 8).val * 64 + (⟨k.val % 64, by omega⟩ : Fin 64).val, by
      show k.val / 64 * 64 + k.val % 64 < 512; omega⟩ := Fin.ext (by show k.val = k.val / 64 * 64 + k.val % 64; omega)
  have hu : u.val = (⟨u.val / 512, by omega⟩ : Fin 8).val * 512 + (⟨u.val % 512, by omega⟩ : Fin 512).val := by
    show u.val = u.val / 512 * 512 + u.val % 512; omega
  refine (congrArg (fun k => ReferenceIdeal.Read.val_main_v32 (F := Ideal) _ _ _ _ (ix3 b u k)) ek).trans ?_
  refine (ReferenceIdeal.AttnRef.result_at _ _ _ _ b ⟨k.val / 64, by omega⟩ u qr kr cr hq hk hc ⟨k.val % 64, by omega⟩).trans ?_
  refine Eq.symm (congrArg₂ Ideal.div
    (KernelIdeal.AttnPoint.acc_value m c b ⟨u.val / 512, by omega⟩ _ _ _ _ qr kr cr rfl rfl rfl rfl hq hk hc ⟨k.val / 64, by omega⟩ ⟨u.val % 512, by omega⟩ u hu ⟨k.val % 64, by omega⟩)
    (KernelIdeal.AttnPoint.acc_one m c b ⟨u.val / 512, by omega⟩ _ _ _ _ qr kr cr rfl rfl rfl rfl hq hk hc ⟨k.val / 64, by omega⟩ ⟨u.val % 512, by omega⟩ u hu))

theorem algebraic : algebraic_KernelIdeal_ReferenceIdeal_pre_attn_finite := by
  pair_intro
  · run_from (KernelIdeal.Value.run_blocks m g)
  · refine θ_run_mono (ReferenceIdeal.Value.run m' g') ?_
    intro r h c
    obtain ⟨a0, a1, a2, a3⟩ := hagree c
    refine ⟨((h c).1.trans (ReferenceIdeal.Read.val_main_v32_eq m' c)).trans ?_, (h c).2⟩
    refine Eq.trans ?_ (result m c hpre)
    rw [← a0, ← a1, ← a2, ← a3]

/-- The reference's run leaves its arguments and every counter as the claim says. -/
theorem frame_reference : quiescent_ReferenceIdeal := fun m ρ _ =>
  (θ_run ReferenceIdeal.defs _ _).mono (fun r h => ⟨fun c => (h c).2, sem_eq_zero_of_no_sems (by decide) r.2⟩) (ReferenceIdeal.Value.run m ρ)

end Cert.MatchAttn

end
-- ==== Proof.Spec.lean ====
/- The mathematics of the layer's last call, row by row, over the extended reals: root-mean-square norm, gate,
   gated sum of the three branches through the output projection, SwiGLU, causal shifts and pooling windows.
   It names no program: the kernel's blocks and the reference's stages are both shown equal to these functions. -/
module

public import Idealize.ShloMosaic.Lib.Pipeline.ValueKit
public import Idealize.ShloMosaic.Lib.Pointwise

@[expose] public section

set_option backward.proofsInPublic true
set_option maxRecDepth 16384

noncomputable section

namespace Cert.Spec

open Idealize.ShloMosaic

/-- The RMS-normalised row `x` with gains `g`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The logistic gate. -/
def gate (x : EReal) : EReal := Ideal.div 1 (1 + Ideal.exp (-x))

/-- A row times a matrix. -/
def lin {n p : ℕ} (x : Fin n → EReal) (w : Fin n → Fin p → EReal) (e : Fin p) : EReal := ∑ k, x k * w k e

/-- The gated sum of the three branches `ya`, `yc`, `yp` of a row, its gates computed from the normalised row `h`. -/
def merge (h : Fin 1024 → EReal) (wg : Fin 1024 → Fin 3072 → EReal) (ya yc yp : Fin 1024 → EReal) (k : Fin 1024) : EReal :=
  gate (lin h wg ⟨k.val, by omega⟩) * ya k + gate (lin h wg ⟨1024 + k.val, by omega⟩) * yc k
    + gate (lin h wg ⟨2048 + k.val, by omega⟩) * yp k

/-- The row after the mixer: the residual plus the merged branches through the output projection. -/
def mix (x g : Fin 1024 → EReal) (wg : Fin 1024 → Fin 3072 → EReal) (ya yc yp : Fin 1024 → EReal)
    (wo : Fin 1024 → Fin 1024 → EReal) (e : Fin 1024) : EReal :=
  x e + lin (merge (rms x g) wg ya yc yp) wo e

/-- One hidden unit of the feed-forward part. -/
def hid (h : Fin 1024 → EReal) (w1 : Fin 1024 → Fin 5632 → EReal) (k : Fin 2816) : EReal :=
  lin h w1 ⟨k.val, by omega⟩ * gate (lin h w1 ⟨k.val, by omega⟩) * lin h w1 ⟨2816 + k.val, by omega⟩

/-- The row after the feed-forward part. -/
def ffn (x g : Fin 1024 → EReal) (w1 : Fin 1024 → Fin 5632 → EReal) (w2 : Fin 2816 → Fin 1024 → EReal) (e : Fin 1024) : EReal :=
  x e + lin (hid (rms x g) w1) w2 e

/-- A sum over the 2816 hidden units is the sum over the first 1024, the next 1024 and the last 768. -/
theorem sum_three (f : Fin 2816 → EReal) :
    ∑ k, f k = ∑ k : Fin 1024, f ⟨k.val, by omega⟩ + ∑ k : Fin 1024, f ⟨1024 + k.val, by omega⟩
      + ∑ k : Fin 768, f ⟨2048 + k.val, by omega⟩ := by
  rw [Fin.sum_univ_two_halves 2048 768 rfl f, Fin.sum_univ_two_halves 1024 1024 rfl]

/-- The feed-forward row computed over three groups of hidden units one after another. -/
theorem ffn_three (x g : Fin 1024 → EReal) (w1 : Fin 1024 → Fin 5632 → EReal) (w2 : Fin 2816 → Fin 1024 → EReal) (e : Fin 1024) :
    ffn x g w1 w2 e = x e + ∑ k : Fin 1024, hid (rms x g) w1 ⟨k.val, by omega⟩ * w2 ⟨k.val, by omega⟩ e
      + ∑ k : Fin 1024, hid (rms x g) w1 ⟨1024 + k.val, by omega⟩ * w2 ⟨1024 + k.val, by omega⟩ e
      + ∑ k : Fin 768, hid (rms x g) w1 ⟨2048 + k.val, by omega⟩ * w2 ⟨2048 + k.val, by omega⟩ e := by
  unfold ffn lin
  rw [sum_three, ← add_assoc, ← add_assoc]

/-- A sequence read `k` tokens earlier, zero before the start of its sequence of 4096 tokens. -/
def sh (f : Fin 32768 → EReal) (k : ℕ) (n : Fin 32768) : EReal :=
  if k ≤ n.val % 4096 then f ⟨n.val - k, lt_of_le_of_lt (Nat.sub_le _ _) n.isLt⟩ else 0

/-- The gated causal convolution of three taps. -/
def conv (cp : Fin 32768 → Fin 768 → EReal) (w : Fin 3 → Fin 256 → EReal) (n : Fin 32768) (j : Fin 256) : EReal :=
  cp n ⟨256 + j.val, by omega⟩ *
    (w 2 j * sh (fun q => cp q ⟨j.val, by omega⟩) 0 n + w 1 j * sh (fun q => cp q ⟨j.val, by omega⟩) 1 n
      + w 0 j * sh (fun q => cp q ⟨j.val, by omega⟩) 2 n)

/-- The length of the window of pooling channel `j`: 2, 4, 8 or 16. -/
def win (j : Fin 256) : ℕ := 2 * 2 ^ (j.val / 64)

/-- The sum of the last `w` tokens of a sequence (fewer at its start). -/
def wsum (f : Fin 32768 → EReal) (w : ℕ) (n : Fin 32768) : EReal := ∑ i ∈ Finset.range w, sh f i n

/-- The number of tokens the window of length `w` holds at token `n`. -/
def cnt (w : ℕ) (n : Fin 32768) : EReal := ((((min (n.val % 4096 + 1) w : ℕ) : ℝ)) : EReal)

/-- The pooled channel: the mean over its window less the token itself. -/
def poolMean (cp : Fin 32768 → Fin 768 → EReal) (n : Fin 32768) (j : Fin 256) : EReal :=
  Ideal.div (wsum (fun q => cp q ⟨512 + j.val, by omega⟩) (win j) n) (cnt (win j) n) - cp n ⟨512 + j.val, by omega⟩

/-- The pooled branch of one row: each of the four groups of 64 channels through its own matrix, then the gains. -/
def poolOut (d : Fin 256 → EReal) (w : Fin 4 → Fin 64 → Fin 256 → EReal) (s : Fin 1024 → EReal) (e : Fin 1024) : EReal :=
  (∑ c : Fin 64, d ⟨e.val / 256 * 64 + c.val, by omega⟩ * w ⟨e.val / 256, by omega⟩ c ⟨e.val % 256, by omega⟩) * s e

/-- Row `r` of the `a`-th block of 512 tokens is a token. -/
theorem row_lt {a : ℕ} (ha : a < 64) (r : Fin 512) : 512 * a + r.val < 32768 := by omega

/-- Gate column `k` is a column of the input projection. -/
theorem gate_lt (k : Fin 3072) : 2568 + k.val < 5640 := by omega

/-- Row `r` of the 16 tokens before the `a`-th block is a token. -/
theorem halo_lt {a : ℕ} (ha : a < 64) (r : Fin 16) : 512 * a - 16 + r.val < 32768 := by omega

/-- The pooled branch's weights as one block-diagonal matrix. -/
def pblock (w : Fin 4 → Fin 64 → Fin 256 → EReal) (j : Fin 256) (e : Fin 1024) : EReal :=
  if j.val / 64 = e.val / 256 then w ⟨j.val / 64, by omega⟩ ⟨j.val % 64, by omega⟩ ⟨e.val % 256, by omega⟩ else 0

/-- The block-diagonal form of the pooled branch's product: the entries outside a group's own block are zero. -/
theorem sum_group (d : Fin 256 → EReal) (w : Fin 4 → Fin 64 → Fin 256 → EReal) (e : Fin 1024) :
    ∑ j : Fin 256, d j * pblock w j e
      = ∑ c : Fin 64, d ⟨e.val / 256 * 64 + c.val, by omega⟩ * w ⟨e.val / 256, by omega⟩ c ⟨e.val % 256, by omega⟩ := by
  rw [Fin.sum_univ_tiles 4 64 rfl (fun j : Fin 256 => d j * pblock w j e),
    Finset.sum_eq_single (⟨e.val / 256, by omega⟩ : Fin 4)]
  · refine Finset.sum_congr rfl fun c _ => ?_
    have hc := c.isLt
    have q : (e.val / 256 * 64 + c.val) / 64 = e.val / 256 := by omega
    have q' : (e.val / 256 * 64 + c.val) % 64 = c.val := by omega
    dsimp only [pblock]
    rw [if_pos q]
    simp only [q, q']
  · intro g _ hg
    refine Finset.sum_eq_zero fun c _ => ?_
    have hc := c.isLt
    dsimp only [pblock]
    rw [if_neg, mul_zero]
    intro q
    exact hg (Fin.ext (by show g.val = e.val / 256; omega))
  · intro hg
    exact absurd (Finset.mem_univ _) hg

/-- The whole call at one token: the mixer row from the attention row, the convolution and pooling of the packed
    inputs, then the feed-forward row. -/
def layer (X : Fin 32768 → Fin 1024 → EReal) (A : Fin 32768 → Fin 512 → EReal) (CP : Fin 32768 → Fin 768 → EReal)
    (G1 : Fin 1024 → EReal) (WG : Fin 1024 → Fin 3072 → EReal) (WA : Fin 512 → Fin 1024 → EReal) (CW : Fin 3 → Fin 256 → EReal)
    (WC : Fin 256 → Fin 1024 → EReal) (PW : Fin 4 → Fin 64 → Fin 256 → EReal) (PS : Fin 1024 → EReal)
    (WO : Fin 1024 → Fin 1024 → EReal) (G2 : Fin 1024 → EReal) (W1 : Fin 1024 → Fin 5632 → EReal) (W2 : Fin 2816 → Fin 1024 → EReal)
    (n : Fin 32768) (e : Fin 1024) : EReal :=
  ffn (mix (X n) G1 WG (lin (A n) WA) (lin (conv CP CW n) WC) (poolOut (poolMean CP n) PW PS) WO) G2 W1 W2 e

end Cert.Spec

end
-- ==== Proof.KRow.lean ====
/- What the kernel's payload functions compute at one row, over variable blocks: the norm, the mixer row and the
   feed-forward row of `Spec`. -/
module

public import proofs.«01_k».proof.Proof.Gen.Kernel2Ideal.Frame
public import proofs.«01_k».proof.Proof.Spec

@[expose] public section

set_option backward.proofsInPublic true
set_option maxRecDepth 16384

noncomputable section

namespace Cert.Kernel2Ideal.KRow

open Idealize.ShloMosaic Idealize.ShloMosaic.TcCoe Idealize.SL.Sem
open Cert.Kernel2Ideal Cert.Kernel2Ideal.Gen
open Cert.Spec

/-- The normalised rows of the first half of a block. -/
theorem pay18_at (v : Vec Ideal S256x1024 .f32) (g : Vec Ideal S1x1x1024 .f32) (r : Fin 256) (d : Fin 1024) :
    k0_pay18 (F := Ideal) v g (ix2 r d) = rms (fun k => v (ix2 r k)) (fun k => g (ix3 0 0 k)) d := by
  pointwise! [k0_pay18, rms]

/-- The normalised rows of the second half of a block. -/
theorem pay22_at (v : Vec Ideal S256x1024 .f32) (g : Vec Ideal S1x1x1024 .f32) (r : Fin 256) (d : Fin 1024) :
    k0_pay22 (F := Ideal) v g (ix2 r d) = rms (fun k => v (ix2 r k)) (fun k => g (ix3 0 0 k)) d := by
  pointwise! [k0_pay22, rms]

/-- The normalised mixer rows of the first half of a block. -/
theorem pay27_at (v : FVec Ideal S256x1024 .f32) (g : Vec Ideal S1x1x1024 .f32) (r : Fin 256) (d : Fin 1024) :
    k0_pay27 (F := Ideal) v g (ix2 r d) = rms (fun k => v (ix2 r k)) (fun k => g (ix3 0 0 k)) d := by
  pointwise! [k0_pay27, rms]

/-- The normalised mixer rows of the second half of a block. -/
theorem pay32_at (v : FVec Ideal S256x1024 .f32) (g : Vec Ideal S1x1x1024 .f32) (r : Fin 256) (d : Fin 1024) :
    k0_pay32 (F := Ideal) v g (ix2 r d) = rms (fun k => v (ix2 r k)) (fun k => g (ix3 0 0 k)) d := by
  pointwise! [k0_pay32, rms]

/-- The first half's mixer rows: the payload over its loads is `Spec.mix` of the row, given what the loaded
    weights are and what the three branches' sums are. -/
theorem mixA (x : Vec Ideal S256x1024 .f32) (a : Vec Ideal S256x512 .bf16) (u : FVec Ideal S512x256 .bf16) (d : FVec Ideal S256x256 .bf16)
    (g ps : Vec Ideal S1x1x1024 .f32) (wa : Vec Ideal S1x512x1024 .bf16) (wc wp : Vec Ideal S1x256x1024 .bf16)
    (w0 w1 w2 wo : Vec Ideal S1x1024x1024 .bf16)
    (r : Fin 256) (X G : Fin 1024 → EReal) (W : Fin 1024 → Fin 3072 → EReal) (ya yc yp : Fin 1024 → EReal) (WO : Fin 1024 → Fin 1024 → EReal)
    (hx : ∀ k, x (ix2 r k) = X k) (hg : ∀ k, g (ix3 0 0 k) = G k)
    (h0 : ∀ j (k : Fin 1024), w0 (ix3 0 j k) = W j ⟨k.val, by omega⟩)
    (h1 : ∀ j (k : Fin 1024), w1 (ix3 0 j k) = W j ⟨1024 + k.val, by omega⟩)
    (h2 : ∀ j (k : Fin 1024), w2 (ix3 0 j k) = W j ⟨2048 + k.val, by omega⟩)
    (ha : ∀ k, ∑ j : Fin 512, a (ix2 r j) * wa (ix3 0 j k) = ya k)
    (hc : ∀ k, ∑ j : Fin 256, u (ix2 ⟨r.val, by omega⟩ j) * wc (ix3 0 j k) = yc k)
    (hp : ∀ k, (∑ j : Fin 256, d (ix2 r j) * wp (ix3 0 j k)) * ps (ix3 0 0 k) = yp k)
    (ho : ∀ j k, wo (ix3 0 j k) = WO j k) (e : Fin 1024) :
    k0_pay21 (F := Ideal) x (k0_pay16 u) d (k0_pay18 x g) (k0_pay19 a wa) (k0_pay20 wc) wp ps w0 w1 w2 wo (ix2 r e)
      = mix X G W ya yc yp WO e := by
  have hX : (fun k => x (ix2 r k)) = X := funext hx
  have hG : (fun k => g (ix3 0 0 k)) = G := funext hg
  pointwise [k0_pay21, k0_pay16, k0_pay19, k0_pay20, mix, merge, lin, gate, pay18_at, hX, hG, hx, h0, h1, h2, ha, hc, hp, ho]
  rfl

/-- The second half's mixer rows, likewise. -/
theorem mixB (x : Vec Ideal S256x1024 .f32) (a : Vec Ideal S256x512 .bf16) (u d : FVec Ideal S512x256 .bf16)
    (g ps : Vec Ideal S1x1x1024 .f32) (wa : Vec Ideal S1x512x1024 .bf16) (wc wp : Vec Ideal S1x256x1024 .bf16)
    (w0 w1 w2 wo : Vec Ideal S1x1024x1024 .bf16)
    (r : Fin 256) (X G : Fin 1024 → EReal) (W : Fin 1024 → Fin 3072 → EReal) (ya yc yp : Fin 1024 → EReal) (WO : Fin 1024 → Fin 1024 → EReal)
    (hx : ∀ k, x (ix2 r k) = X k) (hg : ∀ k, g (ix3 0 0 k) = G k)
    (h0 : ∀ j (k : Fin 1024), w0 (ix3 0 j k) = W j ⟨k.val, by omega⟩)
    (h1 : ∀ j (k : Fin 1024), w1 (ix3 0 j k) = W j ⟨1024 + k.val, by omega⟩)
    (h2 : ∀ j (k : Fin 1024), w2 (ix3 0 j k) = W j ⟨2048 + k.val, by omega⟩)
    (ha : ∀ k, ∑ j : Fin 512, a (ix2 r j) * wa (ix3 0 j k) = ya k)
    (hc : ∀ k, ∑ j : Fin 256, u (ix2 ⟨256 + r.val, by omega⟩ j) * wc (ix3 0 j k) = yc k)
    (hp : ∀ k, (∑ j : Fin 256, d (ix2 ⟨256 + r.val, by omega⟩ j) * wp (ix3 0 j k)) * ps (ix3 0 0 k) = yp k)
    (ho : ∀ j k, wo (ix3 0 j k) = WO j k) (e : Fin 1024) :
    k0_pay26 (F := Ideal) x (k0_pay22 x g) (k0_pay23 u wc) (k0_pay24 d wp ps) (k0_pay25 x a g wa w0) w1 w2 wo (ix2 r e)
      = mix X G W ya yc yp WO e := by
  have hX : (fun k => x (ix2 r k)) = X := funext hx
  have hG : (fun k => g (ix3 0 0 k)) = G := funext hg
  pointwise [k0_pay26, k0_pay23, k0_pay24, k0_pay25, mix, merge, lin, gate, pay22_at, hX, hG, hx, h0, h1, h2, ha, hc, hp, ho]
  rfl

/-- The first half's feed-forward rows. -/
theorem ffnA (x : FVec Ideal S256x1024 .f32) (g : Vec Ideal S1x1x1024 .f32)
    (a0 b0 c0 a1 b1 c1 : Vec Ideal S1x1024x1024 .bf16) (a2 b2 : Vec Ideal S1x1024x768 .bf16) (c2 : Vec Ideal S1x768x1024 .bf16)
    (r : Fin 256) (X G : Fin 1024 → EReal) (W1 : Fin 1024 → Fin 5632 → EReal) (W2 : Fin 2816 → Fin 1024 → EReal)
    (hx : ∀ k, x (ix2 r k) = X k) (hg : ∀ k, g (ix3 0 0 k) = G k)
    (ha0 : ∀ j (k : Fin 1024), a0 (ix3 0 j k) = W1 j ⟨k.val, by omega⟩)
    (hb0 : ∀ j (k : Fin 1024), b0 (ix3 0 j k) = W1 j ⟨2816 + k.val, by omega⟩)
    (hc0 : ∀ (j : Fin 1024) k, c0 (ix3 0 j k) = W2 ⟨j.val, by omega⟩ k)
    (ha1 : ∀ j (k : Fin 1024), a1 (ix3 0 j k) = W1 j ⟨1024 + k.val, by omega⟩)
    (hb1 : ∀ j (k : Fin 1024), b1 (ix3 0 j k) = W1 j ⟨2816 + (1024 + k.val), by omega⟩)
    (hc1 : ∀ (j : Fin 1024) k, c1 (ix3 0 j k) = W2 ⟨1024 + j.val, by omega⟩ k)
    (ha2 : ∀ j (k : Fin 768), a2 (ix3 0 j k) = W1 j ⟨2048 + k.val, by omega⟩)
    (hb2 : ∀ j (k : Fin 768), b2 (ix3 0 j k) = W1 j ⟨2816 + (2048 + k.val), by omega⟩)
    (hc2 : ∀ (j : Fin 768) k, c2 (ix3 0 j k) = W2 ⟨2048 + j.val, by omega⟩ k) (e : Fin 1024) :
    k0_pay31 (F := Ideal) (k0_pay29 x (k0_pay27 x g) (k0_pay28 x g a0) b0 c0 a1 b1 c1) (k0_pay30 (k0_pay27 x g) a2 b2) c2 (ix2 r e)
      = ffn X G W1 W2 e := by
  have hX : (fun k => x (ix2 r k)) = X := funext hx
  have hG : (fun k => g (ix3 0 0 k)) = G := funext hg
  rw [ffn_three]
  pointwise [k0_pay31, k0_pay30, k0_pay29, k0_pay28, hid, lin, gate, pay27_at, hX, hG, hx, ha0, hb0, hc0, ha1, hb1, hc1, ha2, hb2, hc2]
  rfl

/-- The second half's feed-forward rows. -/
theorem ffnB (x : FVec Ideal S256x1024 .f32) (g : Vec Ideal S1x1x1024 .f32)
    (a0 b0 c0 a1 b1 c1 : Vec Ideal S1x1024x1024 .bf16) (a2 b2 : Vec Ideal S1x1024x768 .bf16) (c2 : Vec Ideal S1x768x1024 .bf16)
    (r : Fin 256) (X G : Fin 1024 → EReal) (W1 : Fin 1024 → Fin 5632 → EReal) (W2 : Fin 2816 → Fin 1024 → EReal)
    (hx : ∀ k, x (ix2 r k) = X k) (hg : ∀ k, g (ix3 0 0 k) = G k)
    (ha0 : ∀ j (k : Fin 1024), a0 (ix3 0 j k) = W1 j ⟨k.val, by omega⟩)
    (hb0 : ∀ j (k : Fin 1024), b0 (ix3 0 j k) = W1 j ⟨2816 + k.val, by omega⟩)
    (hc0 : ∀ (j : Fin 1024) k, c0 (ix3 0 j k) = W2 ⟨j.val, by omega⟩ k)
    (ha1 : ∀ j (k : Fin 1024), a1 (ix3 0 j k) = W1 j ⟨1024 + k.val, by omega⟩)
    (hb1 : ∀ j (k : Fin 1024), b1 (ix3 0 j k) = W1 j ⟨2816 + (1024 + k.val), by omega⟩)
    (hc1 : ∀ (j : Fin 1024) k, c1 (ix3 0 j k) = W2 ⟨1024 + j.val, by omega⟩ k)
    (ha2 : ∀ j (k : Fin 768), a2 (ix3 0 j k) = W1 j ⟨2048 + k.val, by omega⟩)
    (hb2 : ∀ j (k : Fin 768), b2 (ix3 0 j k) = W1 j ⟨2816 + (2048 + k.val), by omega⟩)
    (hc2 : ∀ (j : Fin 768) k, c2 (ix3 0 j k) = W2 ⟨2048 + j.val, by omega⟩ k) (e : Fin 1024) :
    k0_pay34 (F := Ideal) (k0_pay32 x g) (k0_pay33 x g a0 b0 c0) a1 b1 c1 a2 b2 c2 (ix2 r e)
      = ffn X G W1 W2 e := by
  have hX : (fun k => x (ix2 r k)) = X := funext hx
  have hG : (fun k => g (ix3 0 0 k)) = G := funext hg
  rw [ffn_three]
  pointwise [k0_pay34, k0_pay33, hid, lin, gate, pay32_at, hX, hG, hx, ha0, hb0, hc0, ha1, hb1, hc1, ha2, hb2, hc2]
  rfl

end Cert.Kernel2Ideal.KRow

end
-- ==== Proof.KBranch.lean ====
/- The convolution and pooling branches at one row of a block: the rows before the block come from the 16-row halo,
   which is multiplied by zero at the start of a sequence. -/
module

public import proofs.«01_k».proof.Proof.Gen.Kernel2Ideal.Frame
public import proofs.«01_k».proof.Proof.Spec

@[expose] public section

set_option backward.proofsInPublic true
set_option maxRecDepth 16384

noncomputable section

namespace Cert.Kernel2Ideal.KBranch

open Idealize.ShloMosaic Idealize.ShloMosaic.TcCoe Idealize.SL.Sem
open Cert.Kernel2Ideal Cert.Kernel2Ideal.Gen
open Cert.Spec

/-- The kernel's word for the block's place in its sequence of eight blocks. -/
def posWord (a : ℕ) : BitVec 32 :=
  (Scalar.select (Scalar.andi (Scalar.xori (Scalar.cmpi .slt (Scalar.remsi (BitVec.ofNat 32 a) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 a) (Scalar.select (Scalar.cmpi .eq 8#32 0#32) 1#32 8#32)) 0#32)) (Scalar.addi (Scalar.remsi (BitVec.ofNat 32 a) (Scalar.select (Scalar.cmpi .eq 8#32 0#32) 1#32 8#32)) (Scalar.select (Scalar.cmpi .eq 8#32 0#32) 1#32 8#32)) (Scalar.remsi (BitVec.ofNat 32 a) (Scalar.select (Scalar.cmpi .eq 8#32 0#32) 1#32 8#32)))

/-- It is the block number modulo eight. -/
theorem posWord_eq : ∀ a : Fin 64, posWord a.val = BitVec.ofNat 32 (a.val % 8) := by
  unfold posWord
  decide +kernel

/-- Whether the block starts a sequence. -/
theorem first_bit : ∀ a : Fin 64, Scalar.cmpi .eq (posWord a.val) 0#32 = if a.val % 8 = 0 then 1#1 else 0#1 := by
  unfold posWord
  decide +kernel

/-- The group of channel `j`, as the kernel's integer arithmetic finds it. -/
theorem group_word (r : Fin 512) (j : Fin 256) : k0_pay9 (ix2 r j) = BitVec.ofNat 32 (j.val / 64) := by
  pointwise [k0_pay9]
  revert j
  decide +kernel

/-- A row of the halo followed by the block, `s` rows above row `r` of the block, is the sequence `s` tokens
    before: the block's own row, the halo's, or zero before the sequence starts. -/
theorem row_back (a : ℕ) (ha : a < 64) (f : Fin 32768 → EReal) (hb : Fin 512 → EReal) (hh : Fin 16 → EReal)
    (blk : ∀ q : Fin 512, hb q = f ⟨512 * a + q.val, by omega⟩)
    (halo : ∀ h : a % 8 ≠ 0, ∀ q : Fin 16, hh q = f ⟨512 * a - 16 + q.val, by omega⟩)
    (r : Fin 512) (s : ℕ) (hs : s ≤ 16) (e : ℕ) (he : e = 16 + r.val - s) (he' : e < 528) :
    (if h : e < 16 then Scalar.select (Scalar.cmpi .eq (posWord a) 0#32) 0 (hh ⟨e, h⟩) else hb ⟨e - 16, by omega⟩ : EReal)
      = sh f s ⟨512 * a + r.val, by omega⟩ := by
  rw [first_bit ⟨a, ha⟩]
  unfold sh
  have hr := r.isLt
  by_cases h : e < 16
  · rw [dif_pos h]
    by_cases h0 : a % 8 = 0
    · rw [if_pos (by exact h0), if_neg (by show ¬ s ≤ (512 * a + r.val) % 4096; omega)]
      rfl
    · rw [if_neg (by exact h0), if_pos (by show s ≤ (512 * a + r.val) % 4096; omega)]
      refine (halo h0 _).trans (congrArg f (Fin.ext ?_))
      show 512 * a - 16 + e = 512 * a + r.val - s
      omega
  · rw [dif_neg h, if_pos (by show s ≤ (512 * a + r.val) % 4096; omega)]
    refine (blk _).trans (congrArg f (Fin.ext ?_))
    show 512 * a + (e - 16) = 512 * a + r.val - s
    omega

/-- The number of tokens in the window, as the kernel's integer arithmetic finds it. -/
theorem count_word (a : ℕ) (ha : a < 64) (r : Fin 512) (g : ℕ) (hg : g < 4) :
    (FloatOps.sitofp (F := Ideal) FTy.f32 (IntOp.minsi (IntOp.addi (IntOp.addi (Scalar.muli (posWord a) 512#32) (BitVec.ofNat 32 r.val)) 1#32)
            (IntOp.shli ArithUnit.vector (2#32) (BitVec.ofNat 32 g))) : EReal)
      = cnt (2 * 2 ^ g) ⟨512 * a + r.val, by omega⟩ := by
  have hr := r.isLt
  rw [posWord_eq ⟨a, ha⟩]
  have hw : IntOp.shli ArithUnit.vector (2#32) (BitVec.ofNat 32 g) = BitVec.ofNat 32 (2 * 2 ^ g) := by
    interval_cases g <;> decide
  have hx : IntOp.addi (IntOp.addi (Scalar.muli (BitVec.ofNat 32 (a % 8)) 512#32) (BitVec.ofNat 32 r.val)) 1#32
      = BitVec.ofNat 32 (a % 8 * 512 + r.val + 1) := by
    rw [BitVec.ofNat_add, BitVec.ofNat_add, BitVec.ofNat_mul]
    rfl
  have hm : ∀ x y : ℕ, x < 2 ^ 31 → y < 2 ^ 31 → (IntOp.minsi (BitVec.ofNat 32 x) (BitVec.ofNat 32 y)).toInt = ((min x y : ℕ) : ℤ) := by
    intro x y hx hy
    have ex : (BitVec.ofNat 32 x).toInt = x := by rw [BitVec.toInt_ofNat']; simp only [Int.bmod_def]; omega
    have ey : (BitVec.ofNat 32 y).toInt = y := by rw [BitVec.toInt_ofNat']; simp only [Int.bmod_def]; omega
    unfold IntOp.minsi
    rw [BitVec.slt, ex, ey]
    by_cases h : (x : ℤ) < y
    · rw [if_pos (by simpa using h), ex]; omega
    · rw [if_neg (by simpa using h), ey]; omega
  have h2 : 2 * 2 ^ g ≤ 16 := by interval_cases g <;> decide
  rw [hw, hx]
  show (((IntOp.minsi _ _).toInt : ℝ) : EReal) = cnt _ _
  rw [hm _ _ (by omega) (by omega)]
  unfold cnt
  rw [show (512 * a + r.val) % 4096 + 1 = a % 8 * 512 + r.val + 1 by omega]
  rfl

variable (i : grid0.Coords) (a : ℕ) (ha : a < 64) (hi : (i 0).val = a) (cp : Fin 32768 → Fin 768 → EReal)
  (h : Vec Ideal S16x768 .bf16) (b : Vec Ideal S512x768 .bf16)
  (blk : ∀ (q : Fin 512) k, b (ix2 q k) = cp ⟨512 * a + q.val, row_lt ha q⟩ k)
  (halo : ∀ _ : a % 8 ≠ 0, ∀ (q : Fin 16) k, h (ix2 q k) = cp ⟨512 * a - 16 + q.val, halo_lt ha q⟩ k)

include ha hi blk halo

/-- The pooling channels with their halo, `s` rows above row `r`. -/
theorem pay3_at (r : Fin 512) (j : Fin 256) (s : ℕ) (hs : s ≤ 16) (e : Fin 528) (he : e.val = 16 + r.val - s) :
    k0_pay3 (F := Ideal) i h b (ix2 e j) = sh (fun q => cp q ⟨512 + j.val, by omega⟩) s ⟨512 * a + r.val, by omega⟩ := by
  pointwise [k0_pay3, k0_pay1, k0_pay2, hi]
  exact row_back a ha _ (fun q => b (ix2 q ⟨512 + j.val, by omega⟩)) (fun q => h (ix2 q ⟨512 + j.val, by omega⟩))
    (fun q => blk q _) (fun h0 q => halo h0 q _) r s hs e.val he e.isLt

/-- The convolution branch at row `r`. -/
theorem pay6_at (w : Vec Ideal S1x8x256 .f32) (cw : Fin 3 → Fin 256 → EReal)
    (hw : ∀ (q : Fin 3) j, w (ix3 0 (q.castLE (by decide)) j) = cw q j) (r : Fin 512) (j : Fin 256) :
    k0_pay6 (F := Ideal) (k0_pay4 b) (k0_pay5 i h b w) (ix2 r j) = conv cp cw ⟨512 * a + r.val, by omega⟩ j := by
  have hr := r.isLt
  have e0 := row_back a ha (fun q => cp q ⟨j.val, by omega⟩) (fun q => b (ix2 q ⟨j.val, by omega⟩)) (fun q => h (ix2 q ⟨j.val, by omega⟩))
    (fun q => blk q _) (fun h0 q => halo h0 q _) r 0 (by omega) (16 + r.val) (by omega) (by omega)
  have e1 := row_back a ha (fun q => cp q ⟨j.val, by omega⟩) (fun q => b (ix2 q ⟨j.val, by omega⟩)) (fun q => h (ix2 q ⟨j.val, by omega⟩))
    (fun q => blk q _) (fun h0 q => halo h0 q _) r 1 (by omega) ((16 + r.val + 528 - 1) % 528) (by omega) (by omega)
  have e2 := row_back a ha (fun q => cp q ⟨j.val, by omega⟩) (fun q => b (ix2 q ⟨j.val, by omega⟩)) (fun q => h (ix2 q ⟨j.val, by omega⟩))
    (fun q => blk q _) (fun h0 q => halo h0 q _) r 2 (by omega) ((16 + r.val + 528 - 2) % 528) (by omega) (by omega)
  have w0 : w (ix3 0 0 j) = cw 0 j := hw 0 j
  have w1 : w (ix3 0 1 j) = cw 1 j := hw 1 j
  have w2 : w (ix3 0 2 j) = cw 2 j := hw 2 j
  rw [dif_neg (by omega)] at e0
  simp only [Nat.add_sub_cancel_left] at e0
  pointwise [k0_pay6, k0_pay4, k0_pay5, k0_pay1, k0_pay2, hi, conv, w0, w1, w2]
  refine Ideal.mul_congr (blk r _) (Ideal.add_congr (Ideal.add_congr (congrArg _ e0) (congrArg _ e1)) (congrArg _ e2))

/-- The two-token window sum, `s` rows above row `r`. -/
theorem pay7_at (r : Fin 512) (j : Fin 256) (s : ℕ) (hs : s ≤ 14) (e : Fin 528) (he : e.val = 16 + r.val - s) :
    k0_pay7 (F := Ideal) (k0_pay3 i h b) (ix2 e j)
      = ∑ p ∈ Finset.range 2, sh (fun q => cp q ⟨512 + j.val, by omega⟩) (s + p) ⟨512 * a + r.val, by omega⟩ := by
  have hr := r.isLt
  rw [Finset.sum_range_succ, Finset.sum_range_one]
  pointwise [k0_pay7]
  exact Ideal.add_congr (pay3_at i a ha hi cp h b blk halo r j s (by omega) e he)
    (pay3_at i a ha hi cp h b blk halo r j (s + 1) (by omega) _ (by show (e.val + 528 - 1) % 528 = _; omega))

/-- The four-token window sum, `s` rows above row `r`. -/
theorem pay8_at (r : Fin 512) (j : Fin 256) (s : ℕ) (hs : s ≤ 12) (e : Fin 528) (he : e.val = 16 + r.val - s) :
    k0_pay8 (F := Ideal) (k0_pay3 i h b) (ix2 e j)
      = ∑ p ∈ Finset.range 4, sh (fun q => cp q ⟨512 + j.val, by omega⟩) (s + p) ⟨512 * a + r.val, by omega⟩ := by
  have hr := r.isLt
  rw [show (4 : ℕ) = 2 + 2 from rfl, Finset.sum_range_add]
  simp only [← Nat.add_assoc]
  pointwise [k0_pay8]
  exact Ideal.add_congr (pay7_at i a ha hi cp h b blk halo r j s (by omega) e he)
    (pay7_at i a ha hi cp h b blk halo r j (s + 2) (by omega) _ (by show (e.val + 528 - 2) % 528 = _; omega))

/-- The eight- and sixteen-token windows of groups 2 and 3. -/
theorem pay14_at (r : Fin 512) (j : Fin 256) (h2 : 2 ≤ j.val / 64) :
    k0_pay14 (F := Ideal) (k0_pay3 i h b) (ix2 r j)
      = wsum (fun q => cp q ⟨512 + j.val, by omega⟩) (win j) ⟨512 * a + r.val, by omega⟩ := by
  have hr := r.isLt
  have A := pay8_at i a ha hi cp h b blk halo r j 0 (by omega) ⟨16 + r.val, by omega⟩ rfl
  have B := pay8_at i a ha hi cp h b blk halo r j 4 (by omega) ⟨(16 + r.val + 528 - 4) % 528, by omega⟩ (by show (16 + r.val + 528 - 4) % 528 = _; omega)
  have C := pay8_at i a ha hi cp h b blk halo r j 8 (by omega) ⟨(16 + r.val + 528 - 8) % 528, by omega⟩ (by show (16 + r.val + 528 - 8) % 528 = _; omega)
  have D := pay8_at i a ha hi cp h b blk halo r j 12 (by omega) ⟨((16 + r.val + 528 - 8) % 528 + 528 - 4) % 528, by omega⟩
    (by show ((16 + r.val + 528 - 8) % 528 + 528 - 4) % 528 = _; omega)
  have hj := j.isLt
  unfold wsum win
  pointwise [k0_pay14, group_word]
  rcases (by omega : j.val / 64 = 2 ∨ j.val / 64 = 3) with g | g
  · rw [g]
    refine (Ideal.add_congr A B).trans ?_
    rw [show 2 * 2 ^ 2 = 4 + 4 from rfl, Finset.sum_range_add]
    simp only [Nat.zero_add]
  · rw [g]
    refine (Ideal.add_congr (Ideal.add_congr A B) (Ideal.add_congr C D)).trans ?_
    rw [show 2 * 2 ^ 3 = (4 + 4) + (4 + 4) from rfl, Finset.sum_range_add, Finset.sum_range_add]
    simp only [Nat.zero_add]
    refine congrArg _ ?_
    rw [Finset.sum_range_add]
    simp only [← Nat.add_assoc]

/-- The pooling branch at row `r`. -/
theorem pay15_at (r : Fin 512) (j : Fin 256) :
    k0_pay15 (F := Ideal) (posWord a) (k0_pay3 i h b) k0_pay9 k0_pay10 (k0_pay11 (k0_pay3 i h b)) k0_pay12 (k0_pay13 (k0_pay3 i h b))
        (k0_pay14 (k0_pay3 i h b)) (ix2 r j)
      = poolMean cp ⟨512 * a + r.val, by omega⟩ j := by
  have hr := r.isLt
  have hj := j.isLt
  have V := pay3_at i a ha hi cp h b blk halo r j 0 (by omega) ⟨16 + r.val, by omega⟩ rfl
  have V' : sh (fun q => cp q ⟨512 + j.val, by omega⟩) 0 ⟨512 * a + r.val, by omega⟩ = cp ⟨512 * a + r.val, by omega⟩ ⟨512 + j.val, by omega⟩ := by
    unfold sh
    rw [if_pos (Nat.zero_le _)]
    rfl
  have A := pay7_at i a ha hi cp h b blk halo r j 0 (by omega) ⟨16 + r.val, by omega⟩ rfl
  have B := pay8_at i a ha hi cp h b blk halo r j 0 (by omega) ⟨16 + r.val, by omega⟩ rfl
  have C := count_word a ha r (j.val / 64) (by omega)
  simp only [Nat.zero_add] at A B
  unfold poolMean
  pointwise [k0_pay15, k0_pay10, k0_pay12, k0_pay11, k0_pay13, group_word]
  rw [V, V', C]
  refine congrArg (fun z => z - _) (congrArg (fun z => Ideal.div z _) ?_)
  by_cases h2 : 2 ≤ j.val / 64
  · rw [← pay14_at i a ha hi cp h b blk halo r j h2]
    rcases (by omega : j.val / 64 = 2 ∨ j.val / 64 = 3) with g | g <;> rw [g] <;> rfl
  · unfold wsum win
    rcases (by omega : j.val / 64 = 0 ∨ j.val / 64 = 1) with g | g
    · rw [g]; exact A
    · rw [g]; exact B

/-- The pooling branch of the first 256 rows. -/
theorem pay17_at (r : Fin 256) (j : Fin 256) :
    k0_pay17 (F := Ideal) (posWord a) (k0_pay3 i h b) k0_pay9 k0_pay10 (k0_pay11 (k0_pay3 i h b)) k0_pay12 (k0_pay13 (k0_pay3 i h b))
        (k0_pay14 (k0_pay3 i h b)) (ix2 r j)
      = poolMean cp ⟨512 * a + r.val, by omega⟩ j := by
  pointwise [k0_pay17]
  exact pay15_at i a ha hi cp h b blk halo ⟨r.val, by omega⟩ j

end Cert.Kernel2Ideal.KBranch

end
-- ==== Proof.KBlock.lean ====
/- What one grid point leaves in the output block: at every row the layer's row of `Spec`, over variable input
   blocks whose contents are given as reads of the arrays. -/
module

public import proofs.«01_k».proof.Proof.KRow
public import proofs.«01_k».proof.Proof.KBranch

@[expose] public section

set_option backward.proofsInPublic true
set_option maxRecDepth 16384

noncomputable section

namespace Cert.Kernel2Ideal.KBlock

open Idealize.ShloMosaic Idealize.ShloMosaic.TcCoe Idealize.SL.Sem
open Cert.Kernel2Ideal Cert.Kernel2Ideal.Gen
open Cert.Spec

variable (X : Fin 32768 → Fin 1024 → EReal) (A : Fin 32768 → Fin 512 → EReal) (CP : Fin 32768 → Fin 768 → EReal)
    (G1 : Fin 1024 → EReal) (WG : Fin 1024 → Fin 3072 → EReal) (WA : Fin 512 → Fin 1024 → EReal) (CW : Fin 3 → Fin 256 → EReal)
    (WC : Fin 256 → Fin 1024 → EReal) (PW : Fin 4 → Fin 64 → Fin 256 → EReal) (PS : Fin 1024 → EReal)
    (WO : Fin 1024 → Fin 1024 → EReal) (G2 : Fin 1024 → EReal) (W1 : Fin 1024 → Fin 5632 → EReal) (W2 : Fin 2816 → Fin 1024 → EReal)

variable (i : grid0.Coords) (hi : (i 0).val < 64)
  (x0 : Vec Ideal S512x1024 .f32) (x1 : Vec Ideal S512x512 .bf16) (x2 : Vec Ideal S512x768 .bf16) (x3 : Vec Ideal S16x768 .bf16)
  (x4 : Vec Ideal S1x1x1024 .f32) (x5 : Vec Ideal S1x1024x3072 .bf16) (x6 : Vec Ideal S1x512x1024 .bf16) (x7 : Vec Ideal S1x8x256 .f32)
  (x8 : Vec Ideal S1x256x1024 .bf16) (x9 : Vec Ideal S1x256x1024 .bf16) (x10 : Vec Ideal S1x1x1024 .f32) (x11 : Vec Ideal S1x1024x1024 .bf16)
  (x12 : Vec Ideal S1x1x1024 .f32) (x13 : Vec Ideal S1x1024x5632 .bf16) (x14 : Vec Ideal S1x2816x1024 .bf16)

variable
  (q0 : ∀ (r : Fin 512) k, x0 (ix2 r k) = X ⟨512 * (i 0).val + r.val, row_lt hi r⟩ k)
  (q1 : ∀ (r : Fin 512) k, x1 (ix2 r k) = A ⟨512 * (i 0).val + r.val, row_lt hi r⟩ k)
  (q2 : ∀ (r : Fin 512) k, x2 (ix2 r k) = CP ⟨512 * (i 0).val + r.val, row_lt hi r⟩ k)
  (q3 : ∀ _ : (i 0).val % 8 ≠ 0, ∀ (r : Fin 16) k, x3 (ix2 r k) = CP ⟨512 * (i 0).val - 16 + r.val, halo_lt hi r⟩ k)
  (q4 : ∀ k, x4 (ix3 0 0 k) = G1 k) (q5 : ∀ j k, x5 (ix3 0 j k) = WG j k) (q6 : ∀ j k, x6 (ix3 0 j k) = WA j k)
  (q7 : ∀ (q : Fin 3) j, x7 (ix3 0 (q.castLE (by decide)) j) = CW q j) (q8 : ∀ j k, x8 (ix3 0 j k) = WC j k)
  (q9 : ∀ j k, x9 (ix3 0 j k) = pblock PW j k)
  (q10 : ∀ k, x10 (ix3 0 0 k) = PS k) (q11 : ∀ j k, x11 (ix3 0 j k) = WO j k) (q12 : ∀ k, x12 (ix3 0 0 k) = G2 k)
  (q13 : ∀ j k, x13 (ix3 0 j k) = W1 j k) (q14 : ∀ j k, x14 (ix3 0 j k) = W2 j k)

include q0 q1 q2 q3 q4 q5 q6 q7 q8 q9 q10 q11

/-- The mixer rows of the first half. -/
theorem x1A (r : Fin 256) (e : Fin 1024) :
    k0_pay43 (F := Ideal) i x0 x1 x2 x3 x4 x5 x6 x7 x8 x9 x10 x11 x12 x13 x14 (ix2 r e)
      = mix (X ⟨512 * (i 0).val + r.val, by omega⟩) G1 WG (lin (A ⟨512 * (i 0).val + r.val, by omega⟩) WA)
          (lin (conv CP CW ⟨512 * (i 0).val + r.val, by omega⟩) WC) (poolOut (poolMean CP ⟨512 * (i 0).val + r.val, by omega⟩) PW PS) WO e := by
  unfold k0_pay43 k0_pay42 k0_pay41 k0_pay40 k0_pay39 k0_pay38 k0_pay37 k0_pay36 k0_pay35
  refine KRow.mixA _ _ _ _ _ _ _ _ _ _ _ _ _ r _ _ _ _ _ _ _ ?_ ?_ ?_ ?_ ?_ ?_ ?_ ?_ ?_ e
  · intro k; pointwise; exact q0 _ k
  · intro k; pointwise; exact q4 k
  · intro j k; pointwise; exact q5 j _
  · intro j k; pointwise; exact q5 j _
  · intro j k; pointwise; exact q5 j _
  · intro k
    refine Finset.sum_congr rfl fun j _ => Ideal.mul_congr ?_ ?_
    · pointwise; exact q1 _ j
    · pointwise; exact q6 j k
  · intro k
    refine Finset.sum_congr rfl fun j _ => Ideal.mul_congr ?_ ?_
    · exact KBranch.pay6_at i _ hi rfl CP _ _ (fun q k => by pointwise; exact q2 q k) (fun h q k => by pointwise; exact q3 h q k) _ CW (fun q j => by pointwise; exact q7 q j) _ j
    · pointwise; exact q8 j k
  · intro k
    refine Ideal.mul_congr ?_ ?_
    · refine (Finset.sum_congr rfl fun j _ => Ideal.mul_congr ?_ ?_).trans (sum_group (poolMean CP _) PW k)
      · exact KBranch.pay17_at i _ hi rfl CP _ _ (fun q k => by pointwise; exact q2 q k) (fun h q k => by pointwise; exact q3 h q k) r j
      · pointwise; exact q9 j k
    · pointwise; exact q10 k
  · intro j k; pointwise; exact q11 j k

/-- The mixer rows of the second half. -/
theorem x1B (r : Fin 256) (e : Fin 1024) :
    k0_pay44 (F := Ideal) i x0 x1 x2 x3 x4 x5 x6 x7 x8 x9 x10 x11 x12 x13 x14 (ix2 r e)
      = mix (X ⟨512 * (i 0).val + (256 + r.val), by omega⟩) G1 WG (lin (A ⟨512 * (i 0).val + (256 + r.val), by omega⟩) WA)
          (lin (conv CP CW ⟨512 * (i 0).val + (256 + r.val), by omega⟩) WC) (poolOut (poolMean CP ⟨512 * (i 0).val + (256 + r.val), by omega⟩) PW PS) WO e := by
  unfold k0_pay44 k0_pay42 k0_pay41 k0_pay40 k0_pay39 k0_pay38 k0_pay37 k0_pay36 k0_pay35
  refine KRow.mixB _ _ _ _ _ _ _ _ _ _ _ _ _ r _ _ _ _ _ _ _ ?_ ?_ ?_ ?_ ?_ ?_ ?_ ?_ ?_ e
  · intro k; pointwise; exact q0 _ k
  · intro k; pointwise; exact q4 k
  · intro j k; pointwise; exact q5 j _
  · intro j k; pointwise; exact q5 j _
  · intro j k; pointwise; exact q5 j _
  · intro k
    refine Finset.sum_congr rfl fun j _ => Ideal.mul_congr ?_ ?_
    · pointwise; exact q1 _ j
    · pointwise; exact q6 j k
  · intro k
    refine Finset.sum_congr rfl fun j _ => Ideal.mul_congr ?_ ?_
    · exact KBranch.pay6_at i _ hi rfl CP _ _ (fun q k => by pointwise; exact q2 q k) (fun h q k => by pointwise; exact q3 h q k) _ CW (fun q j => by pointwise; exact q7 q j) _ j
    · pointwise; exact q8 j k
  · intro k
    refine Ideal.mul_congr ?_ ?_
    · refine (Finset.sum_congr rfl fun j _ => Ideal.mul_congr ?_ ?_).trans (sum_group (poolMean CP _) PW k)
      · exact KBranch.pay15_at i _ hi rfl CP _ _ (fun q k => by pointwise; exact q2 q k) (fun h q k => by pointwise; exact q3 h q k) _ j
      · pointwise; exact q9 j k
    · pointwise; exact q10 k
  · intro j k; pointwise; exact q11 j k

include q12 q13 q14

/-- The output block. -/
theorem block (r : Fin 512) (e : Fin 1024) :
    out0_15 (F := Ideal) i x0 x1 x2 x3 x4 x5 x6 x7 x8 x9 x10 x11 x12 x13 x14 (ix2 r e)
      = layer X A CP G1 WG WA CW WC PW PS WO G2 W1 W2 ⟨512 * (i 0).val + r.val, row_lt hi r⟩ e := by
  unfold out0_15
  canon_tiles x h
  case piece0 =>
    obtain ⟨a, b, rfl⟩ : ∃ (a : Fin 256) (b : Fin 1024), x = ix2 a b := ⟨x 0, x 1, by funext d; fin_cases d <;> rfl⟩
    obtain rfl : e = b := Fin.ext h1
    obtain rfl : r = ⟨256 + a.val, Nat.add_lt_add_left a.isLt 256⟩ := Fin.ext h0
    refine KRow.ffnB _ _ _ _ _ _ _ _ _ _ _ a _ _ _ _ ?_ ?_ ?_ ?_ ?_ ?_ ?_ ?_ ?_ ?_ ?_ e
    · exact fun k => x1B X A CP G1 WG WA CW WC PW PS WO i hi x0 x1 x2 x3 x4 x5 x6 x7 x8 x9 x10 x11 x12 x13 x14 q0 q1 q2 q3 q4 q5 q6 q7 q8 q9 q10 q11 a k
    · intro k; pointwise; exact q12 k
    · intro j k; pointwise; exact q13 j _
    · intro j k; pointwise; exact q13 j _
    · intro j k; pointwise; exact q14 _ k
    · intro j k; pointwise; exact q13 j _
    · intro j k; pointwise; exact (congrArg (fun t => x13 (ix3 0 j t)) (Fin.ext (by dsimp only; omega))).trans (q13 j _)
    · intro j k; pointwise; exact q14 _ k
    · intro j k; pointwise; exact q13 j _
    · intro j k; pointwise; exact (congrArg (fun t => x13 (ix3 0 j t)) (Fin.ext (by dsimp only; omega))).trans (q13 j _)
    · intro j k; pointwise; exact q14 _ k
  case piece1 =>
    obtain ⟨a, b, rfl⟩ : ∃ (a : Fin 256) (b : Fin 1024), x = ix2 a b := ⟨x 0, x 1, by funext d; fin_cases d <;> rfl⟩
    obtain rfl : e = b := Fin.ext h1
    obtain rfl : r = ⟨a.val, Nat.lt_trans a.isLt (by decide)⟩ := Fin.ext h0
    unfold k0_pay45
    refine KRow.ffnA _ _ _ _ _ _ _ _ _ _ _ a _ _ _ _ ?_ ?_ ?_ ?_ ?_ ?_ ?_ ?_ ?_ ?_ ?_ e
    · exact fun k => x1A X A CP G1 WG WA CW WC PW PS WO i hi x0 x1 x2 x3 x4 x5 x6 x7 x8 x9 x10 x11 x12 x13 x14 q0 q1 q2 q3 q4 q5 q6 q7 q8 q9 q10 q11 a k
    · intro k; pointwise; exact q12 k
    · intro j k; pointwise; exact q13 j _
    · intro j k; pointwise; exact q13 j _
    · intro j k; pointwise; exact q14 _ k
    · intro j k; pointwise; exact q13 j _
    · intro j k; pointwise; exact (congrArg (fun t => x13 (ix3 0 j t)) (Fin.ext (by dsimp only; omega))).trans (q13 j _)
    · intro j k; pointwise; exact q14 _ k
    · intro j k; pointwise; exact q13 j _
    · intro j k; pointwise; exact (congrArg (fun t => x13 (ix3 0 j t)) (Fin.ext (by dsimp only; omega))).trans (q13 j _)
    · intro j k; pointwise; exact q14 _ k

end Cert.Kernel2Ideal.KBlock

end
-- ==== Proof.KFinal.lean ====
/- The kernel's final array: the arrays its host lines prepare, read at an index, the blocks the grid points stage,
   and from them the whole result as `Spec.layer` of the arguments. -/
module

public import proofs.«01_k».proof.Proof.KBlock
public import proofs.«01_k».proof.Proof.Gen.Kernel2Ideal.Value
public import Idealize.ShloMosaic.Lib.Pipeline.ValueKit

@[expose] public section

set_option backward.proofsInPublic true
set_option maxRecDepth 16384

noncomputable section

namespace Cert.Kernel2Ideal.KFinal

open Idealize.ShloMosaic Idealize.ShloMosaic.TcCoe Idealize.SL.Sem
open Cert.Kernel2Ideal Cert.Kernel2Ideal.Gen
open Cert.Spec

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![32 * t.val - 1, 0] ∧ win0_4.index t = ![0, 0, 0] ∧ win0_5.index t = ![0, 0, 0]
    ∧ win0_6.index t = ![0, 0, 0] ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![0, 0, 0] ∧ win0_13.index t = ![0, 0, 0]
    ∧ win0_14.index t = ![0, 0, 0] ∧ win0_15.index t = ![t.val, 0] ∧ (grid0.coords t 0).val = t.val :=
  (by decide +kernel : ∀ t : Fin grid0.N, _)

theorem v2_at (k : Fin 1024) : V m c main_v2 (ix3 0 0 k) = m ((c : Thread nD τ).loc main_arg3) (ix2 0 k) := by
  simp only [V, hostOps0, hostOps0_1, hostOps0_2, hostOps0_3, hostOps0_4, List.flatten_cons, List.flatten_nil, List.append_nil,
    List.cons_append, List.nil_append]
  entry_read
  pointwise

theorem v4_at (k : Fin 1024) : V m c main_v4 (ix3 0 0 k) = m ((c : Thread nD τ).loc main_arg9) (ix2 0 k) := by
  simp only [V, hostOps0, hostOps0_1, hostOps0_2, hostOps0_3, hostOps0_4, List.flatten_cons, List.flatten_nil, List.append_nil,
    List.cons_append, List.nil_append]
  entry_read
  pointwise

theorem v3_at (k : Fin 1024) : V m c main_v3 (ix3 0 0 k) = m ((c : Thread nD τ).loc main_arg11) (ix2 0 k) := by
  simp only [V, hostOps0, hostOps0_1, hostOps0_2, hostOps0_3, hostOps0_4, List.flatten_cons, List.flatten_nil, List.append_nil,
    List.cons_append, List.nil_append]
  entry_read
  pointwise

theorem v1_at (j : Fin 1024) (k : Fin 3072) : V m c main_v1 (ix3 0 j k) = m ((c : Thread nD τ).loc main_arg4) (ix3 0 j ⟨2568 + k.val, gate_lt k⟩) := by
  simp only [V, hostOps0, hostOps0_1, hostOps0_2, hostOps0_3, hostOps0_4, List.flatten_cons, List.flatten_nil, List.append_nil,
    List.cons_append, List.nil_append]
  entry_read
  pointwise

theorem v5_at (j : Fin 512) (k : Fin 1024) : V m c main_v5 (ix3 0 j k) = m ((c : Thread nD τ).loc main_arg5) (ix3 0 j k) := by
  simp only [V, hostOps0, hostOps0_1, hostOps0_2, hostOps0_3, hostOps0_4, List.flatten_cons, List.flatten_nil, List.append_nil,
    List.cons_append, List.nil_append]
  entry_read
  pointwise

theorem v7_at (j : Fin 256) (k : Fin 1024) : V m c main_v7 (ix3 0 j k) = m ((c : Thread nD τ).loc main_arg7) (ix3 0 j k) := by
  simp only [V, hostOps0, hostOps0_1, hostOps0_2, hostOps0_3, hostOps0_4, List.flatten_cons, List.flatten_nil, List.append_nil,
    List.cons_append, List.nil_append]
  entry_read
  pointwise

theorem v24_at (j : Fin 1024) (k : Fin 1024) : V m c main_v24 (ix3 0 j k) = m ((c : Thread nD τ).loc main_arg10) (ix3 0 j k) := by
  simp only [V, hostOps0, hostOps0_1, hostOps0_2, hostOps0_3, hostOps0_4, List.flatten_cons, List.flatten_nil, List.append_nil,
    List.cons_append, List.nil_append]
  entry_read
  pointwise

theorem v25_at (j : Fin 1024) (k : Fin 5632) : V m c main_v25 (ix3 0 j k) = m ((c : Thread nD τ).loc main_arg12) (ix3 0 j k) := by
  simp only [V, hostOps0, hostOps0_1, hostOps0_2, hostOps0_3, hostOps0_4, List.flatten_cons, List.flatten_nil, List.append_nil,
    List.cons_append, List.nil_append]
  entry_read
  pointwise

theorem v26_at (j : Fin 2816) (k : Fin 1024) : V m c main_v26 (ix3 0 j k) = m ((c : Thread nD τ).loc main_arg13) (ix3 0 j k) := by
  simp only [V, hostOps0, hostOps0_1, hostOps0_2, hostOps0_3, hostOps0_4, List.flatten_cons, List.flatten_nil, List.append_nil,
    List.cons_append, List.nil_append]
  entry_read
  pointwise

theorem v6_at (q : Fin 3) (j : Fin 256) : V m c main_v6 (ix3 0 (q.castLE (by decide)) j) = m ((c : Thread nD τ).loc main_arg6) (ix3 0 q j) := by
  simp only [V, hostOps0, hostOps0_1, hostOps0_2, hostOps0_3, hostOps0_4, List.flatten_cons, List.flatten_nil, List.append_nil,
    List.cons_append, List.nil_append]
  entry_read
  simp only [StableHlo.TRef.ofBuf, StableHlo.TRef.toBuf, cast_eq]
  pointwise
  rw [dif_pos (by show q.val < 3; omega)]
  rfl

theorem eye_at : ∀ a b : Fin 4, (FloatOps.uitofp (F := Ideal) FTy.f32
      (IntOp.cmpi .eq (IntOp.addi (BitVec.ofNat 32 a.val) 0#32) (BitVec.ofNat 32 b.val)) : EReal)
    = if a.val = b.val then 1 else 0 := by
  intro a b
  have h : IntOp.cmpi .eq (IntOp.addi (BitVec.ofNat 32 a.val) 0#32) (BitVec.ofNat 32 b.val) = if a.val = b.val then 1#1 else 0#1 := by
    revert a b; decide
  rw [h]
  by_cases e : a.val = b.val
  · rw [if_pos e, if_pos e]; show (((1#1 : BitVec 1).toNat : ℝ) : EReal) = 1; simp
  · rw [if_neg e, if_neg e]; show (((0#1 : BitVec 1).toNat : ℝ) : EReal) = 0; simp

theorem v23_at (j : Fin 256) (k : Fin 1024) : V m c main_v23 (ix3 0 j k) = pblock (fun g d e => m ((c : Thread nD τ).loc main_arg8) (ix4 0 g d e)) j k := by
  simp only [V, hostOps0, hostOps0_1, hostOps0_2, hostOps0_3, hostOps0_4, List.flatten_cons, List.flatten_nil, List.append_nil,
    List.cons_append, List.nil_append]
  entry_read
  simp only [StableHlo.TRef.ofBuf, StableHlo.TRef.toBuf, cast_eq]
  pointwise
  refine (Ideal.mul_congr rfl (eye_at ⟨j.val / 64, by omega⟩ ⟨k.val / 256, by omega⟩)).trans ?_
  unfold pblock
  dsimp only
  by_cases e : j.val / 64 = k.val / 256
  · rw [if_pos e, if_pos e, mul_one]
  · rw [if_neg e, if_neg e, mul_zero]

/-- The result as a function of the arguments. -/
def out (n : Fin 32768) (e : Fin 1024) : EReal :=
  layer (fun n k => m ((c : Thread nD τ).loc main_arg0) (ix2 n k)) (fun n k => m ((c : Thread nD τ).loc main_arg1) (ix2 n k))
    (fun n k => m ((c : Thread nD τ).loc main_arg2) (ix2 n k)) (fun k => m ((c : Thread nD τ).loc main_arg3) (ix2 0 k))
    (fun j k => m ((c : Thread nD τ).loc main_arg4) (ix3 0 j ⟨2568 + k.val, gate_lt k⟩))
    (fun j k => m ((c : Thread nD τ).loc main_arg5) (ix3 0 j k)) (fun q j => m ((c : Thread nD τ).loc main_arg6) (ix3 0 q j))
    (fun j k => m ((c : Thread nD τ).loc main_arg7) (ix3 0 j k)) (fun g d e => m ((c : Thread nD τ).loc main_arg8) (ix4 0 g d e))
    (fun k => m ((c : Thread nD τ).loc main_arg9) (ix2 0 k)) (fun j k => m ((c : Thread nD τ).loc main_arg10) (ix3 0 j k))
    (fun k => m ((c : Thread nD τ).loc main_arg11) (ix2 0 k)) (fun j k => m ((c : Thread nD τ).loc main_arg12) (ix3 0 j k))
    (fun j k => m ((c : Thread nD τ).loc main_arg13) (ix3 0 j k)) n e

theorem b0_at (t : Fin cfg0.N) (r : Fin 512) (k : Fin 1024) (n : Fin 32768) (hn : n.val = 512 * t.val + r.val) :
    (iblk m c 0 t : Vec Ideal S512x1024 .f32) (ix2 r k) = m ((c : Thread nD τ).loc main_arg0) (ix2 n k) := by
  blk_ext [iblk, V, idx t]

theorem b1_at (t : Fin cfg0.N) (r : Fin 512) (k : Fin 512) (n : Fin 32768) (hn : n.val = 512 * t.val + r.val) :
    (iblk m c 1 t : Vec Ideal S512x512 .bf16) (ix2 r k) = m ((c : Thread nD τ).loc main_arg1) (ix2 n k) := by
  blk_ext [iblk, V, idx t]

theorem b2_at (t : Fin cfg0.N) (r : Fin 512) (k : Fin 768) (n : Fin 32768) (hn : n.val = 512 * t.val + r.val) :
    (iblk m c 2 t : Vec Ideal S512x768 .bf16) (ix2 r k) = m ((c : Thread nD τ).loc main_arg2) (ix2 n k) := by
  blk_ext [iblk, V, idx t]

theorem b3_at (t : Fin cfg0.N) (r : Fin 16) (k : Fin 768) (h : t.val % 8 ≠ 0) (n : Fin 32768) (hn : n.val = 512 * t.val - 16 + r.val) :
    (iblk m c 3 t : Vec Ideal S16x768 .bf16) (ix2 r k) = m ((c : Thread nD τ).loc main_arg2) (ix2 n k) := by
  blk_ext [iblk, V, idx t]

theorem b4_at (t : Fin cfg0.N) (k : Fin 1024) : (iblk m c 4 t : Vec Ideal S1x1x1024 .f32) (ix3 0 0 k) = V m c main_v2 (ix3 0 0 k) := by
  blk_ext [iblk, idx t]

theorem b10_at (t : Fin cfg0.N) (k : Fin 1024) : (iblk m c 10 t : Vec Ideal S1x1x1024 .f32) (ix3 0 0 k) = V m c main_v4 (ix3 0 0 k) := by
  blk_ext [iblk, idx t]

theorem b12_at (t : Fin cfg0.N) (k : Fin 1024) : (iblk m c 12 t : Vec Ideal S1x1x1024 .f32) (ix3 0 0 k) = V m c main_v3 (ix3 0 0 k) := by
  blk_ext [iblk, idx t]

theorem b5_at (t : Fin cfg0.N) (j : Fin 1024) (k : Fin 3072) : (iblk m c 5 t : Vec Ideal S1x1024x3072 .bf16) (ix3 0 j k) = V m c main_v1 (ix3 0 j k) := by
  blk_ext [iblk, idx t]

theorem b6_at (t : Fin cfg0.N) (j : Fin 512) (k : Fin 1024) : (iblk m c 6 t : Vec Ideal S1x512x1024 .bf16) (ix3 0 j k) = V m c main_v5 (ix3 0 j k) := by
  blk_ext [iblk, idx t]

theorem b7_at (t : Fin cfg0.N) (j : Fin 8) (k : Fin 256) : (iblk m c 7 t : Vec Ideal S1x8x256 .f32) (ix3 0 j k) = V m c main_v6 (ix3 0 j k) := by
  blk_ext [iblk, idx t]

theorem b8_at (t : Fin cfg0.N) (j : Fin 256) (k : Fin 1024) : (iblk m c 8 t : Vec Ideal S1x256x1024 .bf16) (ix3 0 j k) = V m c main_v7 (ix3 0 j k) := by
  blk_ext [iblk, idx t]

theorem b9_at (t : Fin cfg0.N) (j : Fin 256) (k : Fin 1024) : (iblk m c 9 t : Vec Ideal S1x256x1024 .bf16) (ix3 0 j k) = V m c main_v23 (ix3 0 j k) := by
  blk_ext [iblk, idx t]

theorem b11_at (t : Fin cfg0.N) (j : Fin 1024) (k : Fin 1024) : (iblk m c 11 t : Vec Ideal S1x1024x1024 .bf16) (ix3 0 j k) = V m c main_v24 (ix3 0 j k) := by
  blk_ext [iblk, idx t]

theorem b13_at (t : Fin cfg0.N) (j : Fin 1024) (k : Fin 5632) : (iblk m c 13 t : Vec Ideal S1x1024x5632 .bf16) (ix3 0 j k) = V m c main_v25 (ix3 0 j k) := by
  blk_ext [iblk, idx t]

theorem b14_at (t : Fin cfg0.N) (j : Fin 2816) (k : Fin 1024) : (iblk m c 14 t : Vec Ideal S1x2816x1024 .bf16) (ix3 0 j k) = V m c main_v26 (ix3 0 j k) := by
  blk_ext [iblk, idx t]

/-- What point `t` leaves in its output block. -/
theorem point (t : Fin cfg0.N) (r : Fin 512) (e : Fin 1024) (n : Fin 32768) (hn : n.val = 512 * t.val + r.val) :
    out0_15 (grid0.coords t) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix2 r e)
      = out m c n e := by
  have ht : t.val < 64 := lt_of_lt_of_eq t.isLt N_0
  have hc : (grid0.coords t 0).val = t.val := (idx t).2.2.2.2.2.2.2.2.2.2.2.2.2.2.2.2
  have hi : (grid0.coords t 0).val < 64 := by rw [hc]; exact ht
  obtain rfl : n = ⟨512 * (grid0.coords t 0).val + r.val, row_lt hi r⟩ := Fin.ext (by dsimp only; rw [hc]; exact hn)
  unfold out
  refine KBlock.block _ _ _ _ _ _ _ _ _ _ _ _ _ _ (grid0.coords t) hi _ _ _ _ _ _ _ _ _ _ _ _ _ _ _
    ?_ ?_ ?_ ?_ ?_ ?_ ?_ ?_ ?_ ?_ ?_ ?_ ?_ ?_ ?_ r e
  · exact fun r k => b0_at m c t r k _ (congrArg (512 * · + r.val) hc)
  · exact fun r k => b1_at m c t r k _ (congrArg (512 * · + r.val) hc)
  · exact fun r k => b2_at m c t r k _ (congrArg (512 * · + r.val) hc)
  · exact fun h r k => b3_at m c t r k (by rwa [hc] at h) _ (congrArg (512 * · - 16 + r.val) hc)
  · exact fun k => (b4_at m c t k).trans (v2_at m c k)
  · exact fun j k => (b5_at m c t j k).trans (v1_at m c j k)
  · exact fun j k => (b6_at m c t j k).trans (v5_at m c j k)
  · exact fun j k => (b7_at m c t _ k).trans (v6_at m c j k)
  · exact fun j k => (b8_at m c t j k).trans (v7_at m c j k)
  · exact fun j k => (b9_at m c t j k).trans (v23_at m c j k)
  · exact fun k => (b10_at m c t k).trans (v4_at m c k)
  · exact fun j k => (b11_at m c t j k).trans (v24_at m c j k)
  · exact fun k => (b12_at m c t k).trans (v3_at m c k)
  · exact fun j k => (b13_at m c t j k).trans (v25_at m c j k)
  · exact fun j k => (b14_at m c t j k).trans (v26_at m c j k)

/-- The result array after the run. -/
theorem final : (dats m 0 c).arrAt 15 (cfgs 0).N = fun i => out m c (i 0) (i 1) := by
  refine (dats m 0 c).arrAt_eq_of_covers 15 _ (by decide +kernel) fun t _ y => ?_
  blk_simp
  rw [after0_15]
  obtain ⟨r, e, rfl⟩ : ∃ (r : Fin 512) (e : Fin 1024), y = (ix2 r e : S512x1024.Idx) := ⟨y 0, y 1, by funext d; fin_cases d <;> rfl⟩
  refine (point m c t r e _ ?_).trans (congrArg (out m c _) (Fin.ext ?_))
  · blk_simp [idx t] <;> try omega
  · blk_simp [idx t] <;> try omega

end Cert.Kernel2Ideal.KFinal

end
-- ==== Proof.RefRow.lean ====
/- The reference program's stages read at an index, token by token: each is the function of `Spec` at the token's row. -/
module

public import proofs.«01_k».proof.Proof.Spec
public import proofs.«01_k».proof.Proof.Gen.Reference2Ideal.Read
public import Idealize.ShloMosaic.Lib.Pipeline.ValueKit

@[expose] public section

set_option backward.proofsInPublic true
set_option maxRecDepth 16384

noncomputable section

namespace Cert.Reference2Ideal.RefRow

open Idealize.ShloMosaic Idealize.ShloMosaic.TcCoe Idealize.SL.Sem
open Cert.Reference2Ideal Cert.Reference2Ideal.Gen Cert.Reference2Ideal.Read
open Cert.Spec

/-- Token `s` of sequence `b`. -/
abbrev tok (b : Fin 8) (s : Fin 4096) : Fin 32768 := ⟨b.val * 4096 + s.val, by omega⟩

variable (x0 : FVec Ideal S32768x1024 .f32) (x1 : FVec Ideal S32768x512 .bf16) (x2 : FVec Ideal S32768x768 .bf16)
  (x3 : FVec Ideal S4x1024 .f32) (x4 : FVec Ideal S4x1024x5640 .f32) (x5 : FVec Ideal S4x512x1024 .f32) (x6 : FVec Ideal S4x3x256 .f32)
  (x7 : FVec Ideal S4x256x1024 .f32) (x8 : FVec Ideal S4x4x64x256 .f32) (x9 : FVec Ideal S4x1024 .f32) (x10 : FVec Ideal S4x1024x1024 .f32)
  (x11 : FVec Ideal S4x1024 .f32) (x12 : FVec Ideal S4x1024x5632 .f32) (x13 : FVec Ideal S4x2816x1024 .f32)
  (b : Fin 8) (s : Fin 4096)

theorem v0_at (k : Fin 1024) : val_main_v0 (F := Ideal) x0 (ix3 b s k) = x0 (ix2 (tok b s) k) := by
  pointwise [val_main_v0]

theorem v2_at (k : Fin 512) : val_main_v2 (F := Ideal) x1 (ix3 b s k) = x1 (ix2 (tok b s) k) := by
  pointwise [val_main_v2, val_main_v1]

theorem v22_at (k : Fin 1024) : val_main_v22 (F := Ideal) x0 x3 (ix3 b s k)
    = rms (fun k => x0 (ix2 (tok b s) k)) (fun k => x3 (ix2 0 k)) k := by
  pointwise [val_main_v22, val_main_v21, val_main_v20, val_main_v19, val_main_v18, val_main_v17, val_main_v16, val_main_v15, val_main_v14,
    val_main_v13, val_main_v12, val_main_v11, val_main_v10, val_main_v9, val_main_v8, val_main_cst, val_main_cst_0, val_main_cst_1, rms, v0_at]

theorem v26_at (k : Fin 3072) : val_main_v26 (F := Ideal) x0 x3 x4 (ix3 b s k)
    = lin (rms (fun k => x0 (ix2 (tok b s) k)) (fun k => x3 (ix2 0 k))) (fun j k => x4 (ix3 0 j ⟨2568 + k.val, gate_lt k⟩)) k := by
  pointwise [val_main_v26, val_main_v25, val_main_v24, val_main_v23, lin, v22_at]

theorem v29_at (k : Fin 1024) : val_main_v29 (F := Ideal) x1 x5 (ix3 b s k)
    = lin (fun k => x1 (ix2 (tok b s) k)) (fun j k => x5 (ix3 0 j k)) k := by
  pointwise [val_main_v29, val_main_v28, val_main_v27, lin, v2_at]

/-- A sequence read `q` tokens earlier, in the sequence's own numbering. -/
theorem sh_tok (f : Fin 32768 → EReal) (q : ℕ) :
    sh f q (tok b s) = if h : q ≤ s.val then f (tok b ⟨s.val - q, lt_of_le_of_lt (Nat.sub_le _ _) s.isLt⟩) else 0 := by
  have hs := s.isLt
  unfold sh
  by_cases h : q ≤ s.val
  · rw [dif_pos h, if_pos (by show q ≤ (b.val * 4096 + s.val) % 4096; omega)]
    exact congrArg f (Fin.ext (by show b.val * 4096 + s.val - q = b.val * 4096 + (s.val - q); omega))
  · rw [dif_neg h, if_neg (by show ¬ q ≤ (b.val * 4096 + s.val) % 4096; omega)]

theorem zero_word : (FloatOps.sitofp (F := Ideal) FTy.f32 (0#32) : EReal) = 0 := by
  show (((0#32 : BitVec 32).toInt : ℝ) : EReal) = 0
  simp

theorem v53_at (k : Fin 256) : val_main_v53 (F := Ideal) x2 x6 (ix3 b s k)
    = conv (fun n k => x2 (ix2 n k)) (fun q j => x6 (ix3 0 q j)) (tok b s) k := by
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35,
    val_main_v34, val_main_v33, val_main_v32, val_main_v31, val_main_v30, val_main_v6, val_main_v5, val_main_v4, val_main_v3,
    val_main_call0_v0, val_main_c]
  unfold conv
  have hs := s.isLt
  rw [sh_tok, sh_tok, sh_tok, zero_word, dif_pos (Nat.zero_le _)]
  refine Ideal.mul_congr rfl ?_
  rw [add_comm, add_comm (x6 (ix3 0 0 k) * _), ← add_assoc]
  refine Ideal.add_congr (Ideal.add_congr rfl (Ideal.mul_congr rfl ?_)) (Ideal.mul_congr rfl ?_)
  · by_cases h : 1 ≤ s.val
    · rw [dif_pos h, dif_pos (by omega)]
      refine congrArg x2 (congrArg₂ ix2 (Fin.ext ?_) rfl)
      show b.val * 4096 + (1 + s.val - 2) = b.val * 4096 + (s.val - 1)
      omega
    · rw [dif_neg h, dif_neg (by omega)]
  · by_cases h : 2 ≤ s.val
    · refine (dif_pos ⟨h, by omega⟩).trans (Eq.trans ?_ (dif_pos h).symm)
      exact congrArg x2 (congrArg₂ ix2 (Fin.ext rfl) rfl)
    · refine (dif_neg (fun q => h q.1)).trans (Eq.symm ?_)
      exact dif_neg h

end Cert.Reference2Ideal.RefRow

end
-- ==== Proof.RefPool.lean ====
/- The reference's running sum, and the pooled mean it gives: the running sum less the running sum a window earlier is the
   sum over the window, as long as the pooled channels are finite. -/
module

public import proofs.«01_k».proof.Proof.RefRow

@[expose] public section

set_option backward.proofsInPublic true
set_option maxRecDepth 16384

noncomputable section

namespace Cert.Reference2Ideal.RefPool

open Idealize.ShloMosaic Idealize.ShloMosaic.TcCoe Idealize.SL.Sem
open Cert.Reference2Ideal Cert.Reference2Ideal.Gen Cert.Reference2Ideal.Read Cert.Reference2Ideal.RefRow
open Cert.Spec

theorem foldl_add {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]

/-- The running sum along the second axis: the entry at `s` is the sum of the entries up to and including `s`. -/
theorem cumsum {B N Nm1 C : Nat} (hN : Nm1 + 1 = N) (x : (⟨3, ![B, N, C]⟩ : Shape).Idx → EReal)
    (h : (⟨3, ![B, N, C]⟩ : Shape).ReduceWindows (![1, N, 1] : Fin 3 → Nat) ![1, 1, 1] ![0, Nm1, 0] ![0, 0, 0] ⟨3, ![B, N, C]⟩)
    (b : Fin B) (s : Fin N) (j : Fin C) :
    Ideal.hostReduceWindowAdd ![1, N, 1] ![1, 1, 1] ![0, Nm1, 0] ![0, 0, 0] h x 0 (ix3 b s j)
      = ∑ i ∈ Finset.range (s.val + 1), if hi : i < N then x (ix3 b ⟨i, hi⟩ j) else 0 := by
  have hs := s.isLt
  have hb := b.isLt
  have hj := j.isLt
  let X : ℕ → EReal := fun i => if hi : i < N then x (ix3 b ⟨i, hi⟩ j) else 0
  let G : ℕ → EReal := fun w => if Nm1 ≤ s.val + w then X (s.val + w - Nm1) else 0
  let W : Shape := ⟨3, ![1, N, 1]⟩
  have hW : W.numel = N := by simp [W, Shape.numel, Fin.prod_univ_succ]
  have hw : ∀ n : Fin W.numel, (W.rowMajor.symm n 0).val = 0 ∧ (W.rowMajor.symm n 1).val = n.val ∧ (W.rowMajor.symm n 2).val = 0 := by
    intro n
    have e := Shape.rowMajor_val_three (W.rowMajor.symm n)
    rw [Equiv.apply_symm_apply] at e
    have h0 : (W.rowMajor.symm n 0).val < 1 := (W.rowMajor.symm n 0).isLt
    have h2 : (W.rowMajor.symm n 2).val < 1 := (W.rowMajor.symm n 2).isLt
    have h0' : (W.rowMajor.symm n 0).val = 0 := by omega
    have h2' : (W.rowMajor.symm n 2).val = 0 := by omega
    refine ⟨h0', ?_, h2'⟩
    rw [h0', h2'] at e
    change n.val = (0 * N + (W.rowMajor.symm n 1).val) * 1 + 0 at e
    omega
  unfold Ideal.hostReduceWindowAdd Host.reduceWindow
  refine Eq.trans (b := (List.finRange W.numel).foldl (fun r n => r + G n.val) 0) ?_ ((foldl_add _ _ _).trans ?_)
  · refine congrArg (fun F => List.foldl F (0 : EReal) (List.finRange W.numel)) (funext fun r => funext fun n => congrArg (r + ·) ?_)
    obtain ⟨w0, w1, w2⟩ := hw n
    have hn : n.val < N := lt_of_lt_of_eq n.isLt hW
    dsimp only [G, X]
    by_cases hc : Nm1 ≤ s.val + n.val
    · rw [if_pos hc, dif_pos (show s.val + n.val - Nm1 < N by omega), dif_pos]
      · refine congrArg x (funext fun a => Fin.ext ?_)
        match a with
        | ⟨0, _⟩ => show b.val * 1 + (W.rowMajor.symm n 0).val - 0 = b.val; omega
        | ⟨1, _⟩ => show s.val * 1 + (W.rowMajor.symm n 1).val - Nm1 = s.val + n.val - Nm1; omega
        | ⟨2, _⟩ => show j.val * 1 + (W.rowMajor.symm n 2).val - 0 = j.val; omega
      · intro a
        match a with
        | ⟨0, _⟩ => show 0 ≤ b.val * 1 + (W.rowMajor.symm n 0).val ∧ b.val * 1 + (W.rowMajor.symm n 0).val - 0 < B; omega
        | ⟨1, _⟩ => show Nm1 ≤ s.val * 1 + (W.rowMajor.symm n 1).val ∧ s.val * 1 + (W.rowMajor.symm n 1).val - Nm1 < N; omega
        | ⟨2, _⟩ => show 0 ≤ j.val * 1 + (W.rowMajor.symm n 2).val ∧ j.val * 1 + (W.rowMajor.symm n 2).val - 0 < C; omega
    · rw [if_neg hc, dif_neg]
      intro q
      have q1 := (q 1).1
      change Nm1 ≤ s.val * 1 + (W.rowMajor.symm n 1).val at q1
      omega
  · rw [zero_add, ← Fin.sum_univ_def, Fin.sum_univ_eq_sum_range G W.numel,
      show W.numel = (Nm1 - s.val) + (s.val + 1) by omega, Finset.sum_range_add]
    rw [Finset.sum_eq_zero, zero_add]
    · refine Finset.sum_congr rfl fun i hi => ?_
      have := Finset.mem_range.mp hi
      dsimp only [G]
      rw [if_pos (by omega), show s.val + (Nm1 - s.val + i) - Nm1 = i by omega]
    · intro i hi
      have := Finset.mem_range.mp hi
      dsimp only [G]
      rw [if_neg (by omega)]

/-- A running sum less the running sum `w` entries earlier (nothing before the start) is the sum of the last `w` entries. -/
theorem diff_sum (f : ℕ → ℝ) (s w : ℕ) :
    ((∑ i ∈ Finset.range (s + 1), (f i : EReal)) - (if w ≤ s then ∑ i ∈ Finset.range (s - w + 1), (f i : EReal) else 0))
      = ∑ i ∈ Finset.range w, if i ≤ s then (f (s - i) : EReal) else 0 := by
  have C : ∀ n, (∑ i ∈ Finset.range n, (f i : EReal)) = ((∑ i ∈ Finset.range n, f i : ℝ) : EReal) := fun n => by
    induction n with
    | zero => simp
    | succ n ih => rw [Finset.sum_range_succ, Finset.sum_range_succ, ih, EReal.coe_add]
  have R : (∑ i ∈ Finset.range w, if i ≤ s then (f (s - i) : EReal) else 0)
      = ((∑ i ∈ Finset.range w, if i ≤ s then f (s - i) else 0 : ℝ) : EReal) := by
    induction w with
    | zero => simp
    | succ n ih =>
      rw [Finset.sum_range_succ, Finset.sum_range_succ, ih, EReal.coe_add]
      by_cases h : n ≤ s
      · rw [if_pos h, if_pos h]
      · rw [if_neg h, if_neg h, EReal.coe_zero]
  rw [R, C, C]
  by_cases h : w ≤ s
  · rw [if_pos h, ← EReal.coe_sub]
    refine congrArg _ ?_
    have e : s + 1 = (s - w + 1) + w := by omega
    rw [e, Finset.sum_range_add, add_sub_cancel_left, ← Finset.sum_range_reflect]
    refine Finset.sum_congr rfl fun i hi => ?_
    have := Finset.mem_range.mp hi
    rw [if_pos (by omega)]
    congr 1
    omega
  · rw [if_neg h, sub_zero]
    refine congrArg _ ?_
    have A : (∑ i ∈ Finset.range (s + 1), if i ≤ s then f (s - i) else 0) = ∑ i ∈ Finset.range w, if i ≤ s then f (s - i) else 0 :=
      Finset.sum_subset (Finset.range_subset_range.2 (by omega)) fun i _ hi => if_neg (by rw [Finset.mem_range] at hi; omega)
    refine (Finset.sum_range_reflect f (s + 1)).symm.trans (Eq.trans (Finset.sum_congr rfl fun i hi => ?_) A)
    have := Finset.mem_range.mp hi
    rw [if_pos (by omega)]
    congr 1

theorem window_sum {t t' u : Shape} (W S L H : Fin t.rank → ℕ) (x : FVec Ideal t .f32) (z : u.Idx → Ideal .f32)
    (h : t.ReduceWindows W S L H t') (hu : 0 < u.numel) (i : t'.Idx) :
    Host.reduceWindowAdd W S L H x z h hu i = Ideal.hostReduceWindowAdd W S L H h x (z (Shape.Idx.first hu)) i := rfl

variable (x2 : FVec Ideal S32768x768 .bf16) (b : Fin 8) (s : Fin 4096)

theorem v61_at (j : Fin 256) : val_main_v61 (F := Ideal) x2 (ix3 b s j)
    = ∑ i ∈ Finset.range (s.val + 1), if hi : i < 4096 then x2 (ix2 (tok b ⟨i, hi⟩) ⟨512 + j.val, by omega⟩) else 0 := by
  have z : val_main_call1_call0_v0 (F := Ideal) (Shape.Idx.first h_S_) = 0 := by
    pointwise [val_main_call1_call0_v0, val_main_call1_call0_cst]
  unfold val_main_v61
  rw [window_sum, z]
  refine (cumsum rfl _ _ b s j).trans (Finset.sum_congr rfl fun i _ => ?_)
  by_cases hi : i < 4096
  · rw [dif_pos hi, dif_pos hi]
    pointwise [val_main_v7, val_main_v4, val_main_v3]
  · rw [dif_neg hi, dif_neg hi]

/-- The window's mean less the token, from the running sums. -/
theorem pool_core (fin : ∀ n (j : Fin 256), ∃ r : ℝ, x2 (ix2 n ⟨512 + j.val, by omega⟩) = (r : EReal)) (j : Fin 256) (w : ℕ) (hw : w = win j) :
    Ideal.div (val_main_v61 (F := Ideal) x2 (ix3 b s j)
        - (if h : w ≤ s.val then val_main_v61 (F := Ideal) x2 (ix3 b ⟨s.val - w, lt_of_le_of_lt (Nat.sub_le _ _) s.isLt⟩ j) else 0))
        (min ((((s.val : ℝ)) : EReal) + 1) (((w : ℝ)) : EReal)) - x2 (ix2 (tok b s) ⟨512 + j.val, by omega⟩)
      = poolMean (fun n k => x2 (ix2 n k)) (tok b s) j := by
  have hs := s.isLt
  choose f hf using fin
  let g : ℕ → ℝ := fun i => if hi : i < 4096 then f (tok b ⟨i, hi⟩) j else 0
  have V : ∀ t : Fin 4096, val_main_v61 (F := Ideal) x2 (ix3 b t j) = ∑ i ∈ Finset.range (t.val + 1), (g i : EReal) := fun t => by
    have ht := t.isLt
    refine (v61_at x2 b t j).trans (Finset.sum_congr rfl fun i hi => ?_)
    have hi := Finset.mem_range.mp hi
    dsimp only [g]
    rw [dif_pos (show i < 4096 by omega), dif_pos (show i < 4096 by omega), hf]
  unfold poolMean
  refine congrArg (· - _) ?_
  refine congrArg₂ Ideal.div ?_ ?_
  · have D := diff_sum g s.val w
    refine Eq.trans ?_ (D.trans ?_)
    · rw [V s]
      by_cases h : w ≤ s.val
      · rw [dif_pos h, if_pos h, V]
      · rw [dif_neg h, if_neg h]
    · unfold wsum
      rw [← hw]
      refine Finset.sum_congr rfl fun i _ => ?_
      rw [sh_tok]
      by_cases h : i ≤ s.val
      · rw [if_pos h, dif_pos h]
        dsimp only [g]
        rw [dif_pos (show s.val - i < 4096 by omega), hf]
      · rw [if_neg h, dif_neg h]
  · unfold cnt
    rw [← hw, show (tok b s).val % 4096 = s.val by show (b.val * 4096 + s.val) % 4096 = s.val; omega]
    rw [show ((s.val : ℝ) : EReal) + 1 = (((s.val + 1 : ℕ) : ℝ) : EReal) by push_cast; rfl]
    rcases le_total (s.val + 1) w with h | h
    · rw [min_eq_left h, min_eq_left (EReal.coe_le_coe_iff.2 (by exact_mod_cast h))]
    · rw [min_eq_right h, min_eq_right (EReal.coe_le_coe_iff.2 (by exact_mod_cast h))]

theorem nat_at : (FloatOps.sitofp .f32 (BitVec.ofNat 32 s.val) : Ideal .f32) = ((s.val : ℝ) : EReal) := by
  have hs := s.isLt
  show (((BitVec.ofNat 32 s.val).toInt : ℝ) : EReal) = _
  rw [show (BitVec.ofNat 32 s.val).toInt = (s.val : ℤ) by
    rw [BitVec.toInt_eq_toNat_of_lt (by rw [BitVec.toNat_ofNat]; omega), BitVec.toNat_ofNat]; omega]
  norm_cast

theorem word_2 : Ideal.ofBits .f32 0x40000000#32 = (((2 : ℕ) : ℝ) : EReal) := by
  simp [Ideal.ofBits, Ideal.ieee, -EReal.coe_mul]
  norm_num

theorem word_4 : Ideal.ofBits .f32 0x40800000#32 = (((4 : ℕ) : ℝ) : EReal) := by
  simp [Ideal.ofBits, Ideal.ieee, -EReal.coe_mul]
  norm_num

theorem word_8 : Ideal.ofBits .f32 0x41000000#32 = (((8 : ℕ) : ℝ) : EReal) := by
  simp [Ideal.ofBits, Ideal.ieee, -EReal.coe_mul]
  norm_num

theorem word_16 : Ideal.ofBits .f32 0x41800000#32 = (((16 : ℕ) : ℝ) : EReal) := by
  simp [Ideal.ofBits, Ideal.ieee, -EReal.coe_mul]
  norm_num

theorem v75_at (fin : ∀ n (j : Fin 256), ∃ r : ℝ, x2 (ix2 n ⟨512 + j.val, by omega⟩) = (r : EReal)) (k : Fin 64) :
    val_main_v75 (F := Ideal) x2 (ix3 b s k) = poolMean (fun n k => x2 (ix2 n k)) (tok b s) ⟨k.val, by omega⟩ := by
  have hs := s.isLt
  have hk := k.isLt
  refine Eq.trans ?_ (pool_core x2 b s fin ⟨k.val, by omega⟩ 2 (by unfold win; dsimp only; rw [show k.val / 64 = 0 by omega]; rfl))
  pointwise [val_main_v75, val_main_v74, val_main_v73, val_main_v72, val_main_v71, val_main_v70, val_main_v69, val_main_v68, val_main_v67, val_main_v66, val_main_v65, val_main_v64, val_main_v63, val_main_v62, val_main_v7, val_main_v4, val_main_v3,
    val_main_cst_3, val_main_cst_4, val_main_call2_v0, val_main_c_2]
  rw [nat_at, word_2]
  refine congrArg₂ (· - ·) (congrArg₂ Ideal.div (congrArg₂ (· - ·) rfl ?_) rfl) rfl
  by_cases h : 2 ≤ s.val
  · rw [dif_pos h, dif_pos ⟨h, by omega⟩]
  · rw [dif_neg h, dif_neg (fun q => h q.1)]
    exact zero_word

theorem v88_at (fin : ∀ n (j : Fin 256), ∃ r : ℝ, x2 (ix2 n ⟨512 + j.val, by omega⟩) = (r : EReal)) (k : Fin 64) :
    val_main_v88 (F := Ideal) x2 (ix3 b s k) = poolMean (fun n k => x2 (ix2 n k)) (tok b s) ⟨64 + k.val, by omega⟩ := by
  have hs := s.isLt
  have hk := k.isLt
  refine Eq.trans ?_ (pool_core x2 b s fin ⟨64 + k.val, by omega⟩ 4 (by unfold win; dsimp only; rw [show (64 + k.val) / 64 = 1 by omega]; rfl))
  pointwise [val_main_v88, val_main_v87, val_main_v86, val_main_v85, val_main_v84, val_main_v83, val_main_v82, val_main_v81, val_main_v80, val_main_v79, val_main_v78, val_main_v77, val_main_v76, val_main_v62, val_main_v7, val_main_v4, val_main_v3,
    val_main_cst_6, val_main_cst_7, val_main_call3_v0, val_main_c_5]
  rw [nat_at, word_4]
  refine congrArg₂ (· - ·) (congrArg₂ Ideal.div (congrArg₂ (· - ·) rfl ?_) rfl) rfl
  by_cases h : 4 ≤ s.val
  · rw [dif_pos h, dif_pos ⟨h, by omega⟩]
  · rw [dif_neg h, dif_neg (fun q => h q.1)]
    exact zero_word

theorem v101_at (fin : ∀ n (j : Fin 256), ∃ r : ℝ, x2 (ix2 n ⟨512 + j.val, by omega⟩) = (r : EReal)) (k : Fin 64) :
    val_main_v101 (F := Ideal) x2 (ix3 b s k) = poolMean (fun n k => x2 (ix2 n k)) (tok b s) ⟨128 + k.val, by omega⟩ := by
  have hs := s.isLt
  have hk := k.isLt
  refine Eq.trans ?_ (pool_core x2 b s fin ⟨128 + k.val, by omega⟩ 8 (by unfold win; dsimp only; rw [show (128 + k.val) / 64 = 2 by omega]; rfl))
  pointwise [val_main_v101, val_main_v100, val_main_v99, val_main_v98, val_main_v97, val_main_v96, val_main_v95, val_main_v94, val_main_v93, val_main_v92, val_main_v91, val_main_v90, val_main_v89, val_main_v62, val_main_v7, val_main_v4, val_main_v3,
    val_main_cst_9, val_main_cst_10, val_main_call4_v0, val_main_c_8]
  rw [nat_at, word_8]
  refine congrArg₂ (· - ·) (congrArg₂ Ideal.div (congrArg₂ (· - ·) rfl ?_) rfl) rfl
  by_cases h : 8 ≤ s.val
  · rw [dif_pos h, dif_pos ⟨h, by omega⟩]
  · rw [dif_neg h, dif_neg (fun q => h q.1)]
    exact zero_word

theorem v114_at (fin : ∀ n (j : Fin 256), ∃ r : ℝ, x2 (ix2 n ⟨512 + j.val, by omega⟩) = (r : EReal)) (k : Fin 64) :
    val_main_v114 (F := Ideal) x2 (ix3 b s k) = poolMean (fun n k => x2 (ix2 n k)) (tok b s) ⟨192 + k.val, by omega⟩ := by
  have hs := s.isLt
  have hk := k.isLt
  refine Eq.trans ?_ (pool_core x2 b s fin ⟨192 + k.val, by omega⟩ 16 (by unfold win; dsimp only; rw [show (192 + k.val) / 64 = 3 by omega]; rfl))
  pointwise [val_main_v114, val_main_v113, val_main_v112, val_main_v111, val_main_v110, val_main_v109, val_main_v108, val_main_v107, val_main_v106, val_main_v105, val_main_v104, val_main_v103, val_main_v102, val_main_v62, val_main_v7, val_main_v4, val_main_v3,
    val_main_cst_12, val_main_cst_13, val_main_call5_v0, val_main_c_11]
  rw [nat_at, word_16]
  refine congrArg₂ (· - ·) (congrArg₂ Ideal.div (congrArg₂ (· - ·) rfl ?_) rfl) rfl
  by_cases h : 16 ≤ s.val
  · rw [dif_pos h, dif_pos ⟨h, by omega⟩]
  · rw [dif_neg h, dif_neg (fun q => h q.1)]
    exact zero_word

end Cert.Reference2Ideal.RefPool
-- ==== Proof.RefFinal.lean ====
/- The reference program's later stages and its result: at every entry it is `Spec.layer` of the arguments, where the pooled channels are finite. -/
module

public import proofs.«01_k».proof.Proof.RefPool

@[expose] public section

set_option backward.proofsInPublic true
set_option maxRecDepth 16384

noncomputable section

namespace Cert.Reference2Ideal.RefFinal

open Idealize.ShloMosaic Idealize.ShloMosaic.TcCoe Idealize.SL.Sem
open Cert.Reference2Ideal Cert.Reference2Ideal.Gen Cert.Reference2Ideal.Read
open Cert.Spec Cert.Reference2Ideal.RefRow Cert.Reference2Ideal.RefPool

variable (x0 : FVec Ideal S32768x1024 .f32) (x1 : FVec Ideal S32768x512 .bf16) (x2 : FVec Ideal S32768x768 .bf16)
  (x3 : FVec Ideal S4x1024 .f32) (x4 : FVec Ideal S4x1024x5640 .f32) (x5 : FVec Ideal S4x512x1024 .f32) (x6 : FVec Ideal S4x3x256 .f32)
  (x7 : FVec Ideal S4x256x1024 .f32) (x8 : FVec Ideal S4x4x64x256 .f32) (x9 : FVec Ideal S4x1024 .f32) (x10 : FVec Ideal S4x1024x1024 .f32)
  (x11 : FVec Ideal S4x1024 .f32) (x12 : FVec Ideal S4x1024x5632 .f32) (x13 : FVec Ideal S4x2816x1024 .f32)
  (b : Fin 8) (s : Fin 4096)

/-- The convolution branch after its projection. -/
theorem v56_at (k : Fin 1024) : val_main_v56 (F := Ideal) x2 x6 x7 (ix3 b s k)
    = lin (conv (fun n k => x2 (ix2 n k)) (fun q j => x6 (ix3 0 q j)) (tok b s)) (fun j k => x7 (ix3 0 j k)) k := by
  pointwise [val_main_v56, val_main_v55, val_main_v54, lin, v53_at]

/-- The four groups of pooled channels side by side. -/
theorem v119_at (fin : ∀ n (j : Fin 256), ∃ r : ℝ, x2 (ix2 n ⟨512 + j.val, by omega⟩) = (r : EReal)) (g : Fin 4) (c : Fin 64) :
    val_main_v119 (F := Ideal) x2 (ix4 b s g c) = poolMean (fun n k => x2 (ix2 n k)) (tok b s) ⟨g.val * 64 + c.val, by omega⟩ := by
  have h0 := v75_at x2 b s fin c
  have h1 := v88_at x2 b s fin c
  have h2 := v101_at x2 b s fin c
  have h3 := v114_at x2 b s fin c
  fin_cases g
  all_goals pointwise [val_main_v119, val_main_v118, val_main_v117, val_main_v116, val_main_v115]
  · exact h0
  · exact h1
  · exact h2
  · exact h3

/-- The pooled branch. -/
theorem v125_at (fin : ∀ n (j : Fin 256), ∃ r : ℝ, x2 (ix2 n ⟨512 + j.val, by omega⟩) = (r : EReal)) (e : Fin 1024) :
    val_main_v125 (F := Ideal) x2 x8 x9 (ix3 b s e)
      = poolOut (poolMean (fun n k => x2 (ix2 n k)) (tok b s)) (fun g d e => x8 (ix4 0 g d e)) (fun k => x9 (ix2 0 k)) e := by
  pointwise [val_main_v125, val_main_v124, val_main_v123, val_main_v122, val_main_v121, val_main_v120, val_main_v60, val_main_v59,
    val_main_v58, val_main_v57, poolOut]
  refine congrArg (· * _) (Finset.sum_congr rfl fun c _ => ?_)
  rw [v119_at x2 b s fin, mul_comm]

/-- The branches' gates. -/
theorem v131_at (k : Fin 3072) : val_main_v131 (F := Ideal) x0 x3 x4 (ix3 b s k)
    = gate (lin (rms (fun k => x0 (ix2 (tok b s) k)) (fun k => x3 (ix2 0 k))) (fun j k => x4 (ix3 0 j ⟨2568 + k.val, gate_lt k⟩)) k) := by
  pointwise [val_main_v131, val_main_v130, val_main_v129, val_main_v128, val_main_v127, val_main_v126, val_main_cst_14, val_main_cst_15,
    gate, v26_at]

/-- The gated sum of the branches. -/
theorem v143_at (fin : ∀ n (j : Fin 256), ∃ r : ℝ, x2 (ix2 n ⟨512 + j.val, by omega⟩) = (r : EReal)) (k : Fin 1024) :
    val_main_v143 (F := Ideal) x0 x1 x2 x3 x4 x5 x6 x7 x8 x9 (ix3 b s k)
      = merge (rms (fun k => x0 (ix2 (tok b s) k)) (fun k => x3 (ix2 0 k))) (fun j k => x4 (ix3 0 j ⟨2568 + k.val, gate_lt k⟩))
          (lin (fun k => x1 (ix2 (tok b s) k)) (fun j k => x5 (ix3 0 j k)))
          (lin (conv (fun n k => x2 (ix2 n k)) (fun q j => x6 (ix3 0 q j)) (tok b s)) (fun j k => x7 (ix3 0 j k)))
          (poolOut (poolMean (fun n k => x2 (ix2 n k)) (tok b s)) (fun g d e => x8 (ix4 0 g d e)) (fun k => x9 (ix2 0 k))) k := by
  have h125 := v125_at x2 x8 x9 b s fin k
  pointwise [val_main_v143, val_main_v142, val_main_v141, val_main_v140, val_main_v139, val_main_v138, val_main_v137, val_main_v136,
    val_main_v135, val_main_v134, val_main_v133, val_main_v132, merge, v131_at, v29_at, v56_at, h125]

/-- The row after the mixer. -/
theorem v147_at (fin : ∀ n (j : Fin 256), ∃ r : ℝ, x2 (ix2 n ⟨512 + j.val, by omega⟩) = (r : EReal)) (k : Fin 1024) :
    val_main_v147 (F := Ideal) x0 x1 x2 x3 x4 x5 x6 x7 x8 x9 x10 (ix3 b s k) = mix (fun k => x0 (ix2 (tok b s) k)) (fun k => x3 (ix2 0 k)) (fun j k => x4 (ix3 0 j ⟨2568 + k.val, gate_lt k⟩))
      (lin (fun k => x1 (ix2 (tok b s) k)) (fun j k => x5 (ix3 0 j k)))
      (lin (conv (fun n k => x2 (ix2 n k)) (fun q j => x6 (ix3 0 q j)) (tok b s)) (fun j k => x7 (ix3 0 j k)))
      (poolOut (poolMean (fun n k => x2 (ix2 n k)) (tok b s)) (fun g d e => x8 (ix4 0 g d e)) (fun k => x9 (ix2 0 k)))
      (fun j k => x10 (ix3 0 j k)) k := by
  have h : ∀ k, _ := fun k => v143_at x0 x1 x2 x3 x4 x5 x6 x7 x8 x9 b s fin k
  pointwise [val_main_v147, val_main_v146, val_main_v145, val_main_v144, mix, lin, v0_at, h]

/-- The row after the mixer, normalised. -/
theorem v162_at (fin : ∀ n (j : Fin 256), ∃ r : ℝ, x2 (ix2 n ⟨512 + j.val, by omega⟩) = (r : EReal)) (k : Fin 1024) :
    val_main_v162 (F := Ideal) x0 x1 x2 x3 x4 x5 x6 x7 x8 x9 x10 x11 (ix3 b s k) = rms (mix (fun k => x0 (ix2 (tok b s) k)) (fun k => x3 (ix2 0 k)) (fun j k => x4 (ix3 0 j ⟨2568 + k.val, gate_lt k⟩))
      (lin (fun k => x1 (ix2 (tok b s) k)) (fun j k => x5 (ix3 0 j k)))
      (lin (conv (fun n k => x2 (ix2 n k)) (fun q j => x6 (ix3 0 q j)) (tok b s)) (fun j k => x7 (ix3 0 j k)))
      (poolOut (poolMean (fun n k => x2 (ix2 n k)) (tok b s)) (fun g d e => x8 (ix4 0 g d e)) (fun k => x9 (ix2 0 k)))
      (fun j k => x10 (ix3 0 j k))) (fun k => x11 (ix2 0 k)) k := by
  have h : ∀ k, _ := fun k => v147_at x0 x1 x2 x3 x4 x5 x6 x7 x8 x9 x10 b s fin k
  generalize mix (fun k => x0 (ix2 (tok b s) k)) (fun k => x3 (ix2 0 k)) (fun j k => x4 (ix3 0 j ⟨2568 + k.val, gate_lt k⟩))
      (lin (fun k => x1 (ix2 (tok b s) k)) (fun j k => x5 (ix3 0 j k)))
      (lin (conv (fun n k => x2 (ix2 n k)) (fun q j => x6 (ix3 0 q j)) (tok b s)) (fun j k => x7 (ix3 0 j k)))
      (poolOut (poolMean (fun n k => x2 (ix2 n k)) (tok b s)) (fun g d e => x8 (ix4 0 g d e)) (fun k => x9 (ix2 0 k)))
      (fun j k => x10 (ix3 0 j k)) = M at h ⊢
  pointwise [val_main_v162, val_main_v161, val_main_v160, val_main_v159, val_main_v158, val_main_v157, val_main_v156, val_main_v155,
    val_main_v154, val_main_v153, val_main_v152, val_main_v151, val_main_v150, val_main_v149, val_main_v148,
    val_main_cst_16, val_main_cst_17, val_main_cst_18, rms, h]

/-- The hidden units. -/
theorem v169_at (fin : ∀ n (j : Fin 256), ∃ r : ℝ, x2 (ix2 n ⟨512 + j.val, by omega⟩) = (r : EReal)) (k : Fin 2816) :
    val_main_v169 (F := Ideal) x0 x1 x2 x3 x4 x5 x6 x7 x8 x9 x10 x11 x12 (ix3 b s k)
      = hid (rms (mix (fun k => x0 (ix2 (tok b s) k)) (fun k => x3 (ix2 0 k)) (fun j k => x4 (ix3 0 j ⟨2568 + k.val, gate_lt k⟩))
      (lin (fun k => x1 (ix2 (tok b s) k)) (fun j k => x5 (ix3 0 j k)))
      (lin (conv (fun n k => x2 (ix2 n k)) (fun q j => x6 (ix3 0 q j)) (tok b s)) (fun j k => x7 (ix3 0 j k)))
      (poolOut (poolMean (fun n k => x2 (ix2 n k)) (tok b s)) (fun g d e => x8 (ix4 0 g d e)) (fun k => x9 (ix2 0 k)))
      (fun j k => x10 (ix3 0 j k))) (fun k => x11 (ix2 0 k))) (fun j k => x12 (ix3 0 j k)) k := by
  have h : ∀ k, _ := fun k => v162_at x0 x1 x2 x3 x4 x5 x6 x7 x8 x9 x10 x11 b s fin k
  generalize rms (mix (fun k => x0 (ix2 (tok b s) k)) (fun k => x3 (ix2 0 k)) (fun j k => x4 (ix3 0 j ⟨2568 + k.val, gate_lt k⟩))
      (lin (fun k => x1 (ix2 (tok b s) k)) (fun j k => x5 (ix3 0 j k)))
      (lin (conv (fun n k => x2 (ix2 n k)) (fun q j => x6 (ix3 0 q j)) (tok b s)) (fun j k => x7 (ix3 0 j k)))
      (poolOut (poolMean (fun n k => x2 (ix2 n k)) (tok b s)) (fun g d e => x8 (ix4 0 g d e)) (fun k => x9 (ix2 0 k)))
      (fun j k => x10 (ix3 0 j k))) (fun k => x11 (ix2 0 k)) = M at h ⊢
  pointwise [val_main_v169, val_main_v168, val_main_v167, val_main_v166, val_main_v165, val_main_v164, val_main_v163, val_main_call6_v0,
    val_main_call6_v1, val_main_call6_v2, val_main_call6_v3, val_main_call6_v4, val_main_call6_v5, val_main_call6_cst, val_main_call6_cst_0,
    hid, gate, lin, h]

/-- The result in the sequences' own numbering. -/
theorem v173_at (fin : ∀ n (j : Fin 256), ∃ r : ℝ, x2 (ix2 n ⟨512 + j.val, by omega⟩) = (r : EReal)) (k : Fin 1024) :
    val_main_v173 (F := Ideal) x0 x1 x2 x3 x4 x5 x6 x7 x8 x9 x10 x11 x12 x13 (ix3 b s k)
      = ffn (mix (fun k => x0 (ix2 (tok b s) k)) (fun k => x3 (ix2 0 k)) (fun j k => x4 (ix3 0 j ⟨2568 + k.val, gate_lt k⟩))
      (lin (fun k => x1 (ix2 (tok b s) k)) (fun j k => x5 (ix3 0 j k)))
      (lin (conv (fun n k => x2 (ix2 n k)) (fun q j => x6 (ix3 0 q j)) (tok b s)) (fun j k => x7 (ix3 0 j k)))
      (poolOut (poolMean (fun n k => x2 (ix2 n k)) (tok b s)) (fun g d e => x8 (ix4 0 g d e)) (fun k => x9 (ix2 0 k)))
      (fun j k => x10 (ix3 0 j k))) (fun k => x11 (ix2 0 k)) (fun j k => x12 (ix3 0 j k)) (fun j k => x13 (ix3 0 j k)) k := by
  have h : ∀ k, _ := fun k => v169_at x0 x1 x2 x3 x4 x5 x6 x7 x8 x9 x10 x11 x12 b s fin k
  have h' : ∀ k, _ := fun k => v147_at x0 x1 x2 x3 x4 x5 x6 x7 x8 x9 x10 b s fin k
  generalize mix (fun k => x0 (ix2 (tok b s) k)) (fun k => x3 (ix2 0 k)) (fun j k => x4 (ix3 0 j ⟨2568 + k.val, gate_lt k⟩))
      (lin (fun k => x1 (ix2 (tok b s) k)) (fun j k => x5 (ix3 0 j k)))
      (lin (conv (fun n k => x2 (ix2 n k)) (fun q j => x6 (ix3 0 q j)) (tok b s)) (fun j k => x7 (ix3 0 j k)))
      (poolOut (poolMean (fun n k => x2 (ix2 n k)) (tok b s)) (fun g d e => x8 (ix4 0 g d e)) (fun k => x9 (ix2 0 k)))
      (fun j k => x10 (ix3 0 j k)) = M at h h' ⊢
  pointwise [val_main_v173, val_main_v172, val_main_v171, val_main_v170, ffn, lin, h, h']

/-- Every entry of the result. -/
theorem v174_at (fin : ∀ n (j : Fin 256), ∃ r : ℝ, x2 (ix2 n ⟨512 + j.val, by omega⟩) = (r : EReal)) (n : Fin 32768) (e : Fin 1024) :
    val_main_v174 (F := Ideal) x0 x1 x2 x3 x4 x5 x6 x7 x8 x9 x10 x11 x12 x13 (ix2 n e)
      = layer (fun n k => x0 (ix2 n k)) (fun n k => x1 (ix2 n k)) (fun n k => x2 (ix2 n k)) (fun k => x3 (ix2 0 k))
          (fun j k => x4 (ix3 0 j ⟨2568 + k.val, gate_lt k⟩)) (fun j k => x5 (ix3 0 j k)) (fun q j => x6 (ix3 0 q j))
          (fun j k => x7 (ix3 0 j k)) (fun g d e => x8 (ix4 0 g d e)) (fun k => x9 (ix2 0 k)) (fun j k => x10 (ix3 0 j k))
          (fun k => x11 (ix2 0 k)) (fun j k => x12 (ix3 0 j k)) (fun j k => x13 (ix3 0 j k)) n e := by
  have hn := n.isLt
  obtain ⟨b, s, rfl⟩ : ∃ (b : Fin 8) (s : Fin 4096), n = tok b s :=
    ⟨⟨n.val / 4096, by omega⟩, ⟨n.val % 4096, by omega⟩, Fin.ext (by show n.val = n.val / 4096 * 4096 + n.val % 4096; omega)⟩
  refine Eq.trans ?_ (v173_at x0 x1 x2 x3 x4 x5 x6 x7 x8 x9 x10 x11 x12 x13 b s fin e)
  have hs := s.isLt
  have q1 : (b.val * 4096 + s.val) / 4096 = b.val := by omega
  have q2 : (b.val * 4096 + s.val) % 4096 = s.val := by omega
  pointwise [val_main_v174]
  exact congrArg (val_main_v173 (F := Ideal) x0 x1 x2 x3 x4 x5 x6 x7 x8 x9 x10 x11 x12 x13) (congrArg₂ (fun p q => ix3 p q e) (Fin.ext q1) (Fin.ext q2))

end Cert.Reference2Ideal.RefFinal

end
-- ==== Proof.Pre2.lean ====
/- What the precondition of the second program says: the pooled channels' inputs are real numbers. -/
module

public import proofs.«01_k».proof.Proof.Finite
public import proofs.«01_k».proof.Proof.Gen.Pre_pool_finite

@[expose] public section

set_option backward.proofsInPublic true

noncomputable section

namespace Cert.Pre2

open Idealize.ShloMosaic Cert.Pre_pool_finite Cert.Pre_pool_finite.Gen

theorem pooled_real (a0 : FVec Ideal S32768x1024 .f32) (a1 : FVec Ideal S32768x512 .bf16) (a2 : FVec Ideal S32768x768 .bf16)
    (a3 : FVec Ideal S4x1024 .f32) (a4 : FVec Ideal S4x1024x5640 .f32) (a5 : FVec Ideal S4x512x1024 .f32) (a6 : FVec Ideal S4x3x256 .f32)
    (a7 : FVec Ideal S4x256x1024 .f32) (a8 : FVec Ideal S4x4x64x256 .f32) (a9 : FVec Ideal S4x1024 .f32) (a10 : FVec Ideal S4x1024x1024 .f32)
    (a11 : FVec Ideal S4x1024 .f32) (a12 : FVec Ideal S4x1024x5632 .f32) (a13 : FVec Ideal S4x2816x1024 .f32) (j0 : S_.Idx)
    (h : fn (F := Ideal) a0 a1 a2 a3 a4 a5 a6 a7 a8 a9 a10 a11 a12 a13 j0 = 1#1) (n : Fin 32768) (j : Fin 256) :
    ∃ r : ℝ, a2 (ix2 n ⟨512 + j.val, by omega⟩) = (r : EReal) := by
  have q := Finite.all_one _ _ _ _ _ j0 h (ix2 n j)
  refine Finite.real_of_lt _ (Eq.trans ?_ q)
  refine congrArg (fun e => Ideal.cmp .olt (max e (-e)) (Ideal.ofBits .f32 0x7F800000#32)) ?_
  pointwise []

end Cert.Pre2

end
-- ==== Proof.Match2.lean ====
/- The second kernel and its reference compute the same array: both results are `Spec.layer` of the arguments. -/
module

public import proofs.«01_k».proof.Defs
public import proofs.«01_k».proof.Proof.KFinal
public import proofs.«01_k».proof.Proof.RefFinal
public import proofs.«01_k».proof.Proof.Pre2
public import proofs.«01_k».proof.Proof.Gen.Kernel2
public import proofs.«01_k».proof.Proof.Gen.Reference2Ideal.Run

@[expose] public section

set_option backward.proofsInPublic true
set_option maxRecDepth 16384

noncomputable section

namespace Cert.Match2

open Idealize.ShloMosaic Idealize.ShloMosaic.TcCoe Idealize.SL.Sem

attribute [local instance] Cert.Kernel2Ideal.Gen.facts Cert.Reference2Ideal.Gen.facts Cert.Pre_pool_finite.Gen.facts

/-- The reference's result array is the kernel's. -/
theorem result (m : (ℓ : Loc Kernel2Ideal.nD Kernel2Ideal.τ Kernel2Ideal.sig) → Buf (Elt Ideal) ℓ) (hpre : Pre_Kernel2Ideal_pool_finite m) (c : Dev Kernel2Ideal.nD) :
    Reference2Ideal.Read.val_main_v174 (F := Ideal) (m ((c : Thread Kernel2Ideal.nD Kernel2Ideal.τ).loc Kernel2Ideal.main_arg0))
        (m ((c : Thread Kernel2Ideal.nD Kernel2Ideal.τ).loc Kernel2Ideal.main_arg1)) (m ((c : Thread Kernel2Ideal.nD Kernel2Ideal.τ).loc Kernel2Ideal.main_arg2))
        (m ((c : Thread Kernel2Ideal.nD Kernel2Ideal.τ).loc Kernel2Ideal.main_arg3)) (m ((c : Thread Kernel2Ideal.nD Kernel2Ideal.τ).loc Kernel2Ideal.main_arg4))
        (m ((c : Thread Kernel2Ideal.nD Kernel2Ideal.τ).loc Kernel2Ideal.main_arg5)) (m ((c : Thread Kernel2Ideal.nD Kernel2Ideal.τ).loc Kernel2Ideal.main_arg6))
        (m ((c : Thread Kernel2Ideal.nD Kernel2Ideal.τ).loc Kernel2Ideal.main_arg7)) (m ((c : Thread Kernel2Ideal.nD Kernel2Ideal.τ).loc Kernel2Ideal.main_arg8))
        (m ((c : Thread Kernel2Ideal.nD Kernel2Ideal.τ).loc Kernel2Ideal.main_arg9)) (m ((c : Thread Kernel2Ideal.nD Kernel2Ideal.τ).loc Kernel2Ideal.main_arg10))
        (m ((c : Thread Kernel2Ideal.nD Kernel2Ideal.τ).loc Kernel2Ideal.main_arg11)) (m ((c : Thread Kernel2Ideal.nD Kernel2Ideal.τ).loc Kernel2Ideal.main_arg12))
        (m ((c : Thread Kernel2Ideal.nD Kernel2Ideal.τ).loc Kernel2Ideal.main_arg13))
      = (Kernel2Ideal.Gen.dats m 0 c).arrAt 15 (Kernel2Ideal.cfgs 0).N := by
  have fin := Pre2.pooled_real _ _ _ _ _ _ _ _ _ _ _ _ _ _ (fun a => a.elim0) (congrFun (hpre c) _)
  refine Eq.trans (funext fun i => ?_) (Kernel2Ideal.KFinal.final m c).symm
  refine (congrArg _ (eq_ix2 i)).trans ?_
  exact Reference2Ideal.RefFinal.v174_at _ _ _ _ _ _ _ _ _ _ _ _ _ _ fin (i 0) (i 1)

theorem algebraic : algebraic_Kernel2Ideal_Reference2Ideal_pre_pool_finite := by
  pair_intro
  · run_from (Kernel2Ideal.Value.run_blocks m g)
  · refine θ_run_mono (Reference2Ideal.Value.run m' g') ?_
    intro r h c
    obtain ⟨a0, a1, a2, a3, a4, a5, a6, a7, a8, a9, a10, a11, a12, a13⟩ := hagree c
    refine ⟨((h c).1.trans (Reference2Ideal.Read.val_main_v174_eq (StableHlo.launchContents m' c))).trans ?_, (h c).2⟩
    refine Eq.trans ?_ (result m hpre c)
    rw [← a0, ← a1, ← a2, ← a3, ← a4, ← a5, ← a6, ← a7, ← a8, ← a9, ← a10, ← a11, ← a12, ← a13]

/-- The reference's run leaves its arguments and every counter as the claim says. -/
theorem frame_reference : quiescent_Reference2Ideal := fun m ρ _ =>
  (θ_run Reference2Ideal.defs _ _).mono (fun r h => ⟨fun c => (h c).2, sem_eq_zero_of_no_sems (by decide) r.2⟩) (Reference2Ideal.Value.run m ρ)

end Cert.Match2

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_attn_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_pool_finite
public import proofs.«01_k».proof.Proof.Gen.Kernel2Ideal.Value
public import proofs.«01_k».proof.Proof.Gen.Reference2Ideal.Run
public import proofs.«01_k».proof.Proof.Gen.Reference2Ideal.Read
public import proofs.«01_k».proof.Proof.MatchAttn
public import proofs.«01_k».proof.Proof.Match2
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_attn_finite.Gen.facts, Cert.Pre_pool_finite.Gen.facts,
  fun m ρ _ => Cert.Kernel.Gen.frame m ρ,
  fun m ρ _ => Cert.KernelIdeal.Gen.frame m ρ,
  fun m ρ _ => Cert.KernelIdeal.Gen.frame m ρ,
  Cert.MatchAttn.frame_reference,
  fun m ρ _ => Cert.MatchAttn.frame_reference m ρ trivial,
  fun m ρ _ => Cert.Kernel2.Gen.frame m ρ,
  fun m ρ _ => Cert.Kernel2Ideal.Gen.frame m ρ,
  fun m ρ _ => Cert.Kernel2Ideal.Gen.frame m ρ,
  Cert.Match2.frame_reference,
  fun m ρ _ => Cert.Match2.frame_reference m ρ trivial,
  IdealRules.named_const.statement Cert.KernelIdeal.κ "mask" .f32 0xF149F2CA#32 ⊥ rfl,
  Cert.MatchAttn.algebraic,
  trivial,
  Cert.Match2.algebraic⟩

end Cert.Proof

end
